-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_latent_finite [hPre_latent_finite : Cert.Pre_latent_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_latent_finite.fn (F := Ideal) (m ((c.tc : Thread Cert.Kernel5Ideal.nD Cert.Kernel5Ideal.τ).loc Cert.Kernel5Ideal.main_arg0))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_latent_finite [hPre_latent_finite : Cert.Pre_latent_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_latent_finite.fn (F := Ideal) (m ((c.tc : Thread Cert.Reference5Ideal.nD Cert.Reference5Ideal.τ).loc Cert.Reference5Ideal.main_arg0))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_queries_keys_finite [hPre_queries_keys_finite : Cert.Pre_queries_keys_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_queries_keys_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_queries_keys_finite [hPre_queries_keys_finite : Cert.Pre_queries_keys_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_queries_keys_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Kernel5Ideal_pre_latent_finite [hKernel5Ideal : Cert.Kernel5Ideal.Facts] [hPre_latent_finite : Cert.Pre_latent_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_latent_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Reference5Ideal_pre_latent_finite [hReference5Ideal : Cert.Reference5Ideal.Facts] [hPre_latent_finite : Cert.Pre_latent_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_latent_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_queries_keys_finite [hKernel7Ideal : Cert.Kernel7Ideal.Facts] [hPre_queries_keys_finite : Cert.Pre_queries_keys_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_queries_keys_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_queries_keys_finite [hReference7Ideal : Cert.Reference7Ideal.Facts] [hPre_queries_keys_finite : Cert.Pre_queries_keys_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_queries_keys_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)) (v4 : (c : Dev Cert.Kernel4Ideal.nD) → Buf (Elt Ideal) ((c.tc : Thread Cert.Kernel4Ideal.nD Cert.Kernel4Ideal.τ).loc Cert.Kernel4Ideal.main_v2_4)) (v5 : (c : Dev Cert.Kernel4Ideal.nD) → Buf (Elt Ideal) ((c.tc : Thread Cert.Kernel4Ideal.nD Cert.Kernel4Ideal.τ).loc Cert.Kernel4Ideal.main_v2_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_v2_4) = v4 c
          ∧ r.2.mem ((c.tc : Thread Cert.Kernel4Ideal.nD Cert.Kernel4Ideal.τ).loc Cert.Kernel4Ideal.main_v2_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_v42) = v2 c
          ∧ r.2.mem ((c.tc : Thread Cert.Reference4Ideal.nD Cert.Reference4Ideal.τ).loc Cert.Reference4Ideal.main_v43) = v3 c
          ∧ r.2.mem ((c.tc : Thread Cert.Reference4Ideal.nD Cert.Reference4Ideal.τ).loc Cert.Reference4Ideal.main_v44) = v4 c
          ∧ r.2.mem ((c.tc : Thread Cert.Reference4Ideal.nD Cert.Reference4Ideal.τ).loc Cert.Reference4Ideal.main_v45) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "inv_sqrt_n" .f32 0x3AB504F3#32 (((Real.sqrt 524288)⁻¹ : ℝ) : EReal)

def algebraic_Kernel5Ideal_Reference5Ideal_pre_latent_finite [hKernel5Ideal : Cert.Kernel5Ideal.Facts] [hReference5Ideal : Cert.Reference5Ideal.Facts] [hPre_latent_finite : Cert.Pre_latent_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_latent_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v70)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v70) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_queries_keys_finite [hKernel7Ideal : Cert.Kernel7Ideal.Facts] [hReference7Ideal : Cert.Reference7Ideal.Facts] [hPre_queries_keys_finite : Cert.Pre_queries_keys_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_queries_keys_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_latent_finite : Cert.Pre_latent_finite.Facts) (hPre_queries_keys_finite : Cert.Pre_queries_keys_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_latent_finite (hKernel5Ideal := hKernel5Ideal) (hPre_latent_finite := hPre_latent_finite)
    ∧ quiescent_Reference5Ideal (hReference5Ideal := hReference5Ideal)
    ∧ quiescent_Reference5Ideal_pre_latent_finite (hReference5Ideal := hReference5Ideal) (hPre_latent_finite := hPre_latent_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_queries_keys_finite (hKernel7Ideal := hKernel7Ideal) (hPre_queries_keys_finite := hPre_queries_keys_finite)
    ∧ quiescent_Reference7Ideal (hReference7Ideal := hReference7Ideal)
    ∧ quiescent_Reference7Ideal_pre_queries_keys_finite (hReference7Ideal := hReference7Ideal) (hPre_queries_keys_finite := hPre_queries_keys_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_latent_finite (hKernel5Ideal := hKernel5Ideal) (hReference5Ideal := hReference5Ideal) (hPre_latent_finite := hPre_latent_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_queries_keys_finite (hKernel7Ideal := hKernel7Ideal) (hReference7Ideal := hReference7Ideal) (hPre_queries_keys_finite := hPre_queries_keys_finite)
-- ==== Pre_latent_finite.lean ====
abbrev S4x8192x256 : Shape := ⟨3, ![4, 8192, 256]⟩
abbrev S_ : Shape := ⟨0, ![]⟩

class Facts : Prop where
  bitsLt_bf16_f32 : FTy.bits .bf16 < FTy.bits .f32
  bcast_S_S4x8192x256 : S_.BroadcastsInDim S4x8192x256 (![] : Fin 0 → Fin S4x8192x256.rank)
  reducesTo_S4x8192x256_S_d0_1_2 : S4x8192x256.ReducesTo [0, 1, 2] S_
  h_S_ : 0 < S_.numel

variable [Facts]

def fn {F : FTy → Type} [FloatOps F] (main_arg0 : FVec F S4x8192x256 .bf16) : IVec S_ 1 :=
  let main_v0 : FVec F S4x8192x256 .f32 := (extf .f32 · bitsLt_bf16_f32) main_arg0
  let main_v1 : FVec F S4x8192x256 .f32 := Host.absf main_v0
  let main_cst : FVec F S_ .f32 := constant S_ .f32 0x7F800000#32
  let main_v2 : FVec F S4x8192x256 .f32 := broadcastInDim S4x8192x256 ![] bcast_S_S4x8192x256 main_cst
  let main_v3 : IVec S4x8192x256 1 := cmpf .olt main_v1 main_v2
  let main_c : IVec S_ 1 := constantI S_ 1 1#1
  let main_v4 : IVec S_ 1 := (fun x v => Host.reduce IntOp.andi x v reducesTo_S4x8192x256_S_d0_1_2 h_S_) main_v3 main_c
  main_v4
-- ==== Pre_queries_keys_finite.lean ====
abbrev S4x256x512 : Shape := ⟨3, ![4, 256, 512]⟩
abbrev S_ : Shape := ⟨0, ![]⟩

class Facts : Prop where
  bitsLt_bf16_f32 : FTy.bits .bf16 < FTy.bits .f32
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel

variable [Facts]

def fn {F : FTy → Type} [FloatOps F] (main_arg0 : FVec F S4x256x512 .bf16) (main_arg1 : FVec F S4x256x512 .bf16) (main_arg2 : FVec F S4x256x512 .bf16) : IVec S_ 1 :=
  let main_v0 : FVec F S4x256x512 .f32 := (extf .f32 · bitsLt_bf16_f32) main_arg0
  let main_v1 : FVec F S4x256x512 .f32 := Host.absf main_v0
  let main_cst : FVec F S_ .f32 := constant S_ .f32 0x7F800000#32
  let main_v2 : FVec F S4x256x512 .f32 := broadcastInDim S4x256x512 ![] bcast_S_S4x256x512 main_cst
  let main_v3 : IVec S4x256x512 1 := cmpf .olt main_v1 main_v2
  let main_c : IVec S_ 1 := constantI S_ 1 1#1
  let main_v4 : IVec S_ 1 := (fun x v => Host.reduce IntOp.andi x v reducesTo_S4x256x512_S_d0_1_2 h_S_) main_v3 main_c
  let main_v5 : FVec F S4x256x512 .f32 := (extf .f32 · bitsLt_bf16_f32) main_arg1
  let main_v6 : FVec F S4x256x512 .f32 := Host.absf main_v5
  let main_cst_0 : FVec F S_ .f32 := constant S_ .f32 0x7F800000#32
  let main_v7 : FVec F S4x256x512 .f32 := broadcastInDim S4x256x512 ![] bcast_S_S4x256x512 main_cst_0
  let main_v8 : IVec S4x256x512 1 := cmpf .olt main_v6 main_v7
  let main_c_1 : IVec S_ 1 := constantI S_ 1 1#1
  let main_v9 : IVec S_ 1 := (fun x v => Host.reduce IntOp.andi x v reducesTo_S4x256x512_S_d0_1_2 h_S_) main_v8 main_c_1
  let main_v10 : IVec S_ 1 := andi main_v4 main_v9
  main_v10
-- ==== Kernel.lean ====
abbrev S4x8192x1024 : Shape := ⟨3, ![4, 8192, 1024]⟩
abbrev S2x8x6x1024 : Shape := ⟨4, ![2, 8, 6, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S2x1x1024 : Shape := ⟨3, ![2, 1, 1024]⟩
abbrev S1x1024x1024 : Shape := ⟨3, ![1, 1024, 1024]⟩
abbrev S1x1x6x1024 : Shape := ⟨4, ![1, 1, 6, 1024]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S1x1x1x1024 : Shape := ⟨4, ![1, 1, 1, 1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S2x8x6x1024, .f32⟩
  | .hbm, ⟨2, _⟩ => ⟨S2x1024, .f32⟩
  | .hbm, ⟨3, _⟩ => ⟨S2x1024x4096, .f32⟩
  | .hbm, ⟨4, _⟩ => ⟨S2x4096x1024, .f32⟩
  | .hbm, ⟨5, _⟩ => ⟨S1024, .f32⟩
  | .hbm, ⟨6, _⟩ => ⟨S1x1024, .f32⟩
  | .hbm, ⟨7, _⟩ => ⟨S2x1x1024, .f32⟩
  | .hbm, ⟨8, _⟩ => ⟨S2x1024x4096, .bf16⟩
  | .hbm, ⟨9, _⟩ => ⟨S2x4096x1024, .bf16⟩
  | .hbm, ⟨10, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1x1024, .f32⟩
  | .local _ .vmem, ⟨5, _⟩ => ⟨S1x1024x4096, .bf16⟩
  | .local _ .vmem, ⟨6, _⟩ => ⟨S1x4096x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x8192x1024 : Shape := ⟨3, ![4, 8192, 1024]⟩
abbrev S2x8x6x1024 : Shape := ⟨4, ![2, 8, 6, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x4x1x1024 : Shape := ⟨4, ![1, 4, 1, 1024]⟩
abbrev S4x1024 : Shape := ⟨2, ![4, 1024]⟩
abbrev S4x1x1024 : Shape := ⟨3, ![4, 1, 1024]⟩
abbrev S1x1024 : Shape := ⟨2, ![1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x8192x4096 : Shape := ⟨3, ![4, 8192, 4096]⟩

abbrev nBuf : Space → Nat
  | .hbm => 69
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x8x6x1024, .f32⟩
  | .hbm, ⟨2, _⟩ => ⟨S2x1024, .f32⟩
  | .hbm, ⟨3, _⟩ => ⟨S2x1024x4096, .f32⟩
  | .hbm, ⟨4, _⟩ => ⟨S2x4096x1024, .f32⟩
  | .hbm, ⟨5, _⟩ => ⟨S1024, .f32⟩
  | .hbm, ⟨6, _⟩ => ⟨S1x4x1x1024, .f32⟩
  | .hbm, ⟨7, _⟩ => ⟨S4x1024, .f32⟩
  | .hbm, ⟨8, _⟩ => ⟨S4x1x1024, .f32⟩
  | .hbm, ⟨9, _⟩ => ⟨S1x4x1x1024, .f32⟩
  | .hbm, ⟨10, _⟩ => ⟨S4x1024, .f32⟩
  | .hbm, ⟨11, _⟩ => ⟨S4x1x1024, .f32⟩
  | .hbm, ⟨12, _⟩ => ⟨S1x4x1x1024, .f32⟩
  | .hbm, ⟨13, _⟩ => ⟨S4x1024, .f32⟩
  | .hbm, ⟨14, _⟩ => ⟨S4x1x1024, .f32⟩
  | .hbm, ⟨15, _⟩ => ⟨S1x1024, .f32⟩
  | .hbm, ⟨16, _⟩ => ⟨S1024, .f32⟩
  | .hbm, ⟨17, _⟩ => ⟨S4x8192x1024, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S4x8192x1024, .f32⟩
  | .hbm, ⟨29, _⟩ => ⟨S4x8192x1024, .f32⟩
  | .hbm, ⟨30, _⟩ => ⟨S1x1x1024, .f32⟩
  | .hbm, ⟨31, _⟩ => ⟨S4x8192x1024, .f32⟩
  | .hbm, ⟨32, _⟩ => ⟨S4x8192x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x8192x1024, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S1x1024x4096, .f32⟩
  | .hbm, ⟨41, _⟩ => ⟨S1024x4096, .f32⟩
  | .hbm, ⟨42, _⟩ => ⟨S1x4096x1024, .f32⟩
  | .hbm, ⟨43, _⟩ => ⟨S4096x1024, .f32⟩
  | .hbm, ⟨44, _⟩ => ⟨S4x8192x4096, .f32⟩
  | .hbm, ⟨45, _⟩ => ⟨S_, .f32⟩
  | .hbm, ⟨46, _⟩ => ⟨S4x8192x4096, .f32⟩
  | .hbm, ⟨47, _⟩ => ⟨S4x8192x4096, .f32⟩
  | .hbm, ⟨48, _⟩ => ⟨S4x8192x4096, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S_, .f32⟩
  | .hbm, ⟨55, _⟩ => ⟨S4x8192, .f32⟩
  | .hbm, ⟨56, _⟩ => ⟨S4x8192x1, .f32⟩
  | .hbm, ⟨57, _⟩ => ⟨S_, .f32⟩
  | .hbm, ⟨58, _⟩ => ⟨S4x8192x1, .f32⟩
  | .hbm, ⟨59, _⟩ => ⟨S4x8192x1, .f32⟩
  | .hbm, ⟨60, _⟩ => ⟨S_, .f32⟩
  | .hbm, ⟨61, _⟩ => ⟨S4x8192x1, .f32⟩
  | .hbm, ⟨62, _⟩ => ⟨S4x8192x1, .f32⟩
  | .hbm, ⟨63, _⟩ => ⟨S4x8192x1, .f32⟩
  | .hbm, ⟨64, _⟩ => ⟨S4x8192x1024, .f32⟩
  | .hbm, ⟨65, _⟩ => ⟨S4x8192x1024, .f32⟩
  | .hbm, ⟨66, _⟩ => ⟨S1x1x1024, .f32⟩
  | .hbm, ⟨67, _⟩ => ⟨S4x8192x1024, .f32⟩
  | .hbm, ⟨68, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_cst : Ref sig .tc := ⟨.hbm, 45, rfl⟩
abbrev main_call0_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Kernel2.lean ====
abbrev S4x8192x1024 : Shape := ⟨3, ![4, 8192, 1024]⟩
abbrev S2x8x6x1024 : Shape := ⟨4, ![2, 8, 6, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S2x1x1024 : Shape := ⟨3, ![2, 1, 1024]⟩
abbrev S1x1024x1024 : Shape := ⟨3, ![1, 1024, 1024]⟩
abbrev S1x1x6x1024 : Shape := ⟨4, ![1, 1, 6, 1024]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S1x1x1x1024 : Shape := ⟨4, ![1, 1, 1, 1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S2x8x6x1024, .f32⟩
  | .hbm, ⟨2, _⟩ => ⟨S2x1024, .f32⟩
  | .hbm, ⟨3, _⟩ => ⟨S2x1024x4096, .f32⟩
  | .hbm, ⟨4, _⟩ => ⟨S2x4096x1024, .f32⟩
  | .hbm, ⟨5, _⟩ => ⟨S1024, .f32⟩
  | .hbm, ⟨6, _⟩ => ⟨S1x1024, .f32⟩
  | .hbm, ⟨7, _⟩ => ⟨S2x1x1024, .f32⟩
  | .hbm, ⟨8, _⟩ => ⟨S2x1024x4096, .bf16⟩
  | .hbm, ⟨9, _⟩ => ⟨S2x4096x1024, .bf16⟩
  | .hbm, ⟨10, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1x1024, .f32⟩
  | .local _ .vmem, ⟨5, _⟩ => ⟨S1x1024x4096, .bf16⟩
  | .local _ .vmem, ⟨6, _⟩ => ⟨S1x4096x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S4x8192x1024 : Shape := ⟨3, ![4, 8192, 1024]⟩
abbrev S2x8x6x1024 : Shape := ⟨4, ![2, 8, 6, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x4x1x1024 : Shape := ⟨4, ![1, 4, 1, 1024]⟩
abbrev S4x1024 : Shape := ⟨2, ![4, 1024]⟩
abbrev S4x1x1024 : Shape := ⟨3, ![4, 1, 1024]⟩
abbrev S1x1024 : Shape := ⟨2, ![1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x8192x4096 : Shape := ⟨3, ![4, 8192, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x8x6x1024, .f32⟩
  | .hbm, ⟨2, _⟩ => ⟨S2x1024, .f32⟩
  | .hbm, ⟨3, _⟩ => ⟨S2x1024x4096, .f32⟩
  | .hbm, ⟨4, _⟩ => ⟨S2x4096x1024, .f32⟩
  | .hbm, ⟨5, _⟩ => ⟨S1024, .f32⟩
  | .hbm, ⟨6, _⟩ => ⟨S1x4x1x1024, .f32⟩
  | .hbm, ⟨7, _⟩ => ⟨S4x1024, .f32⟩
  | .hbm, ⟨8, _⟩ => ⟨S4x1x1024, .f32⟩
  | .hbm, ⟨9, _⟩ => ⟨S1x4x1x1024, .f32⟩
  | .hbm, ⟨10, _⟩ => ⟨S4x1024, .f32⟩
  | .hbm, ⟨11, _⟩ => ⟨S4x1x1024, .f32⟩
  | .hbm, ⟨12, _⟩ => ⟨S1x4x1x1024, .f32⟩
  | .hbm, ⟨13, _⟩ => ⟨S4x1024, .f32⟩
  | .hbm, ⟨14, _⟩ => ⟨S4x1x1024, .f32⟩
  | .hbm, ⟨15, _⟩ => ⟨S1x1024, .f32⟩
  | .hbm, ⟨16, _⟩ => ⟨S1024, .f32⟩
  | .hbm, ⟨17, _⟩ => ⟨S4x8192x1024, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S4x8192x1024, .f32⟩
  | .hbm, ⟨29, _⟩ => ⟨S4x8192x1024, .f32⟩
  | .hbm, ⟨30, _⟩ => ⟨S1x1x1024, .f32⟩
  | .hbm, ⟨31, _⟩ => ⟨S4x8192x1024, .f32⟩
  | .hbm, ⟨32, _⟩ => ⟨S4x8192x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x8192x1024, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S1x1024x4096, .f32⟩
  | .hbm, ⟨41, _⟩ => ⟨S1024x4096, .f32⟩
  | .hbm, ⟨42, _⟩ => ⟨S1x4096x1024, .f32⟩
  | .hbm, ⟨43, _⟩ => ⟨S4096x1024, .f32⟩
  | .hbm, ⟨44, _⟩ => ⟨S4x8192x4096, .f32⟩
  | .hbm, ⟨45, _⟩ => ⟨S_, .f32⟩
  | .hbm, ⟨46, _⟩ => ⟨S4x8192x4096, .f32⟩
  | .hbm, ⟨47, _⟩ => ⟨S4x8192x4096, .f32⟩
  | .hbm, ⟨48, _⟩ => ⟨S4x8192x4096, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_cst : Ref sig .tc := ⟨.hbm, 45, rfl⟩
abbrev main_call0_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel3.lean ====
abbrev S4x8192x1024 : Shape := ⟨3, ![4, 8192, 1024]⟩
abbrev S2x8x6x1024 : Shape := ⟨4, ![2, 8, 6, 1024]⟩
abbrev S4x8192x256 : Shape := ⟨3, ![4, 8192, 256]⟩
abbrev S8192x1024 : Shape := ⟨2, ![8192, 1024]⟩
abbrev S4x8192x512 : Shape := ⟨3, ![4, 8192, 512]⟩
abbrev S2x16x16 : Shape := ⟨3, ![2, 16, 16]⟩
abbrev S2x256x256 : Shape := ⟨3, ![2, 256, 256]⟩
abbrev S2x1024x5120 : Shape := ⟨3, ![2, 1024, 5120]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S2x1x256 : Shape := ⟨3, ![2, 1, 256]⟩
abbrev S1x1024x1024 : Shape := ⟨3, ![1, 1024, 1024]⟩
abbrev S1x1x6x1024 : Shape := ⟨4, ![1, 1, 6, 1024]⟩
abbrev S1x1024x256 : Shape := ⟨3, ![1, 1024, 256]⟩
abbrev S1024x256 : Shape := ⟨2, ![1024, 256]⟩
abbrev S1x1024x512 : Shape := ⟨3, ![1, 1024, 512]⟩
abbrev S1x1x256 : Shape := ⟨3, ![1, 1, 256]⟩
abbrev S1x256x256 : Shape := ⟨3, ![1, 256, 256]⟩
abbrev S1x256x1024 : Shape := ⟨3, ![1, 256, 1024]⟩
abbrev S1x512x1024 : Shape := ⟨3, ![1, 512, 1024]⟩
abbrev S1024x1024 : Shape := ⟨2, ![1024, 1024]⟩
abbrev S1x256 : Shape := ⟨2, ![1, 256]⟩
abbrev S256x256 : Shape := ⟨2, ![256, 256]⟩
abbrev S256x1024 : Shape := ⟨2, ![256, 1024]⟩
abbrev S1024x512 : Shape := ⟨2, ![1024, 512]⟩
abbrev S512x1024 : Shape := ⟨2, ![512, 1024]⟩
abbrev S1x1x1x1024 : Shape := ⟨4, ![1, 1, 1, 1024]⟩
abbrev S1x1024 : Shape := ⟨2, ![1, 1024]⟩

abbrev nBuf : Space → Nat
  | .hbm => 23
  | .vmem => 27
  | .smem => 0
  | _ => 0

abbrev bufTy : (tb : Table) → Fin (tcTables nBuf tb) → BufTy
  | .hbm, ⟨0, _⟩ => ⟨S4x8192x1024, .f32⟩
  | .hbm, ⟨1, _⟩ => ⟨S2x8x6x1024, .f32⟩
  | .hbm, ⟨2, _⟩ => ⟨S4x8192x1024, .bf16⟩
  | .hbm, ⟨3, _⟩ => ⟨S4x8192x256, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S4x8192x512, .bf16⟩
  | .hbm, ⟨8, _⟩ => ⟨S2x16x16, .f32⟩
  | .hbm, ⟨9, _⟩ => ⟨S2x256x256, .f32⟩
  | .hbm, ⟨10, _⟩ => ⟨S2x1024x5120, .f32⟩
  | .hbm, ⟨11, _⟩ => ⟨S2x256x1024, .f32⟩
  | .hbm, ⟨12, _⟩ => ⟨S2x256x1024, .f32⟩
  | .hbm, ⟨13, _⟩ => ⟨S2x512x1024, .f32⟩
  | .hbm, ⟨14, _⟩ => ⟨S2x1024x1024, .f32⟩
  | .hbm, ⟨15, _⟩ => ⟨S2x1x256, .f32⟩
  | .hbm, ⟨16, _⟩ => ⟨S2x1024x5120, .bf16⟩
  | .hbm, ⟨17, _⟩ => ⟨S2x256x1024, .bf16⟩
  | .hbm, ⟨18, _⟩ => ⟨S2x256x1024, .bf16⟩
  | .hbm, ⟨19, _⟩ => ⟨S2x512x1024, .bf16⟩
  | .hbm, ⟨20, _⟩ => ⟨S2x1024x1024, .bf16⟩
  | .hbm, ⟨21, _⟩ => ⟨S2x256x256, .bf16⟩
  | .hbm, ⟨22, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x256, .bf16⟩
  | .local _ .vmem, ⟨7, _⟩ => ⟨S1x1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1x256, .f32⟩
  | .local _ .vmem, ⟨17, _⟩ => ⟨S1x256x256, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x512x1024, .bf16⟩
  | .local _ .vmem, ⟨24, _⟩ => ⟨S1x1024x1024, .bf16⟩
  | .local _ .vmem, ⟨25, _⟩ => ⟨S1x1024x1024, .f32⟩
  | .local _ .vmem, ⟨26, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x1024x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference3Ideal.lean ====
abbrev S4x8192x1024 : Shape := ⟨3, ![4, 8192, 1024]⟩
abbrev S2x8x6x1024 : Shape := ⟨4, ![2, 8, 6, 1024]⟩
abbrev S4x8192x256 : Shape := ⟨3, ![4, 8192, 256]⟩
abbrev S8192x1024 : Shape := ⟨2, ![8192, 1024]⟩
abbrev S4x8192x512 : Shape := ⟨3, ![4, 8192, 512]⟩
abbrev S2x16x16 : Shape := ⟨3, ![2, 16, 16]⟩
abbrev S2x256x256 : Shape := ⟨3, ![2, 256, 256]⟩
abbrev S2x1024x5120 : Shape := ⟨3, ![2, 1024, 5120]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S8192x4x16x16 : Shape := ⟨4, ![8192, 4, 16, 16]⟩
abbrev S4x8192x16x16 : Shape := ⟨4, ![4, 8192, 16, 16]⟩
abbrev S1x16x16 : Shape := ⟨3, ![1, 16, 16]⟩
abbrev S16x16 : Shape := ⟨2, ![16, 16]⟩
abbrev S1x1x16x16 : Shape := ⟨4, ![1, 1, 16, 16]⟩
abbrev S1x256x256 : Shape := ⟨3, ![1, 256, 256]⟩
abbrev S256x256 : Shape := ⟨2, ![256, 256]⟩
abbrev S_ : Shape := ⟨0, ![]⟩
abbrev S1x1024x5120 : Shape := ⟨3, ![1, 1024, 5120]⟩
abbrev S1024x5120 : Shape := ⟨2, ![1024, 5120]⟩
abbrev S1024x3072 : Shape := ⟨2, ![1024, 3072]⟩
abbrev S4x8192x3072 : Shape := ⟨3, ![4, 8192, 3072]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x4x1x1024 : Shape := ⟨4, ![1, 4, 1, 1024]⟩
abbrev S4x1024 : Shape := ⟨2, ![4, 1024]⟩
abbrev S4x1x1024 : Shape := ⟨3, ![4, 1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x8x6x1024, .f32⟩
  | .hbm, ⟨2, _⟩ => ⟨S4x8192x1024, .bf16⟩
  | .hbm, ⟨3, _⟩ => ⟨S4x8192x256, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S4x8192x512, .bf16⟩
  | .hbm, ⟨8, _⟩ => ⟨S2x16x16, .f32⟩
  | .hbm, ⟨9, _⟩ => ⟨S2x256x256, .f32⟩
  | .hbm, ⟨10, _⟩ => ⟨S2x1024x5120, .f32⟩
  | .hbm, ⟨11, _⟩ => ⟨S2x256x1024, .f32⟩
  | .hbm, ⟨12, _⟩ => ⟨S2x256x1024, .f32⟩
  | .hbm, ⟨13, _⟩ => ⟨S2x512x1024, .f32⟩
  | .hbm, ⟨14, _⟩ => ⟨S2x1024x1024, .f32⟩
  | .hbm, ⟨15, _⟩ => ⟨S8192x1024, .f32⟩
  | .hbm, ⟨16, _⟩ => ⟨S8192x4x16x16, .f32⟩
  | .hbm, ⟨17, _⟩ => ⟨S4x8192x16x16, .f32⟩
  | .hbm, ⟨18, _⟩ => ⟨S1x16x16, .f32⟩
  | .hbm, ⟨19, _⟩ => ⟨S16x16, .f32⟩
  | .hbm, ⟨20, _⟩ => ⟨S1x1x16x16, .f32⟩
  | .hbm, ⟨21, _⟩ => ⟨S4x8192x16x16, .f32⟩
  | .hbm, ⟨22, _⟩ => ⟨S4x8192x16x16, .f32⟩
  | .hbm, ⟨23, _⟩ => ⟨S8192x1024, .f32⟩
  | .hbm, ⟨24, _⟩ => ⟨S8192x4x16x16, .f32⟩
  | .hbm, ⟨25, _⟩ => ⟨S4x8192x16x16, .f32⟩
  | .hbm, ⟨26, _⟩ => ⟨S4x8192x16x16, .f32⟩
  | .hbm, ⟨27, _⟩ => ⟨S8192x1024, .f32⟩
  | .hbm, ⟨28, _⟩ => ⟨S8192x4x16x16, .f32⟩
  | .hbm, ⟨29, _⟩ => ⟨S4x8192x16x16, .f32⟩
  | .hbm, ⟨30, _⟩ => ⟨S4x8192x16x16, .f32⟩
  | .hbm, ⟨31, _⟩ => ⟨S4x8192x256, .f32⟩
  | .hbm, ⟨32, _⟩ => ⟨S1x256x256, .f32⟩
  | .hbm, ⟨33, _⟩ => ⟨S256x256, .f32⟩
  | .hbm, ⟨34, _⟩ => ⟨S4x8192x256, .f32⟩
  | .hbm, ⟨35, _⟩ => ⟨S4x8192x256, .f32⟩
  | .hbm, ⟨36, _⟩ => ⟨S_, .f32⟩
  | .hbm, ⟨37, _⟩ => ⟨S4x8192x256, .f32⟩
  | .hbm, ⟨38, _⟩ => ⟨S4x8192x256, .f32⟩
  | .hbm, ⟨39, _⟩ => ⟨S4x8192x256, .f32⟩
  | .hbm, ⟨40, _⟩ => ⟨S_, .f32⟩
  | .hbm, ⟨41, _⟩ => ⟨S4x8192x256, .f32⟩
  | .hbm, ⟨42, _⟩ => ⟨S4x8192x256, .f32⟩
  | .hbm, ⟨43, _⟩ => ⟨S4x8192x256, .f32⟩
  | .hbm, ⟨44, _⟩ => ⟨S_, .f32⟩
  | .hbm, ⟨45, _⟩ => ⟨S4x8192x256, .f32⟩
  | .hbm, ⟨46, _⟩ => ⟨S4x8192x256, .f32⟩
  | .hbm, ⟨47, _⟩ => ⟨S_, .f32⟩
  | .hbm, ⟨48, _⟩ => ⟨S4x8192x256, .f32⟩
  | .hbm, ⟨49, _⟩ => ⟨S4x8192x256, .f32⟩
  | .hbm, ⟨50, _⟩ => ⟨S4x8192x256, .f32⟩
  | .hbm, ⟨51, _⟩ => ⟨S4x8192x256, .f32⟩
  | .hbm, ⟨52, _⟩ => ⟨S4x8192x256, .f32⟩
  | .hbm, ⟨53, _⟩ => ⟨S4x8192x256, .f32⟩
  | .hbm, ⟨54, _⟩ => ⟨S_, .f32⟩
  | .hbm, ⟨55, _⟩ => ⟨S4x8192x256, .f32⟩
  | .hbm, ⟨56, _⟩ => ⟨S4x8192x256, .f32⟩
  | .hbm, ⟨57, _⟩ => ⟨S_, .f32⟩
  | .hbm, ⟨58, _⟩ => ⟨S4x8192x256, .f32⟩
  | .hbm, ⟨59, _⟩ => ⟨S4x8192x256, .f32⟩
  | .hbm, ⟨60, _⟩ => ⟨S4x8192x256, .f32⟩
  | .hbm, ⟨61, _⟩ => ⟨S4x8192x1024, .f32⟩
  | .hbm, ⟨62, _⟩ => ⟨S1x1024x5120, .f32⟩
  | .hbm, ⟨63, _⟩ => ⟨S1024x5120, .f32⟩
  | .hbm, ⟨64, _⟩ => ⟨S1024x3072, .f32⟩
  | .hbm, ⟨65, _⟩ => ⟨S4x8192x3072, .f32⟩
  | .hbm, ⟨66, _⟩ => ⟨S4x8192x256, .f32⟩
  | .hbm, ⟨67, _⟩ => ⟨S4x8192x512, .f32⟩
  | .hbm, ⟨68, _⟩ => ⟨S1x256x1024, .f32⟩
  | .hbm, ⟨69, _⟩ => ⟨S256x1024, .f32⟩
  | .hbm, ⟨70, _⟩ => ⟨S1x256x1024, .f32⟩
  | .hbm, ⟨71, _⟩ => ⟨S256x1024, .f32⟩
  | .hbm, ⟨72, _⟩ => ⟨S1x512x1024, .f32⟩
  | .hbm, ⟨73, _⟩ => ⟨S512x1024, .f32⟩
  | .hbm, ⟨74, _⟩ => ⟨S1x1024x1024, .f32⟩
  | .hbm, ⟨75, _⟩ => ⟨S1024x1024, .f32⟩
  | .hbm, ⟨76, _⟩ => ⟨S4x8192x3072, .f32⟩
  | .hbm, ⟨77, _⟩ => ⟨S4x8192x3072, .f32⟩
  | .hbm, ⟨78, _⟩ => ⟨S_, .f32⟩
  | .hbm, ⟨79, _⟩ => ⟨S4x8192x3072, .f32⟩
  | .hbm, ⟨80, _⟩ => ⟨S4x8192x3072, .f32⟩
  | .hbm, ⟨81, _⟩ => ⟨S_, .f32⟩
  | .hbm, ⟨82, _⟩ => ⟨S4x8192x3072, .f32⟩
  | .hbm, ⟨83, _⟩ => ⟨S4x8192x3072, .f32⟩
  | .hbm, ⟨84, _⟩ => ⟨S4x8192x1024, .f32⟩
  | .hbm, ⟨85, _⟩ => ⟨S4x8192x1024, .f32⟩
  | .hbm, ⟨86, _⟩ => ⟨S4x8192x1024, .f32⟩
  | .hbm, ⟨87, _⟩ => ⟨S4x8192x1024, .f32⟩
  | .hbm, ⟨88, _⟩ => ⟨S4x8192x1024, .f32⟩
  | .hbm, ⟨89, _⟩ => ⟨S4x8192x1024, .f32⟩
  | .hbm, ⟨90, _⟩ => ⟨S4x8192x1024, .f32⟩
  | .hbm, ⟨91, _⟩ => ⟨S4x8192x1024, .f32⟩
  | .hbm, ⟨92, _⟩ => ⟨S4x8192x1024, .f32⟩
  | .hbm, ⟨93, _⟩ => ⟨S4x8192x1024, .f32⟩
  | .hbm, ⟨94, _⟩ => ⟨S4x8192x1024, .f32⟩
  | .hbm, ⟨95, _⟩ => ⟨S4x8192x1024, .f32⟩
  | .hbm, ⟨96, _⟩ => ⟨S1x4x1x1024, .f32⟩
  | .hbm, ⟨97, _⟩ => ⟨S4x1024, .f32⟩
  | .hbm, ⟨98, _⟩ => ⟨S4x1x1024, .f32⟩
  | .hbm, ⟨99, _⟩ => ⟨S4x8192x1024, .f32⟩
  | .hbm, ⟨100, _⟩ => ⟨S4x8192x1024, .f32⟩
  | .hbm, ⟨101, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_5 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩

abbrev nD : Nat := 1
abbrev τ : Topo := Topo.v7x

variable {F : FTy → Type} [FloatOps F]
-- ==== Kernel4.lean ====
abbrev S4x8192x1024 : Shape := ⟨3, ![4, 8192, 1024]⟩
abbrev S2x8x6x1024 : Shape := ⟨4, ![2, 8, 6, 1024]⟩
abbrev S2x1024 : Shape := ⟨2, ![2, 1024]⟩
abbrev S2x1024x5120 : Shape := ⟨3, ![2, 1024, 5120]⟩
abbrev S2x1x1024 : Shape := ⟨3, ![2, 1, 1024]⟩
abbrev S4x8192x256 : Shape := ⟨3, ![4, 8192, 256]⟩
abbrev S8192x1024 : Shape := ⟨2, ![8192, 1024]⟩
abbrev S4x8192x512 : Shape := ⟨3, ![4, 8192, 512]⟩
abbrev S1x1024x1024 : Shape := ⟨3, ![1, 1024, 1024]⟩
abbrev S1x1x6x1024 : Shape := ⟨4, ![1, 1, 6, 1024]⟩
abbrev S1x1x1024 : Shape := ⟨3, ![1, 1, 1024]⟩
abbrev S1x1024x2048 : Shape := ⟨3, ![1, 1024, 2048]⟩
abbrev S1x1024x256 : Shape := ⟨3, ![1, 1024, 256]⟩
abbrev S1024x256 : Shape := ⟨2, ![1024, 256]⟩
abbrev S1x1024x512 : Shape := ⟨3, ![1, 1024, 512]⟩
abbrev S1024x1024 : Shape := ⟨2, ![1024, 1024]⟩
abbrev S1x1024 : Shape := ⟨2, ![1, 1024]⟩
abbrev S1x1x1x1024 : Shape := ⟨4, ![1, 1, 1, 1024]⟩
abbrev S1024 : Shape := ⟨1, ![1024]⟩
abbrev S1024x1 : Shape := ⟨2, ![1024, 1]⟩
abbrev S1024x512 : Shape := ⟨2, ![1024, 512]⟩

abbrev nBuf : Space → Nat
  | .hbm => 12
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S2x8x6x1024, .f32⟩
  | .hbm, ⟨2, _⟩ => ⟨S2x1024, .f32⟩
  | .hbm, ⟨3, _⟩ => ⟨S2x1024x5120, .f32⟩
  | .hbm, ⟨4, _⟩ => ⟨S2x1x1024, .f32⟩
  | .hbm, ⟨5, _⟩ => ⟨S2x1024x5120, .bf16⟩
  | .hbm, ⟨6, _⟩ => ⟨S4x8192x1024, .bf16⟩
  | .hbm, ⟨7, _⟩ => ⟨S4x8192x256, .bf16⟩
  | .hbm, ⟨8, _⟩ => ⟨S8192x1024, .bf16⟩
  | .hbm, ⟨9, _⟩ => ⟨S4x8192x512, .bf16⟩
  | .hbm, ⟨10, _⟩ => ⟨S4x8192x512, .bf16⟩
  | .hbm, ⟨11, _⟩ => ⟨S4x8192x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1x1024, .f32⟩
  | .local _ .vmem, ⟨5, _⟩ => ⟨S1x1024x2048, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x256, .bf16⟩
  | .local _ .vmem, ⟨9, _⟩ => ⟨S1x1024x256, .bf16⟩
  | .local _ .vmem, ⟨10, _⟩ => ⟨S1024x256, .bf16⟩
  | .local _ .vmem, ⟨11, _⟩ => ⟨S1024x256, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S4x8192x1024 : Shape := ⟨3, ![4, 8192, 1024]⟩
abbrev S2x8x6x1024 : Shape := ⟨4, ![2, 8, 6, 1024]⟩
abbrev S2x1024 : Shape := ⟨2, ![2, 1024]⟩
abbrev S2x1024x5120 : Shape := ⟨3, ![2, 1024, 5120]⟩
abbrev S1x4x1x1024 : Shape := ⟨4, ![1, 4, 1, 1024]⟩
abbrev S4x1024 : Shape := ⟨2, ![4, 1024]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x5120 : Shape := ⟨3, ![1, 1024, 5120]⟩
abbrev S1024x5120 : Shape := ⟨2, ![1024, 5120]⟩
abbrev S1024x2048 : Shape := ⟨2, ![1024, 2048]⟩
abbrev S4x8192x2048 : Shape := ⟨3, ![4, 8192, 2048]⟩
abbrev S4x8192x256 : Shape := ⟨3, ![4, 8192, 256]⟩
abbrev S8192x4x256 : Shape := ⟨3, ![8192, 4, 256]⟩
abbrev S8192x1024 : Shape := ⟨2, ![8192, 1024]⟩
abbrev S4x8192x512 : Shape := ⟨3, ![4, 8192, 512]⟩

abbrev nBuf : Space → Nat
  | .hbm => 55
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x8x6x1024, .f32⟩
  | .hbm, ⟨2, _⟩ => ⟨S2x1024, .f32⟩
  | .hbm, ⟨3, _⟩ => ⟨S2x1024x5120, .f32⟩
  | .hbm, ⟨4, _⟩ => ⟨S1x4x1x1024, .f32⟩
  | .hbm, ⟨5, _⟩ => ⟨S4x1024, .f32⟩
  | .hbm, ⟨6, _⟩ => ⟨S4x1x1024, .f32⟩
  | .hbm, ⟨7, _⟩ => ⟨S1x4x1x1024, .f32⟩
  | .hbm, ⟨8, _⟩ => ⟨S4x1024, .f32⟩
  | .hbm, ⟨9, _⟩ => ⟨S4x1x1024, .f32⟩
  | .hbm, ⟨10, _⟩ => ⟨S1x1024, .f32⟩
  | .hbm, ⟨11, _⟩ => ⟨S1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S1x1024x5120, .f32⟩
  | .hbm, ⟨36, _⟩ => ⟨S1024x5120, .f32⟩
  | .hbm, ⟨37, _⟩ => ⟨S1024x2048, .f32⟩
  | .hbm, ⟨38, _⟩ => ⟨S4x8192x2048, .f32⟩
  | .hbm, ⟨39, _⟩ => ⟨S4x8192x256, .f32⟩
  | .hbm, ⟨40, _⟩ => ⟨S8192x4x256, .f32⟩
  | .hbm, ⟨41, _⟩ => ⟨S8192x1024, .f32⟩
  | .hbm, ⟨42, _⟩ => ⟨S4x8192x512, .f32⟩
  | .hbm, ⟨43, _⟩ => ⟨S_, .f32⟩
  | .hbm, ⟨44, _⟩ => ⟨S4x8192x512, .f32⟩
  | .hbm, ⟨45, _⟩ => ⟨S4x8192x512, .f32⟩
  | .hbm, ⟨46, _⟩ => ⟨S4x8192x256, .f32⟩
  | .hbm, ⟨47, _⟩ => ⟨S4x8192x512, .f32⟩
  | .hbm, ⟨48, _⟩ => ⟨S4x8192x512, .f32⟩
  | .hbm, ⟨49, _⟩ => ⟨S4x8192x1024, .bf16⟩
  | .hbm, ⟨50, _⟩ => ⟨S4x8192x256, .bf16⟩
  | .hbm, ⟨51, _⟩ => ⟨S8192x1024, .bf16⟩
  | .hbm, ⟨52, _⟩ => ⟨S4x8192x512, .bf16⟩
  | .hbm, ⟨53, _⟩ => ⟨S4x8192x512, .bf16⟩
  | .hbm, ⟨54, _⟩ => ⟨S4x8192x512, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Kernel5.lean ====
abbrev S4x8192x256 : Shape := ⟨3, ![4, 8192, 256]⟩
abbrev S64x64 : Shape := ⟨2, ![64, 64]⟩
abbrev S_ : Shape := ⟨0, ![]⟩
abbrev S128x64 : Shape := ⟨2, ![128, 64]⟩
abbrev S64x128 : Shape := ⟨2, ![64, 128]⟩
abbrev S128x128 : Shape := ⟨2, ![128, 128]⟩
abbrev S128x256 : Shape := ⟨2, ![128, 256]⟩
abbrev S256x256 : Shape := ⟨2, ![256, 256]⟩
abbrev S4x1x4x1 : Shape := ⟨4, ![4, 1, 4, 1]⟩
abbrev S4x64x4x64 : Shape := ⟨4, ![4, 64, 4, 64]⟩
abbrev S1x64x1x64 : Shape := ⟨4, ![1, 64, 1, 64]⟩
abbrev S64x128x256 : Shape := ⟨3, ![64, 128, 256]⟩
abbrev S64x32768 : Shape := ⟨2, ![64, 32768]⟩
abbrev S4x64x32768 : Shape := ⟨3, ![4, 64, 32768]⟩
abbrev S4x2x64x32768 : Shape := ⟨4, ![4, 2, 64, 32768]⟩
abbrev S1x64x16384 : Shape := ⟨3, ![1, 64, 16384]⟩
abbrev S64x16384 : Shape := ⟨2, ![64, 16384]⟩
abbrev S1x2x64x16384 : Shape := ⟨4, ![1, 2, 64, 16384]⟩
abbrev S128x16384 : Shape := ⟨2, ![128, 16384]⟩
abbrev S1x1x64x16384 : Shape := ⟨4, ![1, 1, 64, 16384]⟩
abbrev S4x2x64x128x256 : Shape := ⟨5, ![4, 2, 64, 128, 256]⟩
abbrev S4x128x16384 : Shape := ⟨3, ![4, 128, 16384]⟩
abbrev S1x2x32x128x256 : Shape := ⟨5, ![1, 2, 32, 128, 256]⟩
abbrev S1x128x8192 : Shape := ⟨3, ![1, 128, 8192]⟩
abbrev S1x1x1x128x256 : Shape := ⟨5, ![1, 1, 1, 128, 256]⟩
abbrev S1x128x256 : Shape := ⟨3, ![1, 128, 256]⟩

abbrev nBuf : Space → Nat
  | .hbm => 82
  | .vmem => 16
  | .smem => 0
  | _ => 0

abbrev bufTy : (tb : Table) → Fin (tcTables nBuf tb) → BufTy
  | .hbm, ⟨0, _⟩ => ⟨S4x8192x256, .bf16⟩
  | .hbm, ⟨1, _⟩ => ⟨S64x64, .i32⟩
  | .hbm, ⟨2, _⟩ => ⟨S64x64, .i32⟩
  | .hbm, ⟨3, _⟩ => ⟨S64x64, .i32⟩
  | .hbm, ⟨4, _⟩ => ⟨S64x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S128x64, .f32⟩
  | .hbm, ⟨14, _⟩ => ⟨S64x128, .i32⟩
  | .hbm, ⟨15, _⟩ => ⟨S64x128, .i32⟩
  | .hbm, ⟨16, _⟩ => ⟨S64x128, .i32⟩
  | .hbm, ⟨17, _⟩ => ⟨S64x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S64x128, .f32⟩
  | .hbm, ⟨23, _⟩ => ⟨S64x128, .f32⟩
  | .hbm, ⟨24, _⟩ => ⟨S128x128, .i32⟩
  | .hbm, ⟨25, _⟩ => ⟨S128x128, .i32⟩
  | .hbm, ⟨26, _⟩ => ⟨S128x128, .i32⟩
  | .hbm, ⟨27, _⟩ => ⟨S128x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x256, .f32⟩
  | .hbm, ⟨38, _⟩ => ⟨S128x256, .f32⟩
  | .hbm, ⟨39, _⟩ => ⟨S256x256, .f32⟩
  | .hbm, ⟨40, _⟩ => ⟨S64x128, .f32⟩
  | .hbm, ⟨41, _⟩ => ⟨S64x128, .f32⟩
  | .hbm, ⟨42, _⟩ => ⟨S64x64, .i32⟩
  | .hbm, ⟨43, _⟩ => ⟨S64x64, .i32⟩
  | .hbm, ⟨44, _⟩ => ⟨S64x64, .i32⟩
  | .hbm, ⟨45, _⟩ => ⟨S64x64, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S64x64, .f32⟩
  | .hbm, ⟨51, _⟩ => ⟨S64x64, .f32⟩
  | .hbm, ⟨52, _⟩ => ⟨S4x1x4x1, .i32⟩
  | .hbm, ⟨53, _⟩ => ⟨S4x1x4x1, .i32⟩
  | .hbm, ⟨54, _⟩ => ⟨S4x1x4x1, .i1⟩
  | .hbm, ⟨55, _⟩ => ⟨S4x64x4x64, .i1⟩
  | .hbm, ⟨56, _⟩ => ⟨S64x64, .f32⟩
  | .hbm, ⟨57, _⟩ => ⟨S1x64x1x64, .f32⟩
  | .hbm, ⟨58, _⟩ => ⟨S4x64x4x64, .f32⟩
  | .hbm, ⟨59, _⟩ => ⟨S_, .f32⟩
  | .hbm, ⟨60, _⟩ => ⟨S4x64x4x64, .f32⟩
  | .hbm, ⟨61, _⟩ => ⟨S4x64x4x64, .f32⟩
  | .hbm, ⟨62, _⟩ => ⟨S256x256, .f32⟩
  | .hbm, ⟨63, _⟩ => ⟨S64x64, .f32⟩
  | .hbm, ⟨64, _⟩ => ⟨S1x64x1x64, .f32⟩
  | .hbm, ⟨65, _⟩ => ⟨S4x64x4x64, .f32⟩
  | .hbm, ⟨66, _⟩ => ⟨S_, .f32⟩
  | .hbm, ⟨67, _⟩ => ⟨S4x64x4x64, .f32⟩
  | .hbm, ⟨68, _⟩ => ⟨S4x64x4x64, .f32⟩
  | .hbm, ⟨69, _⟩ => ⟨S256x256, .f32⟩
  | .hbm, ⟨70, _⟩ => ⟨S64x128x256, .f32⟩
  | .hbm, ⟨71, _⟩ => ⟨S64x32768, .f32⟩
  | .hbm, ⟨72, _⟩ => ⟨S64x128x256, .f32⟩
  | .hbm, ⟨73, _⟩ => ⟨S64x32768, .f32⟩
  | .hbm, ⟨74, _⟩ => ⟨S4x64x32768, .bf16⟩
  | .hbm, ⟨75, _⟩ => ⟨S128x64, .bf16⟩
  | .hbm, ⟨76, _⟩ => ⟨S4x2x64x32768, .bf16⟩
  | .hbm, ⟨77, _⟩ => ⟨S4x2x64x128x256, .bf16⟩
  | .hbm, ⟨78, _⟩ => ⟨S256x256, .bf16⟩
  | .hbm, ⟨79, _⟩ => ⟨S256x256, .bf16⟩
  | .hbm, ⟨80, _⟩ => ⟨S256x256, .bf16⟩
  | .hbm, ⟨81, _⟩ => ⟨S4x128x16384, .bf16⟩
  | .local _ .vmem, ⟨0, _⟩ => ⟨S1x64x16384, .bf16⟩
  | .local _ .vmem, ⟨1, _⟩ => ⟨S1x64x16384, .bf16⟩
  | .local _ .vmem, ⟨2, _⟩ => ⟨S128x64, .bf16⟩
  | .local _ .vmem, ⟨3, _⟩ => ⟨S64x16384, .f32⟩
  | .local _ .vmem, ⟨4, _⟩ => ⟨S64x16384, .f32⟩
  | .local _ .vmem, ⟨5, _⟩ => ⟨S64x16384, .f32⟩
  | .local _ .vmem, ⟨6, _⟩ => ⟨S64x16384, .f32⟩
  | .local _ .vmem, ⟨7, _⟩ => ⟨S1x2x64x16384, .bf16⟩
  | .local _ .vmem, ⟨8, _⟩ => ⟨S1x2x64x16384, .bf16⟩
  | .local _ .vmem, ⟨9, _⟩ => ⟨S1x2x32x128x256, .bf16⟩
  | .local _ .vmem, ⟨10, _⟩ => ⟨S1x2x32x128x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S1x128x8192, .bf16⟩
  | .local _ .vmem, ⟨15, _⟩ => ⟨S1x128x8192, .bf16⟩
  | _, _ => ⟨S4x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_3 : Ref sig .tc := ⟨.hbm, 28, rfl⟩
abbrev main_v23 : Ref sig .tc := ⟨.hbm, 29, rfl⟩
abbrev main_cst_4 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_5 : Ref sig .tc := ⟨.hbm, 46, rfl⟩
abbrev main_v39 : Ref sig .tc := ⟨.hbm, 47, rfl⟩
abbrev main_cst_6 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_7 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_8 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

abbrev stage0_0 : Fin 2 → Memref sig .tc .vmem S1x64x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S64x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x64x16384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 2], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2x32x128x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x128x8192 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== Kernel5Ideal.lean ====
variable {F : FTy → Type} [FloatOps F] [Named F]
def κ : String → Option EReal := fun
  | "inv_sqrt_n" => some (((Real.sqrt 524288)⁻¹ : ℝ) : EReal)
  | _ => none
-- ==== Reference5Ideal.lean ====
abbrev S4x8192x256 : Shape := ⟨3, ![4, 8192, 256]⟩
abbrev S4x8192x4x64 : Shape := ⟨4, ![4, 8192, 4, 64]⟩
abbrev S8192x8192 : Shape := ⟨2, ![8192, 8192]⟩
abbrev S_ : Shape := ⟨0, ![]⟩
abbrev S64x64 : Shape := ⟨2, ![64, 64]⟩
abbrev S4x4x64x8192 : Shape := ⟨4, ![4, 4, 64, 8192]⟩
abbrev S4x128x16384 : Shape := ⟨3, ![4, 128, 16384]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x256, .bf16⟩
  | .hbm, ⟨1, _⟩ => ⟨S4x8192x256, .f32⟩
  | .hbm, ⟨2, _⟩ => ⟨S4x8192x4x64, .f32⟩
  | .hbm, ⟨3, _⟩ => ⟨S8192x8192, .i32⟩
  | .hbm, ⟨4, _⟩ => ⟨S8192x8192, .i32⟩
  | .hbm, ⟨5, _⟩ => ⟨S8192x8192, .i32⟩
  | .hbm, ⟨6, _⟩ => ⟨S8192x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S64x64, .i32⟩
  | .hbm, ⟨14, _⟩ => ⟨S64x64, .i32⟩
  | .hbm, ⟨15, _⟩ => ⟨S64x64, .i32⟩
  | .hbm, ⟨16, _⟩ => ⟨S64x64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64x64, .f32⟩
  | .hbm, ⟨22, _⟩ => ⟨S64x64, .f32⟩
  | .hbm, ⟨23, _⟩ => ⟨S8192x8192, .f32⟩
  | .hbm, ⟨24, _⟩ => ⟨S4x4x64x8192, .f32⟩
  | .hbm, ⟨25, _⟩ => ⟨S4x8192x4x64, .f32⟩
  | .hbm, ⟨26, _⟩ => ⟨S8192x8192, .f32⟩
  | .hbm, ⟨27, _⟩ => ⟨S4x4x64x8192, .f32⟩
  | .hbm, ⟨28, _⟩ => ⟨S4x8192x4x64, .f32⟩
  | .hbm, ⟨29, _⟩ => ⟨S64x64, .f32⟩
  | .hbm, ⟨30, _⟩ => ⟨S4x8192x4x64, .f32⟩
  | .hbm, ⟨31, _⟩ => ⟨S64x64, .f32⟩
  | .hbm, ⟨32, _⟩ => ⟨S4x8192x4x64, .f32⟩
  | .hbm, ⟨33, _⟩ => ⟨S4x8192x4x64, .f32⟩
  | .hbm, ⟨34, _⟩ => ⟨S_, .f32⟩
  | .hbm, ⟨35, _⟩ => ⟨S_, .f32⟩
  | .hbm, ⟨36, _⟩ => ⟨S4x8192x4x64, .f32⟩
  | .hbm, ⟨37, _⟩ => ⟨S4x8192x4x64, .f32⟩
  | .hbm, ⟨38, _⟩ => ⟨S4x8192x4x64, .bf16⟩
  | .hbm, ⟨39, _⟩ => ⟨S4x128x16384, .bf16⟩
  | _, _ => ⟨S4x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_3 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== Kernel6.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S2x6144x8, .f32⟩
  | .hbm, ⟨18, _⟩ => ⟨S2x8x6144, .f32⟩
  | .hbm, ⟨19, _⟩ => ⟨S2x1x6144, .f32⟩
  | .hbm, ⟨20, _⟩ => ⟨S2x8x6144, .f32⟩
  | .hbm, ⟨21, _⟩ => ⟨S2x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel7.lean ====
abbrev S4x256x512 : Shape := ⟨3, ![4, 256, 512]⟩
abbrev S1x256x128 : Shape := ⟨3, ![1, 256, 128]⟩
abbrev S1x256x64 : Shape := ⟨3, ![1, 256, 64]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S256x128 : Shape := ⟨2, ![256, 128]⟩

abbrev nBuf : Space → Nat
  | .hbm => 4
  | .vmem => 8
  | .smem => 0
  | _ => 0

abbrev bufTy : (tb : Table) → Fin (tcTables nBuf tb) → BufTy
  | .hbm, ⟨0, _⟩ => ⟨S4x256x512, .bf16⟩
  | .hbm, ⟨1, _⟩ => ⟨S4x256x512, .bf16⟩
  | .hbm, ⟨2, _⟩ => ⟨S4x256x512, .bf16⟩
  | .hbm, ⟨3, _⟩ => ⟨S4x256x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | _, _ => ⟨S4x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4x256x512 : Shape := ⟨3, ![4, 256, 512]⟩
abbrev S4x256x8x64 : Shape := ⟨4, ![4, 256, 8, 64]⟩
abbrev S4x8x256x256 : Shape := ⟨4, ![4, 8, 256, 256]⟩
abbrev S_ : Shape := ⟨0, ![]⟩
abbrev S4x8x256 : Shape := ⟨3, ![4, 8, 256]⟩
abbrev S4x8x256x1 : Shape := ⟨4, ![4, 8, 256, 1]⟩
abbrev S4x8x64x256 : Shape := ⟨4, ![4, 8, 64, 256]⟩

abbrev nBuf : Space → Nat
  | .hbm => 26
  | .vmem => 0
  | .smem => 0
  | _ => 0

abbrev bufTy : (tb : Table) → Fin (tcTables nBuf tb) → BufTy
  | .hbm, ⟨0, _⟩ => ⟨S4x256x512, .bf16⟩
  | .hbm, ⟨1, _⟩ => ⟨S4x256x512, .bf16⟩
  | .hbm, ⟨2, _⟩ => ⟨S4x256x512, .bf16⟩
  | .hbm, ⟨3, _⟩ => ⟨S4x256x8x64, .bf16⟩
  | .hbm, ⟨4, _⟩ => ⟨S4x256x8x64, .bf16⟩
  | .hbm, ⟨5, _⟩ => ⟨S4x256x8x64, .bf16⟩
  | .hbm, ⟨6, _⟩ => ⟨S4x8x256x256, .f32⟩
  | .hbm, ⟨7, _⟩ => ⟨S_, .f32⟩
  | .hbm, ⟨8, _⟩ => ⟨S4x8x256, .f32⟩
  | .hbm, ⟨9, _⟩ => ⟨S_, .f32⟩
  | .hbm, ⟨10, _⟩ => ⟨S4x8x256, .f32⟩
  | .hbm, ⟨11, _⟩ => ⟨S4x8x256, .f32⟩
  | .hbm, ⟨12, _⟩ => ⟨S4x8x256x1, .f32⟩
  | .hbm, ⟨13, _⟩ => ⟨S4x8x256x256, .f32⟩
  | .hbm, ⟨14, _⟩ => ⟨S4x8x256x256, .f32⟩
  | .hbm, ⟨15, _⟩ => ⟨S4x8x256x256, .f32⟩
  | .hbm, ⟨16, _⟩ => ⟨S_, .f32⟩
  | .hbm, ⟨17, _⟩ => ⟨S4x8x256, .f32⟩
  | .hbm, ⟨18, _⟩ => ⟨S4x8x256x1, .f32⟩
  | .hbm, ⟨19, _⟩ => ⟨S4x8x256x256, .f32⟩
  | .hbm, ⟨20, _⟩ => ⟨S4x8x256x256, .f32⟩
  | .hbm, ⟨21, _⟩ => ⟨S4x8x256x256, .bf16⟩
  | .hbm, ⟨22, _⟩ => ⟨S4x8x64x256, .f32⟩
  | .hbm, ⟨23, _⟩ => ⟨S4x256x8x64, .f32⟩
  | .hbm, ⟨24, _⟩ => ⟨S4x256x512, .f32⟩
  | .hbm, ⟨25, _⟩ => ⟨S4x256x512, .bf16⟩
  | _, _ => ⟨S4x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.FfnRow.lean ====
/- The feed-forward block row by row, at the ideal instance: what each payload of the body computes at a row and a lane,
   and the block the body leaves as one function `oRow` of the row's data. -/
module

public import proofs.«01_k».proof.Proof.Gen.KernelIdeal.Value
public import Idealize.ShloMosaic.Lib.Pointwise

@[expose] public section

set_option maxRecDepth 16384

noncomputable section

namespace Cert.Ffn

open Idealize.ShloMosaic

/-- The reciprocal root of a row's mean square plus the stabiliser. -/
def invRms (X : Fin 1024 → EReal) : EReal :=
  Ideal.rsqrt (Ideal.div (∑ k : Fin 1024, X k * X k) (Ideal.ofBits .f32 0x44800000#32) + Ideal.ofBits .f32 0x358637BD#32)

/-- The normalised and modulated row. -/
def hRow (X SH SC G : Fin 1024 → EReal) (d : Fin 1024) : EReal := X d * invRms X * G d * (1 + SC d) + SH d

/-- The squared rectified hidden unit `n`. -/
def aRow (H : Fin 1024 → EReal) (W : Fin 1024 → EReal) : EReal :=
  max (∑ k : Fin 1024, H k * W k) 0 * max (∑ k : Fin 1024, H k * W k) 0

/-- The row plus the gated block. -/
def yRow (X GT : Fin 1024 → EReal) (A : Fin 4096 → EReal) (W : Fin 4096 → Fin 1024 → EReal) (d : Fin 1024) : EReal :=
  X d + GT d * ∑ n : Fin 4096, A n * W n d

/-- The last normalisation. -/
def oRow (Y GF : Fin 1024 → EReal) (d : Fin 1024) : EReal := Y d * invRms Y * GF d

/-- The whole block at one row. -/
def ffnRow (X SH SC GT G GF : Fin 1024 → EReal) (W1 : Fin 1024 → Fin 4096 → EReal) (W2 : Fin 4096 → Fin 1024 → EReal)
    (d : Fin 1024) : EReal :=
  oRow (yRow X GT (fun n => aRow (hRow X SH SC G) fun k => W1 k n) W2) GF d

/-- A sum over 4096 terms as the kernel's four chunks of 1024, added one after another from zero. -/
theorem sum_chunks (f : Fin 4096 → EReal) :
    ∑ n : Fin 4096, f n
      = (((0 + ∑ n : Fin 1024, f ⟨n.val, by omega⟩) + ∑ n : Fin 1024, f ⟨1024 + n.val, by omega⟩)
          + ∑ n : Fin 1024, f ⟨2048 + n.val, by omega⟩) + ∑ n : Fin 1024, f ⟨3072 + n.val, by omega⟩ := by
  rw [Fin.sum_univ_two_halves 3072 1024 rfl f,
    Fin.sum_univ_two_halves 2048 1024 rfl (fun n : Fin 3072 => f ⟨n.val, by omega⟩),
    Fin.sum_univ_two_halves 1024 1024 rfl (fun n : Fin 2048 => f ⟨n.val, by omega⟩), zero_add]

end Cert.Ffn

namespace Cert.KernelIdeal.Ffn

open Cert.KernelIdeal Cert.KernelIdeal.Gen Cert.Ffn Idealize.ShloMosaic Idealize.ShloMosaic.TcCoe Idealize.SL.Sem

theorem pay2_apply (v0 : Vec Ideal S1x1024x1024 .f32) (r k : Fin 1024) :
    k0_pay2 (F := Ideal) v0 (ix2 r k) = v0 (ix3 0 r k) := by
  pointwise [k0_pay2]

theorem pay3_apply (v0 : Vec Ideal S1x1024x1024 .f32) (v2 : Vec Ideal S1x1x1024 .f32) (v4 v6 : Vec Ideal S1x1x1x1024 .f32) (r k : Fin 1024) :
    k0_pay3 (F := Ideal) v0 v2 v4 v6 (ix2 r k)
      = hRow (fun k => v0 (ix3 0 r k)) (fun k => v4 (ix4 0 0 0 k)) (fun k => v6 (ix4 0 0 0 k)) (fun k => v2 (ix3 0 0 k)) k := by
  pointwise [k0_pay3, k0_pay2]
  rfl

theorem pay5_apply (v0 : Vec Ideal S1x1024x1024 .f32) (v2 : Vec Ideal S1x1x1024 .f32) (v4 v6 : Vec Ideal S1x1x1x1024 .f32)
    (w : Vec Ideal S1x1024x1024 .bf16) (r n : Fin 1024) :
    k0_pay5 (F := Ideal) v0 v2 v4 v6 w (ix2 r n) = aRow (fun k => k0_pay3 (F := Ideal) v0 v2 v4 v6 (ix2 r k)) (fun k => w (ix3 0 k n)) := by
  unfold k0_pay5
  generalize k0_pay3 (F := Ideal) v0 v2 v4 v6 = h
  pointwise []
  rfl

theorem pay7_apply (h : FVec Ideal S1024x1024 .bf16) (w : Vec Ideal S1x1024x1024 .bf16) (r n : Fin 1024) :
    k0_pay7 (F := Ideal) h w (ix2 r n) = aRow (fun k => h (ix2 r k)) (fun k => w (ix3 0 k n)) := by
  pointwise [k0_pay7]
  rfl

theorem pay6_apply (h : FVec Ideal S1024x1024 .bf16) (z a : FVec Ideal S1024x1024 .f32) (u0 w1 u1 w2 u2 : Vec Ideal S1x1024x1024 .bf16) (r d : Fin 1024) :
    k0_pay6 (F := Ideal) h z a u0 w1 u1 w2 u2 (ix2 r d)
      = ((z (ix2 r d) + ∑ n : Fin 1024, a (ix2 r n) * u0 (ix3 0 n d))
          + ∑ n : Fin 1024, aRow (fun k => h (ix2 r k)) (fun k => w1 (ix3 0 k n)) * u1 (ix3 0 n d))
          + ∑ n : Fin 1024, aRow (fun k => h (ix2 r k)) (fun k => w2 (ix3 0 k n)) * u2 (ix3 0 n d) := by
  pointwise [k0_pay6]
  rfl

theorem pay1_apply (v1 v60 v66 : FVec Ideal S1024x1024 .f32) (v68 : Vec Ideal S1x1024x1024 .bf16) (v72 : Vec Ideal S1x1x1x1024 .f32)
    (v87 : Vec Ideal S1x1024 .f32) (u : Fin 1) (r d : Fin 1024) :
    k0_pay1 (F := Ideal) v1 v60 v66 v68 v72 v87 (ix3 u r d)
      = oRow (fun d => v1 (ix2 r d) + v72 (ix4 0 0 0 d) * (v60 (ix2 r d) + ∑ n : Fin 1024, v66 (ix2 r n) * v68 (ix3 0 n d)))
          (fun d => v87 (ix2 0 d)) d := by
  pointwise [k0_pay1]
  rfl

end Cert.KernelIdeal.Ffn

end
-- ==== Proof.FfnVal.lean ====
/- The feed-forward call's result array as ONE function `G` of the argument arrays, at the ideal instance: the block the body
   leaves is `ffnRow` of the row's data (`out_apply`); each window's block at a grid point is its array at an offset
   (`blkN`); the arrays the host prepares are the arguments (`V1`, `V2`, `V3`, `V0`); the blocks cover the result. -/
module

public import proofs.«01_k».proof.Proof.FfnRow
public import Idealize.ShloMosaic.Lib.StableHlo.Run
public import Idealize.ShloMosaic.Lib.Pipeline.ValueKit.Tiles

@[expose] public section

set_option maxRecDepth 16384

noncomputable section

namespace Cert.Ffn

open Idealize.ShloMosaic

/-- The result as one function of the arguments: row `(b, t)` of the last layer's feed-forward block and the final norm. -/
def G (x : Vec Ideal ⟨3, ![4, 8192, 1024]⟩ .f32) (md : Vec Ideal ⟨4, ![2, 8, 6, 1024]⟩ .f32) (g : Vec Ideal ⟨2, ![2, 1024]⟩ .f32)
    (w1 : Vec Ideal ⟨3, ![2, 1024, 4096]⟩ .f32) (w2 : Vec Ideal ⟨3, ![2, 4096, 1024]⟩ .f32) (gf : Vec Ideal ⟨1, ![1024]⟩ .f32) :
    Vec Ideal ⟨3, ![4, 8192, 1024]⟩ .f32 := fun i =>
  ffnRow (fun k => x (ix3 (i 0) (i 1) k)) (fun k => md (ix4 1 ⟨(i 0).val, Nat.lt_trans (i 0).isLt (by decide)⟩ 3 k))
    (fun k => md (ix4 1 ⟨(i 0).val, Nat.lt_trans (i 0).isLt (by decide)⟩ 4 k)) (fun k => md (ix4 1 ⟨(i 0).val, Nat.lt_trans (i 0).isLt (by decide)⟩ 5 k))
    (fun k => g (ix2 1 k)) (fun k => gf (ix1 k)) (fun k n => w1 (ix3 1 k n)) (fun n d => w2 (ix3 1 n d)) (i 2)

end Cert.Ffn

namespace Cert.KernelIdeal.Ffn

open Cert.KernelIdeal Cert.KernelIdeal.Gen Cert.KernelIdeal.Value Cert.Ffn Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-! ## The loads -/

theorem ldM (x1 : Vec Ideal S1x1x6x1024 .f32) (o : Nat) (ho : o < 6) (inb) (k : Fin 1024) :
    View.ld x1 (Rect.unit (s := S1x1x6x1024) ![0, 0, o, 0] S1x1x1x1024.size inb) (ix4 0 0 0 k) = x1 (ix4 0 0 ⟨o, ho⟩ k) :=
  View.ld_unit_apply_of _ _ _ _ _ _ fun a => by
    match a with
    | ⟨0, _⟩ => rfl
    | ⟨1, _⟩ => rfl
    | ⟨2, _⟩ => rfl
    | ⟨3, _⟩ => exact (Nat.zero_add _).symm

theorem ldW1 (x3 : Vec Ideal S1x1024x4096 .bf16) (o : Nat) (ho : o ≤ 3072) (inb) (k n : Fin 1024) :
    View.ld x3 (Rect.unit (s := S1x1024x4096) ![0, 0, o] S1x1024x1024.size inb) (ix3 0 k n) = x3 (ix3 0 k ⟨o + n.val, by omega⟩) :=
  View.ld_unit_apply_of _ _ _ _ _ _ fun a => by
    match a with
    | ⟨0, _⟩ => rfl
    | ⟨1, _⟩ => exact (Nat.zero_add _).symm
    | ⟨2, _⟩ => rfl

theorem ldW2 (x4 : Vec Ideal S1x4096x1024 .bf16) (o : Nat) (ho : o ≤ 3072) (inb) (n d : Fin 1024) :
    View.ld x4 (Rect.unit (s := S1x4096x1024) ![0, o, 0] S1x1024x1024.size inb) (ix3 0 n d) = x4 (ix3 0 ⟨o + n.val, by omega⟩ d) :=
  View.ld_unit_apply_of _ _ _ _ _ _ fun a => by
    match a with
    | ⟨0, _⟩ => rfl
    | ⟨1, _⟩ => rfl
    | ⟨2, _⟩ => exact (Nat.zero_add _).symm

/-- What the body leaves in the result's block, at row `r` and lane `d`. -/
theorem out_apply (x0 : Vec Ideal S1x1024x1024 .f32) (x1 : Vec Ideal S1x1x6x1024 .f32) (x2 : Vec Ideal S1x1x1024 .f32)
    (x3 : Vec Ideal S1x1024x4096 .bf16) (x4 : Vec Ideal S1x4096x1024 .bf16) (x5 : Vec Ideal S1x1024 .f32) (u : Fin 1) (r d : Fin 1024) :
    out0_6 x0 x1 x2 x3 x4 x5 (ix3 u r d)
      = ffnRow (fun k => x0 (ix3 0 r k)) (fun k => x1 (ix4 0 0 3 k)) (fun k => x1 (ix4 0 0 4 k)) (fun k => x1 (ix4 0 0 5 k))
          (fun k => x2 (ix3 0 0 k)) (fun k => x5 (ix2 0 k)) (fun k n => x3 (ix3 0 k n)) (fun n d => x4 (ix3 0 n d)) d := by
  unfold out0_6 k0_pay8
  rw [View.canon_unit_zero hz3, View.ld_unit_zero hz3, View.ld_unit_zero hz3, View.ld_unit_zero hz2, pay1_apply]
  unfold ffnRow
  refine congrArg₂ (fun Y GF => oRow Y GF d) (funext fun e => ?_) rfl
  unfold yRow
  rw [sum_chunks, pay6_apply, pay2_apply, show k0_pay4 (F := Ideal) (ix2 r e) = 0 by pointwise [k0_pay4]]
  simp only [pay5_apply, pay7_apply, pay3_apply, ldM x1 3 (by decide), ldM x1 4 (by decide), ldM x1 5 (by decide),
    ldW1 x3 0 (by decide), ldW1 x3 1024 (by decide), ldW1 x3 2048 (by decide), ldW1 x3 3072 (by decide),
    ldW2 x4 0 (by decide), ldW2 x4 1024 (by decide), ldW2 x4 2048 (by decide), ldW2 x4 3072 (by decide), Nat.zero_add]
  rfl

/-! ## The windows' blocks -/

variable (m : (ℓ : Loc nD τ sig) → Buf (Elt Ideal) ℓ) (ρ : Dev nD → PrngReg)

theorem V0 (c : Dev nD) (k : Fin 1024) : V m c main_v0 (ix2 0 k) = m ((c : Thread nD τ).loc main_arg5) (ix1 k) := by
  have h : V m c main_v0 = shapeCast S1x1024 (m ((c : Thread nD τ).loc main_arg5)) shapeCasts_S1024_S1x1024 := by
    show StableHlo.after hostOps0 (fun b => m (c, b)) (Proc.devRef .tc main_v0) = _
    after_results; rfl
  rw [h]; pointwise []

theorem V1 (c : Dev nD) (l : Fin 2) (k : Fin 1024) : V m c main_v1 (ix3 l 0 k) = m ((c : Thread nD τ).loc main_arg2) (ix2 l k) := by
  have h : V m c main_v1 = shapeCast S2x1x1024 (m ((c : Thread nD τ).loc main_arg2)) shapeCasts_S2x1024_S2x1x1024 := by
    show StableHlo.after hostOps0 (fun b => m (c, b)) (Proc.devRef .tc main_v1) = _
    after_results; rfl
  rw [h]; pointwise []

theorem V2 (c : Dev nD) : V m c main_v2 = (m ((c : Thread nD τ).loc main_arg3) : S2x1024x4096.Idx → EReal) := by
  show StableHlo.after hostOps0 (fun b => m (c, b)) (Proc.devRef .tc main_v2) = _
  after_results; rfl

theorem V3 (c : Dev nD) : V m c main_v3 = (m ((c : Thread nD τ).loc main_arg4) : S2x4096x1024.Idx → EReal) := by
  show StableHlo.after hostOps0 (fun b => m (c, b)) (Proc.devRef .tc main_v3) = _
  after_results; rfl

theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 4) = 1 ∧ win0_1.index t (1 : Fin 4) = t.val / 8 ∧ win0_1.index t (2 : Fin 4) = 0 ∧ win0_1.index t (3 : Fin 4) = 0 :=
  (by decide +kernel : ∀ t : Fin grid0.N, _)
theorem idx2 : ∀ t : Fin cfg0.N, win0_2.index t (0 : Fin 3) = 1 ∧ win0_2.index t (1 : Fin 3) = 0 ∧ win0_2.index t (2 : Fin 3) = 0 :=
  (by decide +kernel : ∀ t : Fin grid0.N, _)
theorem idx3 : ∀ t : Fin cfg0.N, win0_3.index t (0 : Fin 3) = 1 ∧ win0_3.index t (1 : Fin 3) = 0 ∧ win0_3.index t (2 : Fin 3) = 0 :=
  (by decide +kernel : ∀ t : Fin grid0.N, _)
theorem idx4 : ∀ t : Fin cfg0.N, win0_4.index t (0 : Fin 3) = 1 ∧ win0_4.index t (1 : Fin 3) = 0 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 3) = t.val / 8 ∧ win0_6.index t (1 : Fin 3) = t.val % 8 ∧ win0_6.index t (2 : Fin 3) = 0 :=
  (by decide +kernel : ∀ t : Fin grid0.N, _)

theorem t_lt (t : Fin cfg0.N) : t.val < 32 := lt_of_lt_of_eq t.isLt N_0

/-- The batch and the token of row `r` of point `t`'s block. -/
def bat (t : Fin cfg0.N) : Fin 4 := ⟨t.val / 8, by have := t_lt t; omega⟩
def tok (t : Fin cfg0.N) (r : Fin 1024) : Fin 8192 := ⟨t.val % 8 * 1024 + r.val, by omega⟩

theorem emb0 (t : Fin cfg0.N) (u : Fin 1) (r k : Fin 1024) : ((cfg0.win 0).blk t).view.emb (ix3 u r k) = ix3 (bat t) (tok t r) k := by
  obtain ⟨e0, e1, e2⟩ := idx0 t
  have hu : u.val = 0 := by omega
  funext a; apply Fin.ext
  match a with
  | ⟨0, _⟩ => show win0_0.index t (0 : Fin 3) * 1 + 1 * u.val = t.val / 8; omega
  | ⟨1, _⟩ => show win0_0.index t (1 : Fin 3) * 1024 + 1 * r.val = t.val % 8 * 1024 + r.val; omega
  | ⟨2, _⟩ => show win0_0.index t (2 : Fin 3) * 1024 + 1 * k.val = k.val; omega

theorem emb6 (t : Fin cfg0.N) (u : Fin 1) (r k : Fin 1024) : ((cfg0.win 6).blk t).view.emb (ix3 u r k) = ix3 (bat t) (tok t r) k := by
  obtain ⟨e0, e1, e2⟩ := idx6 t
  have hu : u.val = 0 := by omega
  funext a; apply Fin.ext
  match a with
  | ⟨0, _⟩ => show win0_6.index t (0 : Fin 3) * 1 + 1 * u.val = t.val / 8; omega
  | ⟨1, _⟩ => show win0_6.index t (1 : Fin 3) * 1024 + 1 * r.val = t.val % 8 * 1024 + r.val; omega
  | ⟨2, _⟩ => show win0_6.index t (2 : Fin 3) * 1024 + 1 * k.val = k.val; omega

theorem blk0 (c : Dev nD) (t : Fin cfg0.N) (r k : Fin 1024) :
    iblk m c 0 t (ix3 0 r k) = m ((c : Thread nD τ).loc main_arg0) (ix3 (bat t) (tok t r) k) := by
  show V m c main_arg0 (((cfg0.win 0).blk t).view.emb (ix3 0 r k)) = _
  rw [emb0, V_main_arg0]

theorem blk1 (c : Dev nD) (t : Fin cfg0.N) (o : Fin 6) (k : Fin 1024) :
    iblk m c 1 t (ix4 0 0 o k) = m ((c : Thread nD τ).loc main_arg1) (ix4 1 ⟨(bat t).val, Nat.lt_trans (bat t).isLt (by decide)⟩ o k) := by
  obtain ⟨e0, e1, e2, e3⟩ := idx1 t
  have e : ((cfg0.win 1).blk t).view.emb (ix4 0 0 o k) = ix4 1 ⟨(bat t).val, Nat.lt_trans (bat t).isLt (by decide)⟩ o k := by
    funext a; apply Fin.ext
    match a with
    | ⟨0, _⟩ => show win0_1.index t (0 : Fin 4) * 1 + 1 * 0 = 1; omega
    | ⟨1, _⟩ => show win0_1.index t (1 : Fin 4) * 1 + 1 * 0 = t.val / 8; omega
    | ⟨2, _⟩ => show win0_1.index t (2 : Fin 4) * 6 + 1 * o.val = o.val; omega
    | ⟨3, _⟩ => show win0_1.index t (3 : Fin 4) * 1024 + 1 * k.val = k.val; omega
  show V m c main_arg1 (((cfg0.win 1).blk t).view.emb (ix4 0 0 o k)) = _
  rw [e, V_main_arg1]

theorem blk2 (c : Dev nD) (t : Fin cfg0.N) (k : Fin 1024) :
    iblk m c 2 t (ix3 0 0 k) = m ((c : Thread nD τ).loc main_arg2) (ix2 1 k) := by
  obtain ⟨e0, e1, e2⟩ := idx2 t
  have e : ((cfg0.win 2).blk t).view.emb (ix3 0 0 k) = ix3 1 0 k := by
    funext a; apply Fin.ext
    match a with
    | ⟨0, _⟩ => show win0_2.index t (0 : Fin 3) * 1 + 1 * 0 = 1; omega
    | ⟨1, _⟩ => show win0_2.index t (1 : Fin 3) * 1 + 1 * 0 = 0; omega
    | ⟨2, _⟩ => show win0_2.index t (2 : Fin 3) * 1024 + 1 * k.val = k.val; omega
  show V m c main_v1 (((cfg0.win 2).blk t).view.emb (ix3 0 0 k)) = _
  rw [e, V1]

theorem blk3 (c : Dev nD) (t : Fin cfg0.N) (k : Fin 1024) (n : Fin 4096) :
    iblk m c 3 t (ix3 0 k n) = m ((c : Thread nD τ).loc main_arg3) (ix3 1 k n) := by
  obtain ⟨e0, e1, e2⟩ := idx3 t
  have e : ((cfg0.win 3).blk t).view.emb (ix3 0 k n) = ix3 1 k n := by
    funext a; apply Fin.ext
    match a with
    | ⟨0, _⟩ => show win0_3.index t (0 : Fin 3) * 1 + 1 * 0 = 1; omega
    | ⟨1, _⟩ => show win0_3.index t (1 : Fin 3) * 1024 + 1 * k.val = k.val; omega
    | ⟨2, _⟩ => show win0_3.index t (2 : Fin 3) * 4096 + 1 * n.val = n.val; omega
  show V m c main_v2 (((cfg0.win 3).blk t).view.emb (ix3 0 k n)) = _
  rw [e, V2]

theorem blk4 (c : Dev nD) (t : Fin cfg0.N) (n : Fin 4096) (k : Fin 1024) :
    iblk m c 4 t (ix3 0 n k) = m ((c : Thread nD τ).loc main_arg4) (ix3 1 n k) := by
  obtain ⟨e0, e1, e2⟩ := idx4 t
  have e : ((cfg0.win 4).blk t).view.emb (ix3 0 n k) = ix3 1 n k := by
    funext a; apply Fin.ext
    match a with
    | ⟨0, _⟩ => show win0_4.index t (0 : Fin 3) * 1 + 1 * 0 = 1; omega
    | ⟨1, _⟩ => show win0_4.index t (1 : Fin 3) * 4096 + 1 * n.val = n.val; omega
    | ⟨2, _⟩ => show win0_4.index t (2 : Fin 3) * 1024 + 1 * k.val = k.val; omega
  show V m c main_v3 (((cfg0.win 4).blk t).view.emb (ix3 0 n k)) = _
  rw [e, V3]

theorem blk5 (c : Dev nD) (t : Fin cfg0.N) (k : Fin 1024) :
    iblk m c 5 t (ix2 0 k) = m ((c : Thread nD τ).loc main_arg5) (ix1 k) := by
  obtain ⟨e0, e1⟩ := idx5 t
  have e : ((cfg0.win 5).blk t).view.emb (ix2 0 k) = ix2 0 k := by
    funext a; apply Fin.ext
    match a with
    | ⟨0, _⟩ => show win0_5.index t (0 : Fin 2) * 1 + 1 * 0 = 0; omega
    | ⟨1, _⟩ => show win0_5.index t (1 : Fin 2) * 1024 + 1 * k.val = k.val; omega
  show V m c main_v0 (((cfg0.win 5).blk t).view.emb (ix2 0 k)) = _
  rw [e, V0]

/-- `G` of the arguments as launched. -/
def Gm (c : Dev nD) : Buf (Elt Ideal) ((c : Thread nD τ).loc main_v4) :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem flushed_eq (c : Dev nD) (t : Fin cfg0.N) :
    (dats m 0 c).flushed 6 t = ((cfg0.win 6).blk t).view.read (Elt Ideal) (Gm m c) := by
  rw [flushed6]
  funext j
  show out0_6 (iblk m c 0 t) (iblk m c 1 t) (iblk m c 2 t) (iblk m c 3 t) (iblk m c 4 t) (iblk m c 5 t) j
    = Gm m c (((cfg0.win 6).blk t).view.emb j)
  obtain ⟨u, r, d, rfl⟩ : ∃ (u : Fin 1) (r d : Fin 1024), j = ix3 u r d := ⟨j 0, j 1, j 2, eq_ix3 j⟩
  rw [emb6, out_apply]
  simp only [blk0, blk1, blk2, blk3, blk4, blk5]
  rfl

theorem covered (i : S4x8192x1024.Idx) :
    ∃ t : Fin cfg0.N, (cfg0.win 6).flush t = true ∧ i ∈ ((cfg0.win 6).blk t).view.set := by
  obtain ⟨b, s, d, rfl⟩ : ∃ (b : Fin 4) (s : Fin 8192) (d : Fin 1024), i = ix3 b s d := ⟨i 0, i 1, i 2, eq_ix3 i⟩
  refine ⟨⟨b.val * 8 + s.val / 1024, lt_of_lt_of_eq (b := 32) (by omega) N_0.symm⟩, flush0_6 _, ?_⟩
  have h := ((cfg0.win 6).blk (⟨b.val * 8 + s.val / 1024, lt_of_lt_of_eq (b := 32) (by omega) N_0.symm⟩ : Fin cfg0.N)).view.emb_mem_set
    (ix3 (0 : Fin 1) (⟨s.val % 1024, by omega⟩ : Fin 1024) d)
  rw [emb6] at h
  have hb : bat ⟨b.val * 8 + s.val / 1024, lt_of_lt_of_eq (b := 32) (by omega) N_0.symm⟩ = b :=
    Fin.ext (show (b.val * 8 + s.val / 1024) / 8 = b.val by omega)
  have hs : tok ⟨b.val * 8 + s.val / 1024, lt_of_lt_of_eq (b := 32) (by omega) N_0.symm⟩ ⟨s.val % 1024, by omega⟩ = s :=
    Fin.ext (show (b.val * 8 + s.val / 1024) % 8 * 1024 + s.val % 1024 = s.val by omega)
  rwa [hb, hs] at h

theorem final (c : Dev nD) : (dats m 0 c).arrAt 6 cfg0.N = Gm m c :=
  (dats m 0 c).arrAt_eq_of_cover 6 (Gm m c) (fun t _ => flushed_eq m c t) covered

end Cert.KernelIdeal.Ffn

end
-- ==== Proof.FfnRef.lean ====
/- The reference's result as the same function `G` of the argument arrays: one lemma per stage, at a row and a lane. -/
module

public import proofs.«01_k».proof.Proof.FfnVal
public import proofs.«01_k».proof.Proof.Gen.ReferenceIdeal.Read

@[expose] public section

set_option maxRecDepth 16384

noncomputable section

namespace Cert.ReferenceIdeal.Ffn

open Cert.ReferenceIdeal Cert.ReferenceIdeal.Read Cert.Ffn Idealize.ShloMosaic Idealize.ShloMosaic.TcCoe Idealize.SL.Sem

variable (x0 : Vec Ideal S4x8192x1024 .f32) (x1 : Vec Ideal S2x8x6x1024 .f32) (x2 : Vec Ideal S2x1024 .f32)
  (x3 : Vec Ideal S2x1024x4096 .f32) (x4 : Vec Ideal S2x4096x1024 .f32) (x5 : Vec Ideal S1024 .f32)

theorem c8 (b : Fin 4) : b.val < 8 := by omega

/-- The normalised and modulated row. -/
theorem h_apply (b : Fin 4) (s : Fin 8192) (k : Fin 1024) :
    val_main_v29 (F := Ideal) x0 x1 x2 (ix3 b s k)
      = hRow (fun k => x0 (ix3 b s k)) (fun k => x1 (ix4 1 ⟨b.val, c8 b⟩ 3 k)) (fun k => x1 (ix4 1 ⟨b.val, c8 b⟩ 4 k))
          (fun k => x2 (ix2 1 k)) k := by
  unfold val_main_v29 val_main_v28 val_main_v27 val_main_v26 val_main_v25 val_main_v24 val_main_cst_2 val_main_v23 val_main_v22
    val_main_v21 val_main_v20 val_main_v19 val_main_v18 val_main_v17 val_main_v16 val_main_cst_1 val_main_v15 val_main_v14
    val_main_cst_0 val_main_v13 val_main_v12 val_main_cst val_main_v11 val_main_v10 val_main_v9 val_main_v5 val_main_v4
    val_main_v3 val_main_v2 val_main_v1 val_main_v0
  pointwise []
  rfl

/-- The squared rectified hidden unit. -/
theorem a_apply (b : Fin 4) (s : Fin 8192) (n : Fin 4096) :
    val_main_v36 (F := Ideal) x0 x1 x2 x3 (ix3 b s n)
      = aRow (fun k => val_main_v29 (F := Ideal) x0 x1 x2 (ix3 b s k)) (fun k => x3 (ix3 1 k n)) := by
  unfold val_main_v36 val_main_v35 val_main_call0_v0 val_main_call0_cst val_main_v34 val_main_v31 val_main_v30
  generalize val_main_v29 (F := Ideal) x0 x1 x2 = h
  pointwise []
  rfl

/-- The row plus the gated block. -/
theorem y_apply (b : Fin 4) (s : Fin 8192) (d : Fin 1024) :
    val_main_v40 (F := Ideal) x0 x1 x2 x3 x4 (ix3 b s d)
      = yRow (fun k => x0 (ix3 b s k)) (fun k => x1 (ix4 1 ⟨b.val, c8 b⟩ 5 k))
          (fun n => val_main_v36 (F := Ideal) x0 x1 x2 x3 (ix3 b s n)) (fun n d => x4 (ix3 1 n d)) d := by
  unfold val_main_v40 val_main_v39 val_main_v38 val_main_v37 val_main_v33 val_main_v32 val_main_v8 val_main_v7 val_main_v6
  generalize val_main_v36 (F := Ideal) x0 x1 x2 x3 = h
  pointwise []
  rfl

/-- The last normalisation. -/
theorem o_apply (b : Fin 4) (s : Fin 8192) (d : Fin 1024) :
    val_main_v53 (F := Ideal) x0 x1 x2 x3 x4 x5 (ix3 b s d)
      = oRow (fun k => val_main_v40 (F := Ideal) x0 x1 x2 x3 x4 (ix3 b s k)) (fun k => x5 (ix1 k)) d := by
  unfold val_main_v53 val_main_v52 val_main_v51 val_main_v50 val_main_v49 val_main_v48 val_main_v47 val_main_v46 val_main_cst_5
    val_main_v45 val_main_v44 val_main_cst_4 val_main_v43 val_main_v42 val_main_cst_3 val_main_v41
  generalize val_main_v40 (F := Ideal) x0 x1 x2 x3 x4 = h
  pointwise []
  rfl

theorem val_eq : val_main_v53 (F := Ideal) x0 x1 x2 x3 x4 x5 = G x0 x1 x2 x3 x4 x5 := by
  funext j
  obtain ⟨b, s, d, rfl⟩ : ∃ (b : Fin 4) (s : Fin 8192) (d : Fin 1024), j = ix3 b s d := ⟨j 0, j 1, j 2, eq_ix3 j⟩
  rw [o_apply]
  simp only [y_apply, a_apply, h_apply]
  rfl

end Cert.ReferenceIdeal.Ffn

end
-- ==== Proof.Ffn0Val.lean ====
/- The first layer's feed-forward call, without the final norm: its result array as ONE function `G0` of the argument arrays, at the
   ideal instance. The row formulas are those of FfnRow.lean. -/
module

public import proofs.«01_k».proof.Proof.FfnRow
public import proofs.«01_k».proof.Proof.Gen.Kernel2Ideal.Value
public import Idealize.ShloMosaic.Lib.Pointwise
public import Idealize.ShloMosaic.Lib.StableHlo.Run
public import Idealize.ShloMosaic.Lib.Pipeline.ValueKit.Tiles

@[expose] public section

set_option maxRecDepth 16384

noncomputable section

namespace Cert.Ffn

open Idealize.ShloMosaic

/-- The block at one row, without the last normalisation. -/
def ffnRow0 (X SH SC GT G : Fin 1024 → EReal) (W1 : Fin 1024 → Fin 4096 → EReal) (W2 : Fin 4096 → Fin 1024 → EReal)
    (d : Fin 1024) : EReal :=
  yRow X GT (fun n => aRow (hRow X SH SC G) fun k => W1 k n) W2 d

/-- The result as one function of the arguments: row `(b, t)` of the first layer's feed-forward block. -/
def G0 (x : Vec Ideal ⟨3, ![4, 8192, 1024]⟩ .f32) (md : Vec Ideal ⟨4, ![2, 8, 6, 1024]⟩ .f32) (g : Vec Ideal ⟨2, ![2, 1024]⟩ .f32)
    (w1 : Vec Ideal ⟨3, ![2, 1024, 4096]⟩ .f32) (w2 : Vec Ideal ⟨3, ![2, 4096, 1024]⟩ .f32) :
    Vec Ideal ⟨3, ![4, 8192, 1024]⟩ .f32 := fun i =>
  ffnRow0 (fun k => x (ix3 (i 0) (i 1) k)) (fun k => md (ix4 0 ⟨(i 0).val, Nat.lt_trans (i 0).isLt (by decide)⟩ 3 k))
    (fun k => md (ix4 0 ⟨(i 0).val, Nat.lt_trans (i 0).isLt (by decide)⟩ 4 k)) (fun k => md (ix4 0 ⟨(i 0).val, Nat.lt_trans (i 0).isLt (by decide)⟩ 5 k))
    (fun k => g (ix2 0 k)) (fun k n => w1 (ix3 0 k n)) (fun n d => w2 (ix3 0 n d)) (i 2)

end Cert.Ffn

namespace Cert.Kernel2Ideal.Ffn

open Cert.Kernel2Ideal Cert.Kernel2Ideal.Gen Cert.Kernel2Ideal.Value Cert.Ffn Idealize.ShloMosaic Idealize.ShloMosaic.TcCoe Idealize.SL.Sem

theorem pay2_apply (v0 : Vec Ideal S1x1024x1024 .f32) (r k : Fin 1024) :
    k0_pay2 (F := Ideal) v0 (ix2 r k) = v0 (ix3 0 r k) := by
  pointwise [k0_pay2]

theorem pay3_apply (v0 : Vec Ideal S1x1024x1024 .f32) (v2 : Vec Ideal S1x1x1024 .f32) (v4 v6 : Vec Ideal S1x1x1x1024 .f32) (r k : Fin 1024) :
    k0_pay3 (F := Ideal) v0 v2 v4 v6 (ix2 r k)
      = hRow (fun k => v0 (ix3 0 r k)) (fun k => v4 (ix4 0 0 0 k)) (fun k => v6 (ix4 0 0 0 k)) (fun k => v2 (ix3 0 0 k)) k := by
  pointwise [k0_pay3, k0_pay2]
  rfl

theorem pay5_apply (v0 : Vec Ideal S1x1024x1024 .f32) (v2 : Vec Ideal S1x1x1024 .f32) (v4 v6 : Vec Ideal S1x1x1x1024 .f32)
    (w : Vec Ideal S1x1024x1024 .bf16) (r n : Fin 1024) :
    k0_pay5 (F := Ideal) v0 v2 v4 v6 w (ix2 r n) = aRow (fun k => k0_pay3 (F := Ideal) v0 v2 v4 v6 (ix2 r k)) (fun k => w (ix3 0 k n)) := by
  unfold k0_pay5
  generalize k0_pay3 (F := Ideal) v0 v2 v4 v6 = h
  pointwise []
  rfl

theorem pay7_apply (h : FVec Ideal S1024x1024 .bf16) (w : Vec Ideal S1x1024x1024 .bf16) (r n : Fin 1024) :
    k0_pay7 (F := Ideal) h w (ix2 r n) = aRow (fun k => h (ix2 r k)) (fun k => w (ix3 0 k n)) := by
  pointwise [k0_pay7]
  rfl

theorem pay6_apply (h : FVec Ideal S1024x1024 .bf16) (z a : FVec Ideal S1024x1024 .f32) (u0 w1 u1 w2 u2 : Vec Ideal S1x1024x1024 .bf16) (r d : Fin 1024) :
    k0_pay6 (F := Ideal) h z a u0 w1 u1 w2 u2 (ix2 r d)
      = ((z (ix2 r d) + ∑ n : Fin 1024, a (ix2 r n) * u0 (ix3 0 n d))
          + ∑ n : Fin 1024, aRow (fun k => h (ix2 r k)) (fun k => w1 (ix3 0 k n)) * u1 (ix3 0 n d))
          + ∑ n : Fin 1024, aRow (fun k => h (ix2 r k)) (fun k => w2 (ix3 0 k n)) * u2 (ix3 0 n d) := by
  pointwise [k0_pay6]
  rfl

theorem pay1_apply (v1 v60 v66 : FVec Ideal S1024x1024 .f32) (v68 : Vec Ideal S1x1024x1024 .bf16) (v72 : Vec Ideal S1x1x1x1024 .f32)
    (u : Fin 1) (r d : Fin 1024) :
    k0_pay1 (F := Ideal) v1 v60 v66 v68 v72 (ix3 u r d)
      = v1 (ix2 r d) + v72 (ix4 0 0 0 d) * (v60 (ix2 r d) + ∑ n : Fin 1024, v66 (ix2 r n) * v68 (ix3 0 n d)) := by
  pointwise [k0_pay1]

theorem hz3 : (![0, 0, 0] : Fin 3 → Nat) = fun _ => 0 := funext fun a => by fin_cases a <;> rfl

/-! ## The loads -/

theorem ldM (x1 : Vec Ideal S1x1x6x1024 .f32) (o : Nat) (ho : o < 6) (inb) (k : Fin 1024) :
    View.ld x1 (Rect.unit (s := S1x1x6x1024) ![0, 0, o, 0] S1x1x1x1024.size inb) (ix4 0 0 0 k) = x1 (ix4 0 0 ⟨o, ho⟩ k) :=
  View.ld_unit_apply_of _ _ _ _ _ _ fun a => by
    match a with
    | ⟨0, _⟩ => rfl
    | ⟨1, _⟩ => rfl
    | ⟨2, _⟩ => rfl
    | ⟨3, _⟩ => exact (Nat.zero_add _).symm

theorem ldW1 (x3 : Vec Ideal S1x1024x4096 .bf16) (o : Nat) (ho : o ≤ 3072) (inb) (k n : Fin 1024) :
    View.ld x3 (Rect.unit (s := S1x1024x4096) ![0, 0, o] S1x1024x1024.size inb) (ix3 0 k n) = x3 (ix3 0 k ⟨o + n.val, by omega⟩) :=
  View.ld_unit_apply_of _ _ _ _ _ _ fun a => by
    match a with
    | ⟨0, _⟩ => rfl
    | ⟨1, _⟩ => exact (Nat.zero_add _).symm
    | ⟨2, _⟩ => rfl

theorem ldW2 (x4 : Vec Ideal S1x4096x1024 .bf16) (o : Nat) (ho : o ≤ 3072) (inb) (n d : Fin 1024) :
    View.ld x4 (Rect.unit (s := S1x4096x1024) ![0, o, 0] S1x1024x1024.size inb) (ix3 0 n d) = x4 (ix3 0 ⟨o + n.val, by omega⟩ d) :=
  View.ld_unit_apply_of _ _ _ _ _ _ fun a => by
    match a with
    | ⟨0, _⟩ => rfl
    | ⟨1, _⟩ => rfl
    | ⟨2, _⟩ => exact (Nat.zero_add _).symm

/-- What the body leaves in the result's block, at row `r` and lane `d`. -/
theorem out_apply (x0 : Vec Ideal S1x1024x1024 .f32) (x1 : Vec Ideal S1x1x6x1024 .f32) (x2 : Vec Ideal S1x1x1024 .f32)
    (x3 : Vec Ideal S1x1024x4096 .bf16) (x4 : Vec Ideal S1x4096x1024 .bf16) (x5 : Vec Ideal S1x1024 .f32) (u : Fin 1) (r d : Fin 1024) :
    out0_6 x0 x1 x2 x3 x4 x5 (ix3 u r d)
      = ffnRow0 (fun k => x0 (ix3 0 r k)) (fun k => x1 (ix4 0 0 3 k)) (fun k => x1 (ix4 0 0 4 k)) (fun k => x1 (ix4 0 0 5 k))
          (fun k => x2 (ix3 0 0 k)) (fun k n => x3 (ix3 0 k n)) (fun n d => x4 (ix3 0 n d)) d := by
  unfold out0_6 k0_pay8
  rw [View.canon_unit_zero hz3, View.ld_unit_zero hz3, View.ld_unit_zero hz3, pay1_apply]
  unfold ffnRow0 yRow
  rw [sum_chunks, pay6_apply, pay2_apply, show k0_pay4 (F := Ideal) (ix2 r d) = 0 by pointwise [k0_pay4]]
  simp only [pay5_apply, pay7_apply, pay3_apply, ldM x1 3 (by decide), ldM x1 4 (by decide), ldM x1 5 (by decide),
    ldW1 x3 0 (by decide), ldW1 x3 1024 (by decide), ldW1 x3 2048 (by decide), ldW1 x3 3072 (by decide),
    ldW2 x4 0 (by decide), ldW2 x4 1024 (by decide), ldW2 x4 2048 (by decide), ldW2 x4 3072 (by decide), Nat.zero_add]
  rfl

/-! ## The windows' blocks -/

variable (m : (ℓ : Loc nD τ sig) → Buf (Elt Ideal) ℓ) (ρ : Dev nD → PrngReg)

theorem V1 (c : Dev nD) (l : Fin 2) (k : Fin 1024) : V m c main_v1 (ix3 l 0 k) = m ((c : Thread nD τ).loc main_arg2) (ix2 l k) := by
  have h : V m c main_v1 = shapeCast S2x1x1024 (m ((c : Thread nD τ).loc main_arg2)) shapeCasts_S2x1024_S2x1x1024 := by
    show StableHlo.after hostOps0 (fun b => m (c, b)) (Proc.devRef .tc main_v1) = _
    after_results; rfl
  rw [h]; pointwise []

theorem V2 (c : Dev nD) : V m c main_v2 = (m ((c : Thread nD τ).loc main_arg3) : S2x1024x4096.Idx → EReal) := by
  show StableHlo.after hostOps0 (fun b => m (c, b)) (Proc.devRef .tc main_v2) = _
  after_results; rfl

theorem V3 (c : Dev nD) : V m c main_v3 = (m ((c : Thread nD τ).loc main_arg4) : S2x4096x1024.Idx → EReal) := by
  show StableHlo.after hostOps0 (fun b => m (c, b)) (Proc.devRef .tc main_v3) = _
  after_results; rfl

theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 4) = 0 ∧ win0_1.index t (1 : Fin 4) = t.val / 8 ∧ win0_1.index t (2 : Fin 4) = 0 ∧ win0_1.index t (3 : Fin 4) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx6 : ∀ t : Fin cfg0.N, win0_6.index t (0 : Fin 3) = t.val / 8 ∧ win0_6.index t (1 : Fin 3) = t.val % 8 ∧ win0_6.index t (2 : Fin 3) = 0 :=
  (by decide +kernel : ∀ t : Fin grid0.N, _)

theorem t_lt (t : Fin cfg0.N) : t.val < 32 := lt_of_lt_of_eq t.isLt N_0

/-- The batch and the token of row `r` of point `t`'s block. -/
def bat (t : Fin cfg0.N) : Fin 4 := ⟨t.val / 8, by have := t_lt t; omega⟩
def tok (t : Fin cfg0.N) (r : Fin 1024) : Fin 8192 := ⟨t.val % 8 * 1024 + r.val, by omega⟩

theorem emb0 (t : Fin cfg0.N) (u : Fin 1) (r k : Fin 1024) : ((cfg0.win 0).blk t).view.emb (ix3 u r k) = ix3 (bat t) (tok t r) k := by
  obtain ⟨e0, e1, e2⟩ := idx0 t
  have hu : u.val = 0 := by omega
  funext a; apply Fin.ext
  match a with
  | ⟨0, _⟩ => show win0_0.index t (0 : Fin 3) * 1 + 1 * u.val = t.val / 8; omega
  | ⟨1, _⟩ => show win0_0.index t (1 : Fin 3) * 1024 + 1 * r.val = t.val % 8 * 1024 + r.val; omega
  | ⟨2, _⟩ => show win0_0.index t (2 : Fin 3) * 1024 + 1 * k.val = k.val; omega

theorem emb6 (t : Fin cfg0.N) (u : Fin 1) (r k : Fin 1024) : ((cfg0.win 6).blk t).view.emb (ix3 u r k) = ix3 (bat t) (tok t r) k := by
  obtain ⟨e0, e1, e2⟩ := idx6 t
  have hu : u.val = 0 := by omega
  funext a; apply Fin.ext
  match a with
  | ⟨0, _⟩ => show win0_6.index t (0 : Fin 3) * 1 + 1 * u.val = t.val / 8; omega
  | ⟨1, _⟩ => show win0_6.index t (1 : Fin 3) * 1024 + 1 * r.val = t.val % 8 * 1024 + r.val; omega
  | ⟨2, _⟩ => show win0_6.index t (2 : Fin 3) * 1024 + 1 * k.val = k.val; omega

theorem blk0 (c : Dev nD) (t : Fin cfg0.N) (r k : Fin 1024) :
    iblk m c 0 t (ix3 0 r k) = m ((c : Thread nD τ).loc main_arg0) (ix3 (bat t) (tok t r) k) := by
  show V m c main_arg0 (((cfg0.win 0).blk t).view.emb (ix3 0 r k)) = _
  rw [emb0, V_main_arg0]

theorem blk1 (c : Dev nD) (t : Fin cfg0.N) (o : Fin 6) (k : Fin 1024) :
    iblk m c 1 t (ix4 0 0 o k) = m ((c : Thread nD τ).loc main_arg1) (ix4 0 ⟨(bat t).val, Nat.lt_trans (bat t).isLt (by decide)⟩ o k) := by
  obtain ⟨e0, e1, e2, e3⟩ := idx1 t
  have e : ((cfg0.win 1).blk t).view.emb (ix4 0 0 o k) = ix4 0 ⟨(bat t).val, Nat.lt_trans (bat t).isLt (by decide)⟩ o k := by
    funext a; apply Fin.ext
    match a with
    | ⟨0, _⟩ => show win0_1.index t (0 : Fin 4) * 1 + 1 * 0 = 0; omega
    | ⟨1, _⟩ => show win0_1.index t (1 : Fin 4) * 1 + 1 * 0 = t.val / 8; omega
    | ⟨2, _⟩ => show win0_1.index t (2 : Fin 4) * 6 + 1 * o.val = o.val; omega
    | ⟨3, _⟩ => show win0_1.index t (3 : Fin 4) * 1024 + 1 * k.val = k.val; omega
  show V m c main_arg1 (((cfg0.win 1).blk t).view.emb (ix4 0 0 o k)) = _
  rw [e, V_main_arg1]

theorem blk2 (c : Dev nD) (t : Fin cfg0.N) (k : Fin 1024) :
    iblk m c 2 t (ix3 0 0 k) = m ((c : Thread nD τ).loc main_arg2) (ix2 0 k) := by
  obtain ⟨e0, e1, e2⟩ := idx2 t
  have e : ((cfg0.win 2).blk t).view.emb (ix3 0 0 k) = ix3 0 0 k := by
    funext a; apply Fin.ext
    match a with
    | ⟨0, _⟩ => show win0_2.index t (0 : Fin 3) * 1 + 1 * 0 = 0; omega
    | ⟨1, _⟩ => show win0_2.index t (1 : Fin 3) * 1 + 1 * 0 = 0; omega
    | ⟨2, _⟩ => show win0_2.index t (2 : Fin 3) * 1024 + 1 * k.val = k.val; omega
  show V m c main_v1 (((cfg0.win 2).blk t).view.emb (ix3 0 0 k)) = _
  rw [e, V1]

theorem blk3 (c : Dev nD) (t : Fin cfg0.N) (k : Fin 1024) (n : Fin 4096) :
    iblk m c 3 t (ix3 0 k n) = m ((c : Thread nD τ).loc main_arg3) (ix3 0 k n) := by
  obtain ⟨e0, e1, e2⟩ := idx3 t
  have e : ((cfg0.win 3).blk t).view.emb (ix3 0 k n) = ix3 0 k n := by
    funext a; apply Fin.ext
    match a with
    | ⟨0, _⟩ => show win0_3.index t (0 : Fin 3) * 1 + 1 * 0 = 0; omega
    | ⟨1, _⟩ => show win0_3.index t (1 : Fin 3) * 1024 + 1 * k.val = k.val; omega
    | ⟨2, _⟩ => show win0_3.index t (2 : Fin 3) * 4096 + 1 * n.val = n.val; omega
  show V m c main_v2 (((cfg0.win 3).blk t).view.emb (ix3 0 k n)) = _
  rw [e, V2]

theorem blk4 (c : Dev nD) (t : Fin cfg0.N) (n : Fin 4096) (k : Fin 1024) :
    iblk m c 4 t (ix3 0 n k) = m ((c : Thread nD τ).loc main_arg4) (ix3 0 n k) := by
  obtain ⟨e0, e1, e2⟩ := idx4 t
  have e : ((cfg0.win 4).blk t).view.emb (ix3 0 n k) = ix3 0 n k := by
    funext a; apply Fin.ext
    match a with
    | ⟨0, _⟩ => show win0_4.index t (0 : Fin 3) * 1 + 1 * 0 = 0; omega
    | ⟨1, _⟩ => show win0_4.index t (1 : Fin 3) * 4096 + 1 * n.val = n.val; omega
    | ⟨2, _⟩ => show win0_4.index t (2 : Fin 3) * 1024 + 1 * k.val = k.val; omega
  show V m c main_v3 (((cfg0.win 4).blk t).view.emb (ix3 0 n k)) = _
  rw [e, V3]

/-- `G0` of the arguments as launched. -/
def Gm (c : Dev nD) : Buf (Elt Ideal) ((c : Thread nD τ).loc main_v4) :=
  G0 (m ((c : Thread nD τ).loc main_arg0)) (m ((c : Thread nD τ).loc main_arg1)) (m ((c : Thread nD τ).loc main_arg2))
    (m ((c : Thread nD τ).loc main_arg3)) (m ((c : Thread nD τ).loc main_arg4))

theorem flushed_eq (c : Dev nD) (t : Fin cfg0.N) :
    (dats m 0 c).flushed 6 t = ((cfg0.win 6).blk t).view.read (Elt Ideal) (Gm m c) := by
  rw [flushed6]
  funext j
  show out0_6 (iblk m c 0 t) (iblk m c 1 t) (iblk m c 2 t) (iblk m c 3 t) (iblk m c 4 t) (iblk m c 5 t) j
    = Gm m c (((cfg0.win 6).blk t).view.emb j)
  obtain ⟨u, r, d, rfl⟩ : ∃ (u : Fin 1) (r d : Fin 1024), j = ix3 u r d := ⟨j 0, j 1, j 2, eq_ix3 j⟩
  rw [emb6, out_apply]
  simp only [blk0, blk1, blk2, blk3, blk4]
  rfl

theorem covered (i : S4x8192x1024.Idx) :
    ∃ t : Fin cfg0.N, (cfg0.win 6).flush t = true ∧ i ∈ ((cfg0.win 6).blk t).view.set := by
  obtain ⟨b, s, d, rfl⟩ : ∃ (b : Fin 4) (s : Fin 8192) (d : Fin 1024), i = ix3 b s d := ⟨i 0, i 1, i 2, eq_ix3 i⟩
  refine ⟨⟨b.val * 8 + s.val / 1024, lt_of_lt_of_eq (b := 32) (by omega) N_0.symm⟩, flush0_6 _, ?_⟩
  have h := ((cfg0.win 6).blk (⟨b.val * 8 + s.val / 1024, lt_of_lt_of_eq (b := 32) (by omega) N_0.symm⟩ : Fin cfg0.N)).view.emb_mem_set
    (ix3 (0 : Fin 1) (⟨s.val % 1024, by omega⟩ : Fin 1024) d)
  rw [emb6] at h
  have hb : bat ⟨b.val * 8 + s.val / 1024, lt_of_lt_of_eq (b := 32) (by omega) N_0.symm⟩ = b :=
    Fin.ext (show (b.val * 8 + s.val / 1024) / 8 = b.val by omega)
  have hs : tok ⟨b.val * 8 + s.val / 1024, lt_of_lt_of_eq (b := 32) (by omega) N_0.symm⟩ ⟨s.val % 1024, by omega⟩ = s :=
    Fin.ext (show (b.val * 8 + s.val / 1024) % 8 * 1024 + s.val % 1024 = s.val by omega)
  rwa [hb, hs] at h

theorem final (c : Dev nD) : (dats m 0 c).arrAt 6 cfg0.N = Gm m c :=
  (dats m 0 c).arrAt_eq_of_cover 6 (Gm m c) (fun t _ => flushed_eq m c t) covered

end Cert.Kernel2Ideal.Ffn

end
-- ==== Proof.Ffn0Ref.lean ====
/- The reference's result as the same function `G0` of the argument arrays: one lemma per stage, at a row and a lane. -/
module

public import proofs.«01_k».proof.Proof.Ffn0Val
public import proofs.«01_k».proof.Proof.Gen.Reference2Ideal.Read
public import Idealize.ShloMosaic.Lib.Pointwise

@[expose] public section

set_option maxRecDepth 16384

noncomputable section

namespace Cert.Reference2Ideal.Ffn

open Cert.Reference2Ideal Cert.Reference2Ideal.Read Cert.Ffn Idealize.ShloMosaic Idealize.ShloMosaic.TcCoe Idealize.SL.Sem

variable (x0 : Vec Ideal S4x8192x1024 .f32) (x1 : Vec Ideal S2x8x6x1024 .f32) (x2 : Vec Ideal S2x1024 .f32)
  (x3 : Vec Ideal S2x1024x4096 .f32) (x4 : Vec Ideal S2x4096x1024 .f32)

theorem c8 (b : Fin 4) : b.val < 8 := by omega

/-- The normalised and modulated row. -/
theorem h_apply (b : Fin 4) (s : Fin 8192) (k : Fin 1024) :
    val_main_v29 (F := Ideal) x0 x1 x2 (ix3 b s k)
      = hRow (fun k => x0 (ix3 b s k)) (fun k => x1 (ix4 0 ⟨b.val, c8 b⟩ 3 k)) (fun k => x1 (ix4 0 ⟨b.val, c8 b⟩ 4 k))
          (fun k => x2 (ix2 0 k)) k := by
  unfold val_main_v29 val_main_v28 val_main_v27 val_main_v26 val_main_v25 val_main_v24 val_main_cst_2 val_main_v23 val_main_v22
    val_main_v21 val_main_v20 val_main_v19 val_main_v18 val_main_v17 val_main_v16 val_main_cst_1 val_main_v15 val_main_v14
    val_main_cst_0 val_main_v13 val_main_v12 val_main_cst val_main_v11 val_main_v10 val_main_v9 val_main_v5 val_main_v4
    val_main_v3 val_main_v2 val_main_v1 val_main_v0
  pointwise []
  rfl

/-- The squared rectified hidden unit. -/
theorem a_apply (b : Fin 4) (s : Fin 8192) (n : Fin 4096) :
    val_main_v36 (F := Ideal) x0 x1 x2 x3 (ix3 b s n)
      = aRow (fun k => val_main_v29 (F := Ideal) x0 x1 x2 (ix3 b s k)) (fun k => x3 (ix3 0 k n)) := by
  unfold val_main_v36 val_main_v35 val_main_call0_v0 val_main_call0_cst val_main_v34 val_main_v31 val_main_v30
  generalize val_main_v29 (F := Ideal) x0 x1 x2 = h
  pointwise []
  rfl

/-- The row plus the gated block. -/
theorem y_apply (b : Fin 4) (s : Fin 8192) (d : Fin 1024) :
    val_main_v40 (F := Ideal) x0 x1 x2 x3 x4 (ix3 b s d)
      = yRow (fun k => x0 (ix3 b s k)) (fun k => x1 (ix4 0 ⟨b.val, c8 b⟩ 5 k))
          (fun n => val_main_v36 (F := Ideal) x0 x1 x2 x3 (ix3 b s n)) (fun n d => x4 (ix3 0 n d)) d := by
  unfold val_main_v40 val_main_v39 val_main_v38 val_main_v37 val_main_v33 val_main_v32 val_main_v8 val_main_v7 val_main_v6
  generalize val_main_v36 (F := Ideal) x0 x1 x2 x3 = h
  pointwise []
  rfl

theorem val_eq : val_main_v40 (F := Ideal) x0 x1 x2 x3 x4 = G0 x0 x1 x2 x3 x4 := by
  funext j
  obtain ⟨b, s, d, rfl⟩ : ∃ (b : Fin 4) (s : Fin 8192) (d : Fin 1024), j = ix3 b s d := ⟨j 0, j 1, j 2, eq_ix3 j⟩
  rw [y_apply]
  simp only [a_apply, h_apply]
  rfl

end Cert.Reference2Ideal.Ffn

end
-- ==== Proof.MergeRow.lean ====
/- The gated merge row by row, at the ideal instance: what each payload of the body computes at a row and a lane, and the
   block the body leaves as one function `mergeRow` of the row's data. -/
module

public import proofs.«01_k».proof.Proof.Gen.Kernel3Ideal.Value
public import Idealize.ShloMosaic.Lib.Pointwise

@[expose] public section

set_option maxRecDepth 16384

noncomputable section

namespace Cert.Merge

open Idealize.ShloMosaic

/-- One half, as the float word that both programs write. -/
abbrev half : EReal := Ideal.ofBits .f32 0x3F000000#32

/-- The kernel's sigmoid, by the hyperbolic tangent. -/
def sigT (z : EReal) : EReal := half * Ideal.tanh (half * z) + half

/-- The tanh form of the gelu. -/
def gelu (y : EReal) : EReal :=
  half * y * (1 + Ideal.tanh (Ideal.ofBits .f32 0x3F4C422A#32 * (y + Ideal.ofBits .f32 0x3D372713#32 * (y * y * y))))

/-- The S5 branch of a row: gelu, times the sigmoid of its projection. -/
def sRow (Y : Fin 256 → EReal) (WG : Fin 256 → Fin 256 → EReal) (n : Fin 256) : EReal :=
  gelu (Y n) * Ideal.logistic (∑ k : Fin 256, gelu (Y k) * WG k n)

/-- One branch of the merge, gated: the sigmoid of the row's gate times the branch's projection. -/
def gated {n : Nat} (H : Fin 1024 → EReal) (WH : Fin 1024 → Fin 1024 → EReal) (A : Fin n → EReal) (W : Fin n → Fin 1024 → EReal)
    (d : Fin 1024) : EReal :=
  Ideal.logistic (∑ k : Fin 1024, H k * WH k d) * ∑ k : Fin n, A k * W k d

/-- The whole merge at one row. -/
def mergeRow (X GT H : Fin 1024 → EReal) (FA Y : Fin 256 → EReal) (NC : Fin 512 → EReal) (WG : Fin 256 → Fin 256 → EReal)
    (WH : Fin 3 → Fin 1024 → Fin 1024 → EReal) (WA WB : Fin 256 → Fin 1024 → EReal) (WC : Fin 512 → Fin 1024 → EReal)
    (WO : Fin 1024 → Fin 1024 → EReal) (d : Fin 1024) : EReal :=
  X d + GT d * ∑ k : Fin 1024,
    (gated H (WH 0) FA WA k + gated H (WH 1) (sRow Y WG) WB k + gated H (WH 2) NC WC k) * WO k d

theorem half_eq : half = ((1 / 2 : ℝ) : EReal) := by
  show Ideal.ieee 8 23 0x3F000000#32 = _
  have h1 : (1056964608 >>> 23 % 256 : Nat) = 126 := by decide
  have h2 : (BitVec.extractLsb' 31 1 1056964608#32 = 1#1) = False := by decide
  norm_num [Ideal.ieee, h1, h2]

/-- The sigmoid by the hyperbolic tangent is the logistic function, at the infinities too. -/
theorem sigT_eq (z : EReal) : sigT z = Ideal.logistic z := by
  unfold sigT
  rw [half_eq]
  induction z with
  | bot =>
    rw [EReal.coe_mul_bot_of_pos (by norm_num), Ideal.tanh_bot, Ideal.logistic_bot, ← EReal.coe_one, ← EReal.coe_neg,
      ← EReal.coe_mul, ← EReal.coe_add, ← EReal.coe_zero]
    congr 1; norm_num
  | top =>
    rw [EReal.coe_mul_top_of_pos (by norm_num), Ideal.tanh_top, Ideal.logistic_top, ← EReal.coe_one, ← EReal.coe_mul, ← EReal.coe_add]
    congr 1; norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have e : Real.exp (-r) = Real.exp (-(1 / 2 * r)) * Real.exp (-(1 / 2 * r)) := by rw [← Real.exp_add]; congr 1; ring
    have e1 : Real.exp (1 / 2 * r) = (Real.exp (-(1 / 2 * r)))⁻¹ := by rw [Real.exp_neg, inv_inv]
    rw [e, e1]
    have h2 := Real.exp_pos (-(1 / 2 * r))
    generalize Real.exp (-(1 / 2 * r)) = b at h2
    have h3 : (1 + b * b) ≠ 0 := by positivity
    have h4 : b⁻¹ + b ≠ 0 := by positivity
    field_simp
    ring

end Cert.Merge

namespace Cert.Kernel3Ideal.Merge

open Cert.Kernel3Ideal Cert.Kernel3Ideal.Gen Cert.Merge Idealize.ShloMosaic Idealize.ShloMosaic.TcCoe Idealize.SL.Sem

theorem pay1_apply (v : Vec Ideal S1x1024x1024 .f32) (r k : Fin 1024) : k0_pay1 (F := Ideal) v (ix2 r k) = v (ix3 0 r k) := by
  pointwise [k0_pay1]

theorem pay2_apply (v : Vec Ideal S1x1024x1024 .bf16) (r k : Fin 1024) : k0_pay2 (F := Ideal) v (ix2 r k) = v (ix3 0 r k) := by
  pointwise [k0_pay2]

theorem pay3_apply (v4 : Vec Ideal S1024x256 .bf16) (v6 : Vec Ideal S1x1x256 .f32) (v10 v13 : Vec Ideal S1024x256 .bf16)
    (r : Fin 1024) (n : Fin 256) :
    k0_pay3 (F := Ideal) v4 v6 v10 v13 (ix2 r n)
      = gelu (v4 (ix2 r n) * v6 (ix3 0 0 n) + v10 (ix2 r n) + v13 (ix2 r n)) := by
  pointwise [k0_pay3]
  rfl

theorem pay4_apply (v4 : Vec Ideal S1024x256 .bf16) (v6 : Vec Ideal S1x1x256 .f32) (v10 v13 : Vec Ideal S1024x256 .bf16)
    (v30 : Vec Ideal S1x256x256 .bf16) (r : Fin 1024) (n : Fin 256) :
    k0_pay4 (F := Ideal) v4 v6 v10 v13 v30 (ix2 r n)
      = ∑ k : Fin 256, k0_pay3 (F := Ideal) v4 v6 v10 v13 (ix2 r k) * v30 (ix3 0 k n) := by
  unfold k0_pay4
  generalize k0_pay3 (F := Ideal) v4 v6 v10 v13 = h
  pointwise []

theorem pay8_apply (v28 v32 : FVec Ideal S1024x256 .f32) (r : Fin 1024) (n : Fin 256) :
    k0_pay8 (F := Ideal) v28 v32 (k0_pay5 (F := Ideal)) (ix2 r n) = v28 (ix2 r n) * Ideal.logistic (v32 (ix2 r n)) := by
  rw [← sigT_eq]
  pointwise [k0_pay8, k0_pay5]
  rfl

theorem pay6_apply (v3 : FVec Ideal S1024x1024 .bf16) (v41 : Vec Ideal S1x1024x1024 .bf16) (v51 : Vec Ideal S1x1024x256 .bf16)
    (v53 : Vec Ideal S1x256x1024 .bf16) (r d : Fin 1024) :
    k0_pay6 (F := Ideal) v3 v41 v51 v53 (ix2 r d)
      = gated (fun k => v3 (ix2 r k)) (fun k d => v41 (ix3 0 k d)) (fun k => v51 (ix3 0 r k)) (fun k d => v53 (ix3 0 k d)) d := by
  unfold gated
  rw [← sigT_eq]
  pointwise [k0_pay6]
  rfl

theorem pay7_apply (v3 : FVec Ideal S1024x1024 .bf16) (v57 : Vec Ideal S1x1024x1024 .bf16) (r d : Fin 1024) :
    k0_pay7 (F := Ideal) v3 v57 (ix2 r d) = Ideal.logistic (∑ k : Fin 1024, v3 (ix2 r k) * v57 (ix3 0 k d)) := by
  rw [← sigT_eq]
  pointwise [k0_pay7]
  rfl

theorem pay9_apply (v1 : FVec Ideal S1024x1024 .f32) (v3 : FVec Ideal S1024x1024 .bf16) (v56 v66 : FVec Ideal S1024x1024 .f32)
    (v67 : FVec Ideal S1024x256 .bf16) (v68 : Vec Ideal S1x256x1024 .bf16) (v73 : Vec Ideal S1x1024x1024 .bf16)
    (v83 : Vec Ideal S1x1024x512 .bf16) (v85 : Vec Ideal S1x512x1024 .bf16) (v90 : Vec Ideal S1x1x1x1024 .f32)
    (v93 : Vec Ideal S1x1024x1024 .bf16) (u : Fin 1) (r d : Fin 1024) :
    k0_pay9 (F := Ideal) v1 v3 v56 v66 v67 v68 v73 v83 v85 v90 v93 (ix3 u r d)
      = v1 (ix2 r d) + v90 (ix4 0 0 0 d) * ∑ k : Fin 1024,
          ((v56 (ix2 r k) + v66 (ix2 r k) * ∑ n : Fin 256, v67 (ix2 r n) * v68 (ix3 0 n k))
            + gated (fun k => v3 (ix2 r k)) (fun k d => v73 (ix3 0 k d)) (fun k => v83 (ix3 0 r k)) (fun k d => v85 (ix3 0 k d)) k)
          * v93 (ix3 0 k d) := by
  unfold gated
  simp only [← sigT_eq]
  pointwise [k0_pay9]
  rfl

end Cert.Kernel3Ideal.Merge

end
-- ==== Proof.MergeVal.lean ====
/- The merge call's result array as ONE function `G` of the argument arrays, at the ideal instance: the block the body leaves
   is `mergeRow` of the row's data (`out_apply`); each window's block at a grid point is its array at an offset (`blkN`);
   the arrays that the host prepares are the arguments; the blocks cover the result. -/
module

public import proofs.«01_k».proof.Proof.MergeRow
public import Idealize.ShloMosaic.Lib.StableHlo.Run
public import Idealize.ShloMosaic.Lib.Pipeline.ValueKit.Tiles

@[expose] public section

set_option maxRecDepth 16384

noncomputable section

namespace Cert.Merge

open Idealize.ShloMosaic

/-- The S5 branch's input at a token: the drive times its skip weight, plus the two directions' readouts. The three arrays
    are time by (batch, channel); the skip weights are group by channel of the group. -/
def yRow (u yf yr : Vec Ideal ⟨2, ![8192, 1024]⟩ .bf16) (sd : Vec Ideal ⟨3, ![2, 16, 16]⟩ .f32) (b : Fin 4) (s : Fin 8192) (n : Fin 256) :
    EReal :=
  u (ix2 s ⟨b.val * 256 + n.val, by omega⟩) * sd (ix3 0 ⟨n.val / 16, by omega⟩ ⟨n.val % 16, by omega⟩)
    + yf (ix2 s ⟨b.val * 256 + n.val, by omega⟩) + yr (ix2 s ⟨b.val * 256 + n.val, by omega⟩)

/-- The result as one function of the arguments: row `(b, s)` of the first layer's gated merge, added to the stream. -/
def G (x : Vec Ideal ⟨3, ![4, 8192, 1024]⟩ .f32) (md : Vec Ideal ⟨4, ![2, 8, 6, 1024]⟩ .f32) (h : Vec Ideal ⟨3, ![4, 8192, 1024]⟩ .bf16)
    (fa : Vec Ideal ⟨3, ![4, 8192, 256]⟩ .bf16) (u yf yr : Vec Ideal ⟨2, ![8192, 1024]⟩ .bf16) (nc : Vec Ideal ⟨3, ![4, 8192, 512]⟩ .bf16)
    (sd : Vec Ideal ⟨3, ![2, 16, 16]⟩ .f32) (wg : Vec Ideal ⟨3, ![2, 256, 256]⟩ .f32) (wi : Vec Ideal ⟨3, ![2, 1024, 5120]⟩ .f32)
    (wa wb : Vec Ideal ⟨3, ![2, 256, 1024]⟩ .f32) (wc : Vec Ideal ⟨3, ![2, 512, 1024]⟩ .f32) (wo : Vec Ideal ⟨3, ![2, 1024, 1024]⟩ .f32) :
    Vec Ideal ⟨3, ![4, 8192, 1024]⟩ .f32 := fun i =>
  mergeRow (fun k => x (ix3 (i 0) (i 1) k)) (fun k => md (ix4 0 ⟨(i 0).val, Nat.lt_trans (i 0).isLt (by decide)⟩ 2 k))
    (fun k => h (ix3 (i 0) (i 1) k)) (fun k => fa (ix3 (i 0) (i 1) k)) (fun n => yRow u yf yr sd (i 0) (i 1) n)
    (fun k => nc (ix3 (i 0) (i 1) k)) (fun k n => wg (ix3 0 k n)) (fun j k d => wi (ix3 0 k ⟨2048 + 1024 * j.val + d.val, by omega⟩))
    (fun k d => wa (ix3 0 k d)) (fun k d => wb (ix3 0 k d)) (fun k d => wc (ix3 0 k d)) (fun k d => wo (ix3 0 k d)) (i 2)

end Cert.Merge

namespace Cert.Kernel3Ideal.Merge

open Cert.Kernel3Ideal Cert.Kernel3Ideal.Gen Cert.Kernel3Ideal.Value Cert.Merge Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

theorem ldM (x1 : Vec Ideal S1x1x6x1024 .f32) (k : Fin 1024) :
    View.ld x1 r0_8 (ix4 0 0 0 k) = x1 (ix4 0 0 2 k) :=
  View.ld_unit_apply_of _ _ _ _ _ _ fun a => by
    match a with
    | ⟨0, _⟩ => rfl
    | ⟨1, _⟩ => rfl
    | ⟨2, _⟩ => rfl
    | ⟨3, _⟩ => exact (Nat.zero_add _).symm

theorem l0 {e : EltTy} (X : Vec Ideal S1x1024x1024 e) : View.ld X r0_0 = X := View.ld_unit_zero hz3 _ X
theorem l1 {e : EltTy} (X : Vec Ideal S1024x256 e) : View.ld X r0_1 = X := View.ld_unit_zero hz2 _ X
theorem l2 {e : EltTy} (X : Vec Ideal S1x1x256 e) : View.ld X r0_2 = X := View.ld_unit_zero hz3 _ X
theorem l3 {e : EltTy} (X : Vec Ideal S1x256x256 e) : View.ld X r0_3 = X := View.ld_unit_zero hz3 _ X
theorem l4 {e : EltTy} (X : Vec Ideal S1x1024x256 e) : View.ld X r0_4 = X := View.ld_unit_zero hz3 _ X
theorem l5 {e : EltTy} (X : Vec Ideal S1x256x1024 e) : View.ld X r0_5 = X := View.ld_unit_zero hz3 _ X
theorem l6 {e : EltTy} (X : Vec Ideal S1x1024x512 e) : View.ld X r0_6 = X := View.ld_unit_zero hz3 _ X
theorem l7 {e : EltTy} (X : Vec Ideal S1x512x1024 e) : View.ld X r0_7 = X := View.ld_unit_zero hz3 _ X

/-- What the body leaves in the result's block, at row `r` and lane `d`. -/
theorem out_apply (x0 : Vec Ideal S1x1024x1024 .f32) (x1 : Vec Ideal S1x1x6x1024 .f32) (x2 : Vec Ideal S1x1024x1024 .bf16)
    (x3 : Vec Ideal S1x1024x256 .bf16) (x4 x5 x6 : Vec Ideal S1024x256 .bf16) (x7 : Vec Ideal S1x1024x512 .bf16)
    (x8 : Vec Ideal S1x1x256 .f32) (x9 : Vec Ideal S1x256x256 .bf16) (x10 x11 x12 : Vec Ideal S1x1024x1024 .bf16)
    (x13 x14 : Vec Ideal S1x256x1024 .bf16) (x15 : Vec Ideal S1x512x1024 .bf16) (x16 : Vec Ideal S1x1024x1024 .bf16)
    (u : Fin 1) (r d : Fin 1024) :
    out0_17 x0 x1 x2 x3 x4 x5 x6 x7 x8 x9 x10 x11 x12 x13 x14 x15 x16 (ix3 u r d)
      = x0 (ix3 0 r d) + x1 (ix4 0 0 2 d) * ∑ k : Fin 1024,
          (gated (fun k => x2 (ix3 0 r k)) (fun k d => x10 (ix3 0 k d)) (fun k => x3 (ix3 0 r k)) (fun k d => x13 (ix3 0 k d)) k
            + gated (fun k => x2 (ix3 0 r k)) (fun k d => x11 (ix3 0 k d))
                (sRow (fun n => x4 (ix2 r n) * x8 (ix3 0 0 n) + x5 (ix2 r n) + x6 (ix2 r n)) fun k n => x9 (ix3 0 k n))
                (fun k d => x14 (ix3 0 k d)) k
            + gated (fun k => x2 (ix3 0 r k)) (fun k d => x12 (ix3 0 k d)) (fun k => x7 (ix3 0 r k)) (fun k d => x15 (ix3 0 k d)) k)
          * x16 (ix3 0 k d) := by
  unfold out0_17 k0_pay10
  rw [View.canon_unit_zero hz3]
  simp only [l0, l1, l2, l3, l4, l5, l6, l7, pay9_apply, pay1_apply, pay2_apply,
    pay6_apply, pay7_apply, pay8_apply, pay4_apply, pay3_apply]
  exact congrArg₂ (· + ·) rfl (congrArg₂ (· * ·) (ldM x1 d) rfl)

/-! ## The windows' blocks -/

variable (m : (ℓ : Loc nD τ sig) → Buf (Elt Ideal) ℓ) (ρ : Dev nD → PrngReg)

theorem flat_apply (v : Vec Ideal S2x16x16 .f32) (l : Fin 2) (n : Fin 256) :
    shapeCast S2x1x256 v shapeCasts_S2x16x16_S2x1x256 (ix3 l 0 n) = v (ix3 l ⟨n.val / 16, by omega⟩ ⟨n.val % 16, by omega⟩) := by
  refine shapeCast_apply _ _ _ _ ?_
  rw [rowMajor_val3 (ix3 l (⟨n.val / 16, by omega⟩ : Fin 16) (⟨n.val % 16, by omega⟩ : Fin 16)) 256 16 rfl rfl,
    rowMajor_val3 (ix3 l (0 : Fin 1) n) 256 256 rfl rfl]
  show l.val * 256 + n.val / 16 * 16 + n.val % 16 = l.val * 256 + 0 * 256 + n.val
  omega

theorem V0 (c : Dev nD) (l : Fin 2) (n : Fin 256) :
    V m c main_v0 (ix3 l 0 n) = m ((c : Thread nD τ).loc main_arg8) (ix3 l ⟨n.val / 16, by omega⟩ ⟨n.val % 16, by omega⟩) := by
  have h : V m c main_v0 = shapeCast S2x1x256 (m ((c : Thread nD τ).loc main_arg8)) shapeCasts_S2x16x16_S2x1x256 := by
    show StableHlo.after hostOps0 (fun b => m (c, b)) (Proc.devRef .tc main_v0) = _
    after_results; rfl
  rw [h]; exact flat_apply _ l n

theorem V1 (c : Dev nD) : V m c main_v1 = (m ((c : Thread nD τ).loc main_arg10) : S2x1024x5120.Idx → EReal) := by
  show StableHlo.after hostOps0 (fun b => m (c, b)) (Proc.devRef .tc main_v1) = _
  after_results; rfl

theorem V2 (c : Dev nD) : V m c main_v2 = (m ((c : Thread nD τ).loc main_arg11) : S2x256x1024.Idx → EReal) := by
  show StableHlo.after hostOps0 (fun b => m (c, b)) (Proc.devRef .tc main_v2) = _
  after_results; rfl

theorem V3 (c : Dev nD) : V m c main_v3 = (m ((c : Thread nD τ).loc main_arg12) : S2x256x1024.Idx → EReal) := by
  show StableHlo.after hostOps0 (fun b => m (c, b)) (Proc.devRef .tc main_v3) = _
  after_results; rfl

theorem V4 (c : Dev nD) : V m c main_v4 = (m ((c : Thread nD τ).loc main_arg13) : S2x512x1024.Idx → EReal) := by
  show StableHlo.after hostOps0 (fun b => m (c, b)) (Proc.devRef .tc main_v4) = _
  after_results; rfl

theorem V5 (c : Dev nD) : V m c main_v5 = (m ((c : Thread nD τ).loc main_arg14) : S2x1024x1024.Idx → EReal) := by
  show StableHlo.after hostOps0 (fun b => m (c, b)) (Proc.devRef .tc main_v5) = _
  after_results; rfl

theorem V6 (c : Dev nD) : V m c main_v6 = (m ((c : Thread nD τ).loc main_arg9) : S2x256x256.Idx → EReal) := by
  show StableHlo.after hostOps0 (fun b => m (c, b)) (Proc.devRef .tc main_v6) = _
  after_results; rfl

theorem t_lt (t : Fin cfg0.N) : t.val < 32 := lt_of_lt_of_eq t.isLt N_0

/-- The batch and the token of row `r` of point `t`'s block. -/
def bat (t : Fin cfg0.N) : Fin 4 := ⟨t.val / 8, by have := t_lt t; omega⟩
def tok (t : Fin cfg0.N) (r : Fin 1024) : Fin 8192 := ⟨t.val % 8 * 1024 + r.val, by omega⟩

theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem blk0 (c : Dev nD) (t : Fin cfg0.N) (r : Fin 1024) (k : Fin 1024) :
    iblk m c 0 t (ix3 0 r k) = m ((c : Thread nD τ).loc main_arg0) (ix3 (bat t) (tok t r) k) := by
  obtain ⟨e0, e1, e2⟩ := idx0 t
  have e : ((cfg0.win 0).blk t).view.emb (ix3 0 r k) = ix3 (bat t) (tok t r) k := by
    funext a; apply Fin.ext
    match a with
    | ⟨0, _⟩ => show win0_0.index t (0 : Fin 3) * 1 + 1 * 0 = t.val / 8; omega
    | ⟨1, _⟩ => show win0_0.index t (1 : Fin 3) * 1024 + 1 * r.val = t.val % 8 * 1024 + r.val; omega
    | ⟨2, _⟩ => show win0_0.index t (2 : Fin 3) * 1024 + 1 * k.val = k.val; omega
  show V m c main_arg0 (((cfg0.win 0).blk t).view.emb (ix3 0 r k)) = _
  rw [e, V_main_arg0]

theorem idx1 : ∀ t : Fin cfg0.N, win0_1.index t (0 : Fin 4) = 0 ∧ win0_1.index t (1 : Fin 4) = t.val / 8 ∧ win0_1.index t (2 : Fin 4) = 0 ∧ win0_1.index t (3 : Fin 4) = 0 :=
  (by decide +kernel : ∀ t : Fin grid0.N, _)
theorem blk1 (c : Dev nD) (t : Fin cfg0.N) (o : Fin 6) (k : Fin 1024) :
    iblk m c 1 t (ix4 0 0 o k) = m ((c : Thread nD τ).loc main_arg1) (ix4 0 ⟨(bat t).val, Nat.lt_trans (bat t).isLt (by decide)⟩ o k) := by
  obtain ⟨e0, e1, e2, e3⟩ := idx1 t
  have e : ((cfg0.win 1).blk t).view.emb (ix4 0 0 o k) = ix4 0 ⟨(bat t).val, Nat.lt_trans (bat t).isLt (by decide)⟩ o k := by
    funext a; apply Fin.ext
    match a with
    | ⟨0, _⟩ => show win0_1.index t (0 : Fin 4) * 1 + 1 * 0 = 0; omega
    | ⟨1, _⟩ => show win0_1.index t (1 : Fin 4) * 1 + 1 * 0 = t.val / 8; omega
    | ⟨2, _⟩ => show win0_1.index t (2 : Fin 4) * 6 + 1 * o.val = o.val; omega
    | ⟨3, _⟩ => show win0_1.index t (3 : Fin 4) * 1024 + 1 * k.val = k.val; omega
  show V m c main_arg1 (((cfg0.win 1).blk t).view.emb (ix4 0 0 o k)) = _
  rw [e, V_main_arg1]

theorem idx2 : ∀ t : Fin cfg0.N, win0_2.index t (0 : Fin 3) = t.val / 8 ∧ win0_2.index t (1 : Fin 3) = t.val % 8 ∧ win0_2.index t (2 : Fin 3) = 0 :=
  (by decide +kernel : ∀ t : Fin grid0.N, _)
theorem blk2 (c : Dev nD) (t : Fin cfg0.N) (r : Fin 1024) (k : Fin 1024) :
    iblk m c 2 t (ix3 0 r k) = m ((c : Thread nD τ).loc main_arg2) (ix3 (bat t) (tok t r) k) := by
  obtain ⟨e0, e1, e2⟩ := idx2 t
  have e : ((cfg0.win 2).blk t).view.emb (ix3 0 r k) = ix3 (bat t) (tok t r) k := by
    funext a; apply Fin.ext
    match a with
    | ⟨0, _⟩ => show win0_2.index t (0 : Fin 3) * 1 + 1 * 0 = t.val / 8; omega
    | ⟨1, _⟩ => show win0_2.index t (1 : Fin 3) * 1024 + 1 * r.val = t.val % 8 * 1024 + r.val; omega
    | ⟨2, _⟩ => show win0_2.index t (2 : Fin 3) * 1024 + 1 * k.val = k.val; omega
  show V m c main_arg2 (((cfg0.win 2).blk t).view.emb (ix3 0 r k)) = _
  rw [e, V_main_arg2]

theorem idx3 : ∀ t : Fin cfg0.N, win0_3.index t (0 : Fin 3) = t.val / 8 ∧ win0_3.index t (1 : Fin 3) = t.val % 8 ∧ win0_3.index t (2 : Fin 3) = 0 :=
  (by decide +kernel : ∀ t : Fin grid0.N, _)
theorem blk3 (c : Dev nD) (t : Fin cfg0.N) (r : Fin 1024) (k : Fin 256) :
    iblk m c 3 t (ix3 0 r k) = m ((c : Thread nD τ).loc main_arg3) (ix3 (bat t) (tok t r) k) := by
  obtain ⟨e0, e1, e2⟩ := idx3 t
  have e : ((cfg0.win 3).blk t).view.emb (ix3 0 r k) = ix3 (bat t) (tok t r) k := by
    funext a; apply Fin.ext
    match a with
    | ⟨0, _⟩ => show win0_3.index t (0 : Fin 3) * 1 + 1 * 0 = t.val / 8; omega
    | ⟨1, _⟩ => show win0_3.index t (1 : Fin 3) * 1024 + 1 * r.val = t.val % 8 * 1024 + r.val; omega
    | ⟨2, _⟩ => show win0_3.index t (2 : Fin 3) * 256 + 1 * k.val = k.val; omega
  show V m c main_arg3 (((cfg0.win 3).blk t).view.emb (ix3 0 r k)) = _
  rw [e, V_main_arg3]

theorem idx4 : ∀ t : Fin cfg0.N, win0_4.index t (0 : Fin 2) = t.val % 8 ∧ win0_4.index t (1 : Fin 2) = t.val / 8 :=
  (by decide +kernel : ∀ t : Fin grid0.N, _)
theorem blk4 (c : Dev nD) (t : Fin cfg0.N) (r : Fin 1024) (k : Fin 256) :
    iblk m c 4 t (ix2 r k) = m ((c : Thread nD τ).loc main_arg4) (ix2 (tok t r) ⟨(bat t).val * 256 + k.val, by omega⟩) := by
  obtain ⟨e0, e1⟩ := idx4 t
  have e : ((cfg0.win 4).blk t).view.emb (ix2 r k) = ix2 (tok t r) ⟨(bat t).val * 256 + k.val, by omega⟩ := by
    funext a; apply Fin.ext
    match a with
    | ⟨0, _⟩ => show win0_4.index t (0 : Fin 2) * 1024 + 1 * r.val = t.val % 8 * 1024 + r.val; omega
    | ⟨1, _⟩ => show win0_4.index t (1 : Fin 2) * 256 + 1 * k.val = t.val / 8 * 256 + k.val; omega
  show V m c main_arg4 (((cfg0.win 4).blk t).view.emb (ix2 r k)) = _
  rw [e, V_main_arg4]

theorem idx5 : ∀ t : Fin cfg0.N, win0_5.index t (0 : Fin 2) = t.val % 8 ∧ win0_5.index t (1 : Fin 2) = t.val / 8 :=
  (by decide +kernel : ∀ t : Fin grid0.N, _)
theorem blk5 (c : Dev nD) (t : Fin cfg0.N) (r : Fin 1024) (k : Fin 256) :
    iblk m c 5 t (ix2 r k) = m ((c : Thread nD τ).loc main_arg5) (ix2 (tok t r) ⟨(bat t).val * 256 + k.val, by omega⟩) := by
  obtain ⟨e0, e1⟩ := idx5 t
  have e : ((cfg0.win 5).blk t).view.emb (ix2 r k) = ix2 (tok t r) ⟨(bat t).val * 256 + k.val, by omega⟩ := by
    funext a; apply Fin.ext
    match a with
    | ⟨0, _⟩ => show win0_5.index t (0 : Fin 2) * 1024 + 1 * r.val = t.val % 8 * 1024 + r.val; omega
    | ⟨1, _⟩ => show win0_5.index t (1 : Fin 2) * 256 + 1 * k.val = t.val / 8 * 256 + k.val; omega
  show V m c main_arg5 (((cfg0.win 5).blk t).view.emb (ix2 r k)) = _
  rw [e, V_main_arg5]

theorem idx6 : ∀ t : Fin cfg0.N, win0_6.index t (0 : Fin 2) = t.val % 8 ∧ win0_6.index t (1 : Fin 2) = t.val / 8 :=
  (by decide +kernel : ∀ t : Fin grid0.N, _)
theorem blk6 (c : Dev nD) (t : Fin cfg0.N) (r : Fin 1024) (k : Fin 256) :
    iblk m c 6 t (ix2 r k) = m ((c : Thread nD τ).loc main_arg6) (ix2 (tok t r) ⟨(bat t).val * 256 + k.val, by omega⟩) := by
  obtain ⟨e0, e1⟩ := idx6 t
  have e : ((cfg0.win 6).blk t).view.emb (ix2 r k) = ix2 (tok t r) ⟨(bat t).val * 256 + k.val, by omega⟩ := by
    funext a; apply Fin.ext
    match a with
    | ⟨0, _⟩ => show win0_6.index t (0 : Fin 2) * 1024 + 1 * r.val = t.val % 8 * 1024 + r.val; omega
    | ⟨1, _⟩ => show win0_6.index t (1 : Fin 2) * 256 + 1 * k.val = t.val / 8 * 256 + k.val; omega
  show V m c main_arg6 (((cfg0.win 6).blk t).view.emb (ix2 r k)) = _
  rw [e, V_main_arg6]

theorem idx7 : ∀ t : Fin cfg0.N, win0_7.index t (0 : Fin 3) = t.val / 8 ∧ win0_7.index t (1 : Fin 3) = t.val % 8 ∧ win0_7.index t (2 : Fin 3) = 0 :=
  (by decide +kernel : ∀ t : Fin grid0.N, _)
theorem blk7 (c : Dev nD) (t : Fin cfg0.N) (r : Fin 1024) (k : Fin 512) :
    iblk m c 7 t (ix3 0 r k) = m ((c : Thread nD τ).loc main_arg7) (ix3 (bat t) (tok t r) k) := by
  obtain ⟨e0, e1, e2⟩ := idx7 t
  have e : ((cfg0.win 7).blk t).view.emb (ix3 0 r k) = ix3 (bat t) (tok t r) k := by
    funext a; apply Fin.ext
    match a with
    | ⟨0, _⟩ => show win0_7.index t (0 : Fin 3) * 1 + 1 * 0 = t.val / 8; omega
    | ⟨1, _⟩ => show win0_7.index t (1 : Fin 3) * 1024 + 1 * r.val = t.val % 8 * 1024 + r.val; omega
    | ⟨2, _⟩ => show win0_7.index t (2 : Fin 3) * 512 + 1 * k.val = k.val; omega
  show V m c main_arg7 (((cfg0.win 7).blk t).view.emb (ix3 0 r k)) = _
  rw [e, V_main_arg7]

theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)
theorem blk8 (c : Dev nD) (t : Fin cfg0.N) (k : Fin 256) :
    iblk m c 8 t (ix3 0 0 k) = m ((c : Thread nD τ).loc main_arg8) (ix3 0 ⟨k.val / 16, by omega⟩ ⟨k.val % 16, by omega⟩) := by
  obtain ⟨e0, e1, e2⟩ := idx8 t
  have e : ((cfg0.win 8).blk t).view.emb (ix3 0 0 k) = ix3 0 0 k := by
    funext a; apply Fin.ext
    match a with
    | ⟨0, _⟩ => show win0_8.index t (0 : Fin 3) * 1 + 1 * 0 = 0; omega
    | ⟨1, _⟩ => show win0_8.index t (1 : Fin 3) * 1 + 1 * 0 = 0; omega
    | ⟨2, _⟩ => show win0_8.index t (2 : Fin 3) * 256 + 1 * k.val = k.val; omega
  show V m c main_v0 (((cfg0.win 8).blk t).view.emb (ix3 0 0 k)) = _
  rw [e, V0]

theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)
theorem blk9 (c : Dev nD) (t : Fin cfg0.N) (r : Fin 256) (k : Fin 256) :
    iblk m c 9 t (ix3 0 r k) = m ((c : Thread nD τ).loc main_arg9) (ix3 0 r k) := by
  obtain ⟨e0, e1, e2⟩ := idx9 t
  have e : ((cfg0.win 9).blk t).view.emb (ix3 0 r k) = ix3 0 r k := by
    funext a; apply Fin.ext
    match a with
    | ⟨0, _⟩ => show win0_9.index t (0 : Fin 3) * 1 + 1 * 0 = 0; omega
    | ⟨1, _⟩ => show win0_9.index t (1 : Fin 3) * 256 + 1 * r.val = r.val; omega
    | ⟨2, _⟩ => show win0_9.index t (2 : Fin 3) * 256 + 1 * k.val = k.val; omega
  show V m c main_v6 (((cfg0.win 9).blk t).view.emb (ix3 0 r k)) = _
  rw [e, V6]

theorem idx10 : ∀ t : Fin cfg0.N, win0_10.index t (0 : Fin 3) = 0 ∧ win0_10.index t (1 : Fin 3) = 0 ∧ win0_10.index t (2 : Fin 3) = 2 :=
  (by decide +kernel : ∀ t : Fin grid0.N, _)
theorem blk10 (c : Dev nD) (t : Fin cfg0.N) (r : Fin 1024) (k : Fin 1024) :
    iblk m c 10 t (ix3 0 r k) = m ((c : Thread nD τ).loc main_arg10) (ix3 0 r ⟨2048 + 1024 * 0 + k.val, by omega⟩) := by
  obtain ⟨e0, e1, e2⟩ := idx10 t
  have e : ((cfg0.win 10).blk t).view.emb (ix3 0 r k) = ix3 0 r ⟨2048 + 1024 * 0 + k.val, by omega⟩ := by
    funext a; apply Fin.ext
    match a with
    | ⟨0, _⟩ => show win0_10.index t (0 : Fin 3) * 1 + 1 * 0 = 0; omega
    | ⟨1, _⟩ => show win0_10.index t (1 : Fin 3) * 1024 + 1 * r.val = r.val; omega
    | ⟨2, _⟩ => show win0_10.index t (2 : Fin 3) * 1024 + 1 * k.val = 2048 + 1024 * 0 + k.val; omega
  show V m c main_v1 (((cfg0.win 10).blk t).view.emb (ix3 0 r k)) = _
  rw [e, V1]

theorem idx11 : ∀ t : Fin cfg0.N, win0_11.index t (0 : Fin 3) = 0 ∧ win0_11.index t (1 : Fin 3) = 0 ∧ win0_11.index t (2 : Fin 3) = 3 :=
  (by decide +kernel : ∀ t : Fin grid0.N, _)
theorem blk11 (c : Dev nD) (t : Fin cfg0.N) (r : Fin 1024) (k : Fin 1024) :
    iblk m c 11 t (ix3 0 r k) = m ((c : Thread nD τ).loc main_arg10) (ix3 0 r ⟨2048 + 1024 * 1 + k.val, by omega⟩) := by
  obtain ⟨e0, e1, e2⟩ := idx11 t
  have e : ((cfg0.win 11).blk t).view.emb (ix3 0 r k) = ix3 0 r ⟨2048 + 1024 * 1 + k.val, by omega⟩ := by
    funext a; apply Fin.ext
    match a with
    | ⟨0, _⟩ => show win0_11.index t (0 : Fin 3) * 1 + 1 * 0 = 0; omega
    | ⟨1, _⟩ => show win0_11.index t (1 : Fin 3) * 1024 + 1 * r.val = r.val; omega
    | ⟨2, _⟩ => show win0_11.index t (2 : Fin 3) * 1024 + 1 * k.val = 2048 + 1024 * 1 + k.val; omega
  show V m c main_v1 (((cfg0.win 11).blk t).view.emb (ix3 0 r k)) = _
  rw [e, V1]

theorem idx12 : ∀ t : Fin cfg0.N, win0_12.index t (0 : Fin 3) = 0 ∧ win0_12.index t (1 : Fin 3) = 0 ∧ win0_12.index t (2 : Fin 3) = 4 :=
  (by decide +kernel : ∀ t : Fin grid0.N, _)
theorem blk12 (c : Dev nD) (t : Fin cfg0.N) (r : Fin 1024) (k : Fin 1024) :
    iblk m c 12 t (ix3 0 r k) = m ((c : Thread nD τ).loc main_arg10) (ix3 0 r ⟨2048 + 1024 * 2 + k.val, by omega⟩) := by
  obtain ⟨e0, e1, e2⟩ := idx12 t
  have e : ((cfg0.win 12).blk t).view.emb (ix3 0 r k) = ix3 0 r ⟨2048 + 1024 * 2 + k.val, by omega⟩ := by
    funext a; apply Fin.ext
    match a with
    | ⟨0, _⟩ => show win0_12.index t (0 : Fin 3) * 1 + 1 * 0 = 0; omega
    | ⟨1, _⟩ => show win0_12.index t (1 : Fin 3) * 1024 + 1 * r.val = r.val; omega
    | ⟨2, _⟩ => show win0_12.index t (2 : Fin 3) * 1024 + 1 * k.val = 2048 + 1024 * 2 + k.val; omega
  show V m c main_v1 (((cfg0.win 12).blk t).view.emb (ix3 0 r k)) = _
  rw [e, V1]

theorem idx13 : ∀ t : Fin cfg0.N, win0_13.index t (0 : Fin 3) = 0 ∧ win0_13.index t (1 : Fin 3) = 0 ∧ win0_13.index t (2 : Fin 3) = 0 :=
  (by decide +kernel : ∀ t : Fin grid0.N, _)
theorem blk13 (c : Dev nD) (t : Fin cfg0.N) (r : Fin 256) (k : Fin 1024) :
    iblk m c 13 t (ix3 0 r k) = m ((c : Thread nD τ).loc main_arg11) (ix3 0 r k) := by
  obtain ⟨e0, e1, e2⟩ := idx13 t
  have e : ((cfg0.win 13).blk t).view.emb (ix3 0 r k) = ix3 0 r k := by
    funext a; apply Fin.ext
    match a with
    | ⟨0, _⟩ => show win0_13.index t (0 : Fin 3) * 1 + 1 * 0 = 0; omega
    | ⟨1, _⟩ => show win0_13.index t (1 : Fin 3) * 256 + 1 * r.val = r.val; omega
    | ⟨2, _⟩ => show win0_13.index t (2 : Fin 3) * 1024 + 1 * k.val = k.val; omega
  show V m c main_v2 (((cfg0.win 13).blk t).view.emb (ix3 0 r k)) = _
  rw [e, V2]

theorem idx14 : ∀ t : Fin cfg0.N, win0_14.index t (0 : Fin 3) = 0 ∧ win0_14.index t (1 : Fin 3) = 0 ∧ win0_14.index t (2 : Fin 3) = 0 :=
  (by decide +kernel : ∀ t : Fin grid0.N, _)
theorem blk14 (c : Dev nD) (t : Fin cfg0.N) (r : Fin 256) (k : Fin 1024) :
    iblk m c 14 t (ix3 0 r k) = m ((c : Thread nD τ).loc main_arg12) (ix3 0 r k) := by
  obtain ⟨e0, e1, e2⟩ := idx14 t
  have e : ((cfg0.win 14).blk t).view.emb (ix3 0 r k) = ix3 0 r k := by
    funext a; apply Fin.ext
    match a with
    | ⟨0, _⟩ => show win0_14.index t (0 : Fin 3) * 1 + 1 * 0 = 0; omega
    | ⟨1, _⟩ => show win0_14.index t (1 : Fin 3) * 256 + 1 * r.val = r.val; omega
    | ⟨2, _⟩ => show win0_14.index t (2 : Fin 3) * 1024 + 1 * k.val = k.val; omega
  show V m c main_v3 (((cfg0.win 14).blk t).view.emb (ix3 0 r k)) = _
  rw [e, V3]

theorem idx15 : ∀ t : Fin cfg0.N, win0_15.index t (0 : Fin 3) = 0 ∧ win0_15.index t (1 : Fin 3) = 0 ∧ win0_15.index t (2 : Fin 3) = 0 :=
  (by decide +kernel : ∀ t : Fin grid0.N, _)
theorem blk15 (c : Dev nD) (t : Fin cfg0.N) (r : Fin 512) (k : Fin 1024) :
    iblk m c 15 t (ix3 0 r k) = m ((c : Thread nD τ).loc main_arg13) (ix3 0 r k) := by
  obtain ⟨e0, e1, e2⟩ := idx15 t
  have e : ((cfg0.win 15).blk t).view.emb (ix3 0 r k) = ix3 0 r k := by
    funext a; apply Fin.ext
    match a with
    | ⟨0, _⟩ => show win0_15.index t (0 : Fin 3) * 1 + 1 * 0 = 0; omega
    | ⟨1, _⟩ => show win0_15.index t (1 : Fin 3) * 512 + 1 * r.val = r.val; omega
    | ⟨2, _⟩ => show win0_15.index t (2 : Fin 3) * 1024 + 1 * k.val = k.val; omega
  show V m c main_v4 (((cfg0.win 15).blk t).view.emb (ix3 0 r k)) = _
  rw [e, V4]

theorem idx16 : ∀ t : Fin cfg0.N, win0_16.index t (0 : Fin 3) = 0 ∧ win0_16.index t (1 : Fin 3) = 0 ∧ win0_16.index t (2 : Fin 3) = 0 :=
  (by decide +kernel : ∀ t : Fin grid0.N, _)
theorem blk16 (c : Dev nD) (t : Fin cfg0.N) (r : Fin 1024) (k : Fin 1024) :
    iblk m c 16 t (ix3 0 r k) = m ((c : Thread nD τ).loc main_arg14) (ix3 0 r k) := by
  obtain ⟨e0, e1, e2⟩ := idx16 t
  have e : ((cfg0.win 16).blk t).view.emb (ix3 0 r k) = ix3 0 r k := by
    funext a; apply Fin.ext
    match a with
    | ⟨0, _⟩ => show win0_16.index t (0 : Fin 3) * 1 + 1 * 0 = 0; omega
    | ⟨1, _⟩ => show win0_16.index t (1 : Fin 3) * 1024 + 1 * r.val = r.val; omega
    | ⟨2, _⟩ => show win0_16.index t (2 : Fin 3) * 1024 + 1 * k.val = k.val; omega
  show V m c main_v5 (((cfg0.win 16).blk t).view.emb (ix3 0 r k)) = _
  rw [e, V5]

theorem idx17 : ∀ t : Fin cfg0.N, win0_17.index t (0 : Fin 3) = t.val / 8 ∧ win0_17.index t (1 : Fin 3) = t.val % 8 ∧ win0_17.index t (2 : Fin 3) = 0 :=
  (by decide +kernel : ∀ t : Fin grid0.N, _)
theorem emb17 (t : Fin cfg0.N) (u : Fin 1) (r k : Fin 1024) : ((cfg0.win 17).blk t).view.emb (ix3 u r k) = ix3 (bat t) (tok t r) k := by
  obtain ⟨e0, e1, e2⟩ := idx17 t
  have hu : u.val = 0 := by omega
  funext a; apply Fin.ext
  match a with
  | ⟨0, _⟩ => show win0_17.index t (0 : Fin 3) * 1 + 1 * u.val = t.val / 8; omega
  | ⟨1, _⟩ => show win0_17.index t (1 : Fin 3) * 1024 + 1 * r.val = t.val % 8 * 1024 + r.val; omega
  | ⟨2, _⟩ => show win0_17.index t (2 : Fin 3) * 1024 + 1 * k.val = k.val; omega

/-- `G` of the arguments as launched. -/
def Gm (c : Dev nD) : Buf (Elt Ideal) ((c : Thread nD τ).loc main_v7) :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

theorem flushed_eq (c : Dev nD) (t : Fin cfg0.N) :
    (dats m 0 c).flushed 17 t = ((cfg0.win 17).blk t).view.read (Elt Ideal) (Gm m c) := by
  rw [flushed17]
  funext j
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) j
    = Gm m c (((cfg0.win 17).blk t).view.emb j)
  obtain ⟨u, r, d, rfl⟩ : ∃ (u : Fin 1) (r d : Fin 1024), j = ix3 u r d := ⟨j 0, j 1, j 2, eq_ix3 j⟩
  rw [emb17, out_apply]
  simp only [blk0, blk1, blk2, blk3, blk4, blk5, blk6, blk7, blk8, blk9, blk10, blk11, blk12, blk13, blk14, blk15, blk16]
  rfl

theorem covered (i : S4x8192x1024.Idx) :
    ∃ t : Fin cfg0.N, (cfg0.win 17).flush t = true ∧ i ∈ ((cfg0.win 17).blk t).view.set := by
  obtain ⟨b, s, d, rfl⟩ : ∃ (b : Fin 4) (s : Fin 8192) (d : Fin 1024), i = ix3 b s d := ⟨i 0, i 1, i 2, eq_ix3 i⟩
  refine ⟨⟨b.val * 8 + s.val / 1024, lt_of_lt_of_eq (b := 32) (by omega) N_0.symm⟩, flush0_17 _, ?_⟩
  have h := ((cfg0.win 17).blk (⟨b.val * 8 + s.val / 1024, lt_of_lt_of_eq (b := 32) (by omega) N_0.symm⟩ : Fin cfg0.N)).view.emb_mem_set
    (ix3 (0 : Fin 1) (⟨s.val % 1024, by omega⟩ : Fin 1024) d)
  rw [emb17] at h
  have hb : bat ⟨b.val * 8 + s.val / 1024, lt_of_lt_of_eq (b := 32) (by omega) N_0.symm⟩ = b :=
    Fin.ext (show (b.val * 8 + s.val / 1024) / 8 = b.val by omega)
  have hs : tok ⟨b.val * 8 + s.val / 1024, lt_of_lt_of_eq (b := 32) (by omega) N_0.symm⟩ ⟨s.val % 1024, by omega⟩ = s :=
    Fin.ext (show (b.val * 8 + s.val / 1024) % 8 * 1024 + s.val % 1024 = s.val by omega)
  rwa [hb, hs] at h

theorem final (c : Dev nD) : (dats m 0 c).arrAt 17 cfg0.N = Gm m c :=
  (dats m 0 c).arrAt_eq_of_cover 17 (Gm m c) (fun t _ => flushed_eq m c t) covered

end Cert.Kernel3Ideal.Merge

end
-- ==== Proof.MergeRef.lean ====
/- The reference's merge as the same function `G` of the argument arrays: one lemma per stage, at a row and a lane. -/
module

public import proofs.«01_k».proof.Proof.MergeVal
public import proofs.«01_k».proof.Proof.Gen.Reference3Ideal.Read

@[expose] public section

set_option maxRecDepth 16384

noncomputable section

namespace Cert.Reference3Ideal.Merge

open Cert.Reference3Ideal Cert.Reference3Ideal.Read Cert.Merge Idealize.ShloMosaic Idealize.ShloMosaic.TcCoe Idealize.SL.Sem

variable (x0 : Vec Ideal S4x8192x1024 .f32) (x1 : Vec Ideal S2x8x6x1024 .f32) (x2 : Vec Ideal S4x8192x1024 .bf16)
  (x3 : Vec Ideal S4x8192x256 .bf16) (x4 x5 x6 : Vec Ideal S8192x1024 .bf16) (x7 : Vec Ideal S4x8192x512 .bf16)
  (x8 : Vec Ideal S2x16x16 .f32) (x9 : Vec Ideal S2x256x256 .f32) (x10 : Vec Ideal S2x1024x5120 .f32)
  (x11 x12 : Vec Ideal S2x256x1024 .f32) (x13 : Vec Ideal S2x512x1024 .f32) (x14 : Vec Ideal S2x1024x1024 .f32)

theorem c8 (b : Fin 4) : b.val < 8 := by omega

/-- The group of channel `n`, and the channel's place in it. -/
abbrev gr (n : Fin 256) : Fin 16 := ⟨n.val / 16, by omega⟩
abbrev ch (n : Fin 256) : Fin 16 := ⟨n.val % 16, by omega⟩

/-- A time-major array read by batch, group and channel. -/
theorem split_apply (v : Vec Ideal S8192x1024 .f32) (hc : S8192x1024.ShapeCasts S8192x4x16x16) (b : Fin 4) (s : Fin 8192) (n : Fin 256) :
    shapeCast S8192x4x16x16 v hc (ix4 s b (gr n) (ch n)) = v (ix2 s ⟨b.val * 256 + n.val, by omega⟩) := by
  refine shapeCast_apply _ _ _ _ ?_
  rw [rowMajor_val2 (ix2 s (⟨b.val * 256 + n.val, by omega⟩ : Fin 1024)) 1024 rfl, rowMajor_val4 (ix4 s b (gr n) (ch n)) 1024 256 16 rfl rfl rfl]
  show s.val * 1024 + (b.val * 256 + n.val) = s.val * 1024 + b.val * 256 + n.val / 16 * 16 + n.val % 16
  omega

/-- Groups of channels read as one axis. -/
theorem join_apply (v : Vec Ideal S4x8192x16x16 .f32) (hc : S4x8192x16x16.ShapeCasts S4x8192x256) (b : Fin 4) (s : Fin 8192) (n : Fin 256) :
    shapeCast S4x8192x256 v hc (ix3 b s n) = v (ix4 b s (gr n) (ch n)) := by
  refine shapeCast_apply _ _ _ _ ?_
  rw [rowMajor_val3 (ix3 b s n) 2097152 256 rfl rfl, rowMajor_val4 (ix4 b s (gr n) (ch n)) 2097152 256 16 rfl rfl rfl]
  show b.val * 2097152 + s.val * 256 + n.val / 16 * 16 + n.val % 16 = b.val * 2097152 + s.val * 256 + n.val
  omega

/-- The three time-major arrays as the reference reads them. -/
theorem u_apply (b : Fin 4) (s : Fin 8192) (n : Fin 256) :
    val_main_v2 (F := Ideal) x4 (ix4 b s (gr n) (ch n)) = x4 (ix2 s ⟨b.val * 256 + n.val, by omega⟩) := by
  have e : val_main_v2 (F := Ideal) x4 (ix4 b s (gr n) (ch n)) = val_main_v1 (F := Ideal) x4 (ix4 s b (gr n) (ch n)) := by
    unfold val_main_v2; generalize val_main_v1 (F := Ideal) x4 = h; pointwise []
  rw [e]; exact split_apply _ _ b s n

theorem yf_apply (b : Fin 4) (s : Fin 8192) (n : Fin 256) :
    val_main_v10 (F := Ideal) x5 (ix4 b s (gr n) (ch n)) = x5 (ix2 s ⟨b.val * 256 + n.val, by omega⟩) := by
  have e : val_main_v10 (F := Ideal) x5 (ix4 b s (gr n) (ch n)) = val_main_v9 (F := Ideal) x5 (ix4 s b (gr n) (ch n)) := by
    unfold val_main_v10; generalize val_main_v9 (F := Ideal) x5 = h; pointwise []
  rw [e]; exact split_apply _ _ b s n

theorem yr_apply (b : Fin 4) (s : Fin 8192) (n : Fin 256) :
    val_main_v14 (F := Ideal) x6 (ix4 b s (gr n) (ch n)) = x6 (ix2 s ⟨b.val * 256 + n.val, by omega⟩) := by
  have e : val_main_v14 (F := Ideal) x6 (ix4 b s (gr n) (ch n)) = val_main_v13 (F := Ideal) x6 (ix4 s b (gr n) (ch n)) := by
    unfold val_main_v14; generalize val_main_v13 (F := Ideal) x6 = h; pointwise []
  rw [e]; exact split_apply _ _ b s n

theorem sd_apply (b : Fin 4) (s : Fin 8192) (g c : Fin 16) :
    val_main_v6 (F := Ideal) x8 (ix4 b s g c) = x8 (ix3 0 g c) := by
  pointwise [val_main_v6, val_main_v5, val_main_v4, val_main_v3]

/-- The S5 branch's input. -/
theorem y_apply (b : Fin 4) (s : Fin 8192) (n : Fin 256) :
    val_main_v16 (F := Ideal) x4 x5 x6 x8 (ix3 b s n) = yRow x4 x5 x6 x8 b s n := by
  unfold val_main_v16 yRow
  rw [join_apply]
  show val_main_v2 (F := Ideal) x4 (ix4 b s (gr n) (ch n)) * val_main_v6 (F := Ideal) x8 (ix4 b s (gr n) (ch n))
      + val_main_v10 (F := Ideal) x5 (ix4 b s (gr n) (ch n)) + val_main_v14 (F := Ideal) x6 (ix4 b s (gr n) (ch n)) = _
  rw [u_apply, yf_apply, yr_apply, sd_apply]

/-- The gelu; the reference multiplies by the half last. -/
theorem g_apply (b : Fin 4) (s : Fin 8192) (n : Fin 256) :
    val_main_v31 (F := Ideal) x4 x5 x6 x8 (ix3 b s n) = gelu (val_main_v16 (F := Ideal) x4 x5 x6 x8 (ix3 b s n)) := by
  unfold val_main_v31 val_main_v30 val_main_v29 val_main_cst_2 val_main_v28 val_main_v27 val_main_cst_1 val_main_v26 val_main_v25
    val_main_v24 val_main_cst_0 val_main_v23 val_main_v22 val_main_v21 val_main_cst val_main_v20 val_main_v19
  generalize val_main_v16 (F := Ideal) x4 x5 x6 x8 = h
  pointwise []
  exact (mul_assoc _ _ _).symm.trans (congrArg (· * _) (mul_comm _ half))

/-- The S5 branch. -/
theorem s_apply (b : Fin 4) (s : Fin 8192) (n : Fin 256) :
    val_main_v39 (F := Ideal) x4 x5 x6 x8 x9 (ix3 b s n)
      = sRow (fun n => val_main_v16 (F := Ideal) x4 x5 x6 x8 (ix3 b s n)) (fun k n => x9 (ix3 0 k n)) n := by
  unfold sRow
  simp only [← g_apply]
  unfold val_main_v39 val_main_v38 val_main_v37 val_main_cst_4 val_main_v36 val_main_v35 val_main_cst_3 val_main_v34 val_main_v33
    val_main_v32 val_main_v18 val_main_v17
  generalize val_main_v31 (F := Ideal) x4 x5 x6 x8 = h
  pointwise []
  rfl

/-- The sigmoid of a gate. -/
theorem sig_apply (b : Fin 4) (s : Fin 8192) (d : Fin 3072) :
    val_main_v60 (F := Ideal) x2 x10 (ix3 b s d)
      = Ideal.logistic (∑ k : Fin 1024, x2 (ix3 b s k) * x10 (ix3 0 k ⟨2048 + d.val, by omega⟩)) := by
  unfold val_main_v60 val_main_v59 val_main_cst_6 val_main_v58 val_main_v57 val_main_cst_5 val_main_v56 val_main_v55 val_main_v44
    val_main_v43 val_main_v42 val_main_v41 val_main_v40
  pointwise []
  rfl

/-- The three gated branches. -/
theorem a_apply (b : Fin 4) (s : Fin 8192) (d : Fin 1024) :
    val_main_v63 (F := Ideal) x2 x3 x10 x11 (ix3 b s d)
      = gated (fun k => x2 (ix3 b s k)) (fun k d => x10 (ix3 0 k ⟨2048 + 1024 * 0 + d.val, by omega⟩)) (fun k => x3 (ix3 b s k))
          (fun k d => x11 (ix3 0 k d)) d := by
  unfold gated
  rw [show (∑ k : Fin 1024, x2 (ix3 b s k) * x10 (ix3 0 k ⟨2048 + 1024 * 0 + d.val, by omega⟩))
    = ∑ k : Fin 1024, x2 (ix3 b s k) * x10 (ix3 0 k ⟨2048 + (⟨d.val, by omega⟩ : Fin 3072).val, by have := d.isLt; simp only; omega⟩) from rfl, ← sig_apply]
  unfold val_main_v63 val_main_v62 val_main_v61 val_main_v48 val_main_v47 val_main_v45
  generalize val_main_v60 (F := Ideal) x2 x10 = h
  pointwise []

theorem s5_apply (b : Fin 4) (s : Fin 8192) (d : Fin 1024) :
    val_main_v66 (F := Ideal) x2 x4 x5 x6 x8 x9 x10 x12 (ix3 b s d)
      = gated (fun k => x2 (ix3 b s k)) (fun k d => x10 (ix3 0 k ⟨2048 + 1024 * 1 + d.val, by omega⟩))
          (fun k => val_main_v39 (F := Ideal) x4 x5 x6 x8 x9 (ix3 b s k)) (fun k d => x12 (ix3 0 k d)) d := by
  unfold gated
  rw [show (∑ k : Fin 1024, x2 (ix3 b s k) * x10 (ix3 0 k ⟨2048 + 1024 * 1 + d.val, by omega⟩))
    = ∑ k : Fin 1024, x2 (ix3 b s k) * x10 (ix3 0 k ⟨2048 + (⟨1024 + d.val, by omega⟩ : Fin 3072).val, by have := d.isLt; simp only; omega⟩) from
      Finset.sum_congr rfl fun k _ => by congr 3; exact Fin.ext (by simp only; omega), ← sig_apply]
  unfold val_main_v66 val_main_v65 val_main_v64 val_main_v50 val_main_v49
  generalize val_main_v60 (F := Ideal) x2 x10 = h
  generalize val_main_v39 (F := Ideal) x4 x5 x6 x8 x9 = g
  pointwise []

theorem c_apply (b : Fin 4) (s : Fin 8192) (d : Fin 1024) :
    val_main_v70 (F := Ideal) x2 x7 x10 x13 (ix3 b s d)
      = gated (fun k => x2 (ix3 b s k)) (fun k d => x10 (ix3 0 k ⟨2048 + 1024 * 2 + d.val, by omega⟩)) (fun k => x7 (ix3 b s k))
          (fun k d => x13 (ix3 0 k d)) d := by
  unfold gated
  rw [show (∑ k : Fin 1024, x2 (ix3 b s k) * x10 (ix3 0 k ⟨2048 + 1024 * 2 + d.val, by omega⟩))
    = ∑ k : Fin 1024, x2 (ix3 b s k) * x10 (ix3 0 k ⟨2048 + (⟨2048 + d.val, by omega⟩ : Fin 3072).val, by have := d.isLt; simp only; omega⟩) from
      Finset.sum_congr rfl fun k _ => by congr 3; exact Fin.ext (by simp only; omega), ← sig_apply]
  unfold val_main_v70 val_main_v69 val_main_v68 val_main_v52 val_main_v51 val_main_v46
  generalize val_main_v60 (F := Ideal) x2 x10 = h
  pointwise []

/-- The merge's projection, scaled by its gate and added to the stream. -/
theorem o_apply (b : Fin 4) (s : Fin 8192) (d : Fin 1024) :
    val_main_v78 (F := Ideal) x0 x1 x2 x3 x4 x5 x6 x7 x8 x9 x10 x11 x12 x13 x14 (ix3 b s d)
      = x0 (ix3 b s d) + x1 (ix4 0 ⟨b.val, c8 b⟩ 2 d) * ∑ k : Fin 1024,
          (val_main_v63 (F := Ideal) x2 x3 x10 x11 (ix3 b s k) + val_main_v66 (F := Ideal) x2 x4 x5 x6 x8 x9 x10 x12 (ix3 b s k)
            + val_main_v70 (F := Ideal) x2 x7 x10 x13 (ix3 b s k)) * x14 (ix3 0 k d) := by
  unfold val_main_v78 val_main_v77 val_main_v76 val_main_v75 val_main_v74 val_main_v73 val_main_v72 val_main_v71 val_main_v67
    val_main_v54 val_main_v53
  generalize val_main_v63 (F := Ideal) x2 x3 x10 x11 = h
  generalize val_main_v66 (F := Ideal) x2 x4 x5 x6 x8 x9 x10 x12 = g
  generalize val_main_v70 (F := Ideal) x2 x7 x10 x13 = e
  pointwise []

theorem val_eq :
    val_main_v78 (F := Ideal) x0 x1 x2 x3 x4 x5 x6 x7 x8 x9 x10 x11 x12 x13 x14
      = G x0 x1 x2 x3 x4 x5 x6 x7 x8 x9 x10 x11 x12 x13 x14 := by
  funext i
  obtain ⟨b, s, d, rfl⟩ : ∃ (b : Fin 4) (s : Fin 8192) (d : Fin 1024), i = ix3 b s d := ⟨i 0, i 1, i 2, eq_ix3 i⟩
  rw [o_apply]
  simp only [a_apply, s5_apply, c_apply, s_apply, y_apply]
  rfl

end Cert.Reference3Ideal.Merge

end
-- ==== Proof.InprojVal.lean ====
/- The input projection's six result arrays as functions of the argument arrays, at the ideal instance: the blocks that the
   body leaves (`outN_apply`), each window's block at a grid point, and that the blocks cover the results (`finalN`). -/
module

public import proofs.«01_k».proof.Proof.FfnRow
public import proofs.«01_k».proof.Proof.Gen.Kernel4Ideal.Value
public import Idealize.ShloMosaic.Lib.Pointwise
public import Idealize.ShloMosaic.Lib.StableHlo.Run
public import Idealize.ShloMosaic.Lib.Pipeline.ValueKit.Tiles

@[expose] public section

set_option maxRecDepth 16384

noncomputable section

namespace Cert.Inproj

open Idealize.ShloMosaic Cert.Ffn

variable (x : Vec Ideal ⟨3, ![4, 8192, 1024]⟩ .f32) (md : Vec Ideal ⟨4, ![2, 8, 6, 1024]⟩ .f32) (g : Vec Ideal ⟨2, ![2, 1024]⟩ .f32)
  (w : Vec Ideal ⟨3, ![2, 1024, 5120]⟩ .f32)

/-- The normalised and modulated row of a token, and its projection to the first 2048 columns. -/
def hAt (b : Fin 4) (s : Fin 8192) (k : Fin 1024) : EReal :=
  hRow (fun k => x (ix3 b s k)) (fun k => md (ix4 0 ⟨b.val, by omega⟩ 0 k)) (fun k => md (ix4 0 ⟨b.val, by omega⟩ 1 k)) (fun k => g (ix2 0 k)) k
def zAt (b : Fin 4) (s : Fin 8192) (n : Fin 2048) : EReal := ∑ k : Fin 1024, hAt x md g b s k * w (ix3 0 k ⟨n.val, by omega⟩)

/-- The results: the row itself, the Fourier and the S5 columns (the latter time by batch and column), queries (scaled by an
    eighth), keys and values. -/
def G4 : Vec Ideal ⟨3, ![4, 8192, 1024]⟩ .bf16 := fun i => hAt x md g (i 0) (i 1) (i 2)
def G5 : Vec Ideal ⟨3, ![4, 8192, 256]⟩ .bf16 := fun i => zAt x md g w (i 0) (i 1) ⟨0 + (i 2).val, Nat.lt_trans (Nat.add_lt_add_left (i 2).isLt 0) (by decide)⟩
def G6 : Vec Ideal ⟨2, ![8192, 1024]⟩ .bf16 := fun i =>
  zAt x md g w ⟨(i 1).val / 256, Nat.div_lt_of_lt_mul (i 1).isLt⟩ (i 0) ⟨256 + (i 1).val % 256, Nat.lt_trans (Nat.add_lt_add_left (Nat.mod_lt _ (by decide)) 256) (by decide)⟩
def G7 : Vec Ideal ⟨3, ![4, 8192, 512]⟩ .bf16 := fun i =>
  zAt x md g w (i 0) (i 1) ⟨512 + (i 2).val, Nat.lt_trans (Nat.add_lt_add_left (i 2).isLt 512) (by decide)⟩ * Ideal.ofBits .f32 0x3E000000#32
def G8 : Vec Ideal ⟨3, ![4, 8192, 512]⟩ .bf16 := fun i => zAt x md g w (i 0) (i 1) ⟨1024 + (i 2).val, Nat.lt_trans (Nat.add_lt_add_left (i 2).isLt 1024) (by decide)⟩
def G9 : Vec Ideal ⟨3, ![4, 8192, 512]⟩ .bf16 := fun i => zAt x md g w (i 0) (i 1) ⟨1536 + (i 2).val, Nat.lt_of_lt_of_le (Nat.add_lt_add_left (i 2).isLt 1536) (by decide)⟩

end Cert.Inproj

namespace Cert.Kernel4Ideal.Inproj

open Cert.Kernel4Ideal Cert.Kernel4Ideal.Gen Cert.Kernel4Ideal.Value Cert.Ffn Cert.Inproj Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-! ## The payloads -/

theorem pay2_apply (v0 : Vec Ideal S1x1024x1024 .f32) (v2 : Vec Ideal S1x1x1024 .f32) (v4 v6 : Vec Ideal S1x1x1x1024 .f32) (r k : Fin 1024) :
    k0_pay2 (F := Ideal) v0 v2 v4 v6 (ix2 r k)
      = hRow (fun k => v0 (ix3 0 r k)) (fun k => v4 (ix4 0 0 0 k)) (fun k => v6 (ix4 0 0 0 k)) (fun k => v2 (ix3 0 0 k)) k := by
  pointwise [k0_pay2]
  rfl

theorem pay3_apply (v0 : Vec Ideal S1x1024x1024 .f32) (v2 : Vec Ideal S1x1x1024 .f32) (v4 v6 : Vec Ideal S1x1x1x1024 .f32) (u : Fin 1) (r k : Fin 1024) :
    k0_pay3 (F := Ideal) v0 v2 v4 v6 (ix3 u r k) = k0_pay2 (F := Ideal) v0 v2 v4 v6 (ix2 r k) := by
  unfold k0_pay3
  generalize k0_pay2 (F := Ideal) v0 v2 v4 v6 = h
  pointwise []

theorem pay5_apply (h : FVec Ideal S1024x1024 .bf16) (w : Vec Ideal S1x1024x256 .bf16) (u : Fin 1) (r : Fin 1024) (d : Fin 256) :
    k0_pay5 (F := Ideal) h (k0_pay4 (F := Ideal) w) (constant S1024x256 .f32 0x00000000#32) (ix3 u r d) = ∑ k : Fin 1024, h (ix2 r k) * w (ix3 0 k d) := by
  pointwise [k0_pay5, k0_pay4]

theorem pay6_apply (h : FVec Ideal S1024x1024 .bf16) (w : Vec Ideal S1x1024x256 .bf16) (r : Fin 1024) (d : Fin 256) :
    k0_pay6 (F := Ideal) h w (ix2 r d) = ∑ k : Fin 1024, h (ix2 r k) * w (ix3 0 k d) := by
  pointwise [k0_pay6]

theorem pay7_apply (h : FVec Ideal S1024x1024 .bf16) (w : Vec Ideal S1x1024x512 .bf16) (u : Fin 1) (r : Fin 1024) (d : Fin 512) :
    k0_pay7 (F := Ideal) h w (ix3 u r d) = (∑ k : Fin 1024, h (ix2 r k) * w (ix3 0 k d)) * Ideal.ofBits .f32 0x3E000000#32 := by
  pointwise [k0_pay7]

theorem pay8_apply (h : FVec Ideal S1024x1024 .bf16) (w : Vec Ideal S1x1024x512 .bf16) (u : Fin 1) (r : Fin 1024) (d : Fin 512) :
    k0_pay8 (F := Ideal) h w (ix3 u r d) = ∑ k : Fin 1024, h (ix2 r k) * w (ix3 0 k d) := by
  pointwise [k0_pay8]

theorem pay1_apply (h : FVec Ideal S1024x1024 .bf16) (w : Vec Ideal S1x1024x512 .bf16) (u : Fin 1) (r : Fin 1024) (d : Fin 512) :
    k0_pay1 (F := Ideal) h (k0_pay9 (F := Ideal) w) (constant S1024x512 .f32 0x00000000#32) (ix3 u r d) = ∑ k : Fin 1024, h (ix2 r k) * w (ix3 0 k d) := by
  pointwise [k0_pay1, k0_pay9]

/-! ## The loads -/

theorem ldX (x0 : Vec Ideal S1x1024x1024 .f32) (inb) : View.ld x0 (Rect.unit (s := S1x1024x1024) ![0, 0, 0] ![1, 1024, 1024] inb) = x0 :=
  View.ld_unit_zero hz3 _ x0
theorem ldG (x2 : Vec Ideal S1x1x1024 .f32) (inb) : View.ld x2 (Rect.unit (s := S1x1x1024) ![0, 0, 0] ![1, 1, 1024] inb) = x2 :=
  View.ld_unit_zero hz3 _ x2
theorem ldM (x1 : Vec Ideal S1x1x6x1024 .f32) (o : Nat) (ho : o < 6) (inb) (k : Fin 1024) :
    View.ld x1 (Rect.unit (s := S1x1x6x1024) ![0, 0, o, 0] ![1, 1, 1, 1024] inb) (ix4 0 0 0 k) = x1 (ix4 0 0 ⟨o, ho⟩ k) :=
  View.ld_unit_apply_of _ _ _ _ _ _ fun a => by
    match a with
    | ⟨0, _⟩ => rfl
    | ⟨1, _⟩ => rfl
    | ⟨2, _⟩ => rfl
    | ⟨3, _⟩ => exact (Nat.zero_add _).symm
theorem ldW256 (x3 : Vec Ideal S1x1024x2048 .bf16) (o : Nat) (ho : o + 256 ≤ 2048) (inb) (k : Fin 1024) (d : Fin 256) :
    View.ld x3 (Rect.unit (s := S1x1024x2048) ![0, 0, o] ![1, 1024, 256] inb) (ix3 0 k d) = x3 (ix3 0 k ⟨o + d.val, by omega⟩) :=
  View.ld_unit_apply_of _ _ _ _ _ _ fun a => by
    match a with
    | ⟨0, _⟩ => rfl
    | ⟨1, _⟩ => exact (Nat.zero_add _).symm
    | ⟨2, _⟩ => rfl
theorem ldW512 (x3 : Vec Ideal S1x1024x2048 .bf16) (o : Nat) (ho : o + 512 ≤ 2048) (inb) (k : Fin 1024) (d : Fin 512) :
    View.ld x3 (Rect.unit (s := S1x1024x2048) ![0, 0, o] ![1, 1024, 512] inb) (ix3 0 k d) = x3 (ix3 0 k ⟨o + d.val, by omega⟩) :=
  View.ld_unit_apply_of _ _ _ _ _ _ fun a => by
    match a with
    | ⟨0, _⟩ => rfl
    | ⟨1, _⟩ => exact (Nat.zero_add _).symm
    | ⟨2, _⟩ => rfl

/-! ## The blocks that the body leaves -/

/-- The row of the block, and its projection. -/
abbrev hB (x0 : Vec Ideal S1x1024x1024 .f32) (x1 : Vec Ideal S1x1x6x1024 .f32) (x2 : Vec Ideal S1x1x1024 .f32) (r k : Fin 1024) : EReal :=
  hRow (fun k => x0 (ix3 0 r k)) (fun k => x1 (ix4 0 0 0 k)) (fun k => x1 (ix4 0 0 1 k)) (fun k => x2 (ix3 0 0 k)) k

theorem hRow_congr {X SH SH' SC SC' G : Fin 1024 → EReal} {k : Fin 1024} (h : ∀ k, SH k = SH' k) (h' : ∀ k, SC k = SC' k) :
    hRow X SH SC G k = hRow X SH' SC' G k := by rw [funext h, funext h']

theorem pay2_row (x0 : Vec Ideal S1x1024x1024 .f32) (x1 : Vec Ideal S1x1x6x1024 .f32) (x2 : Vec Ideal S1x1x1024 .f32) (inb) (inb') (r k : Fin 1024) :
    k0_pay2 (F := Ideal) x0 x2 (View.ld x1 (Rect.unit (s := S1x1x6x1024) ![0, 0, 0, 0] ![1, 1, 1, 1024] inb))
      (View.ld x1 (Rect.unit (s := S1x1x6x1024) ![0, 0, 1, 0] ![1, 1, 1, 1024] inb')) (ix2 r k) = hB x0 x1 x2 r k :=
  (pay2_apply _ _ _ _ r k).trans (hRow_congr (fun k => ldM x1 0 (by decide) inb k) (fun k => ldM x1 1 (by decide) inb' k))

section
variable (c : Dev nD) (t : Fin cfg0.N) (x0 : Vec Ideal S1x1024x1024 .f32) (x1 : Vec Ideal S1x1x6x1024 .f32) (x2 : Vec Ideal S1x1x1024 .f32)
  (x3 : Vec Ideal S1x1024x2048 .bf16)

theorem row_apply (r k : Fin 1024) :
    kernelRun0_A.sl.r c (ms0_0 t) (hs0_0 t) (ms0_1 t) (hs0_1 t) (ms0_2 t) (hs0_2 t) x0 x1 x2 (ix2 r k) = hB x0 x1 x2 r k := by
  unfold kernelRun0_A.sl.r
  simp only [View.readAt_eq_ld, (hs0_0 t).read_unread, (hs0_1 t).read_unread, (hs0_2 t).read_unread, ldX, ldG]
  exact pay2_row x0 x1 x2 _ _ r k

theorem out4_apply (u : Fin 1) (r : Fin 1024) (d : Fin 1024) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 (ix3 u r d)
      = hB x0 x1 x2 r d := by
  unfold out0_A_4
  rw [View.read_writes_junk_eq_canon]
  dsimp only [kernelRun0_A]
  rw [View.canon_unit_zero hz3]
  simp only [View.readAt_eq_ld, (hs0_0 t).read_unread, (hs0_1 t).read_unread, (hs0_2 t).read_unread, (hs0_3 t).read_unread, ldX, ldG]
  exact (pay3_apply _ _ _ _ u r d).trans (pay2_row x0 x1 x2 _ _ r d)

theorem out5_apply (u : Fin 1) (r : Fin 1024) (d : Fin 256) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 (ix3 u r d)
      = (∑ k : Fin 1024, hB x0 x1 x2 r k * x3 (ix3 0 k ⟨0 + d.val, by omega⟩)) := by
  unfold out0_A_5
  rw [View.read_writes_junk_eq_canon]
  dsimp only [kernelRun0_A]
  rw [View.canon_unit_zero hz3]
  unfold kernelRun0_A.sl.r_1 kernelRun0_A.sl.cst_21
  simp only [View.readAt_eq_ld, (hs0_0 t).read_unread, (hs0_1 t).read_unread, (hs0_2 t).read_unread, (hs0_3 t).read_unread, ldX, ldG]
  exact (pay5_apply _ _ u r d).trans (Finset.sum_congr rfl fun k _ => congrArg₂ (· * ·) (row_apply c t x0 x1 x2 r k) (ldW256 x3 0 (by decide) _ k d))

theorem out6_apply (r : Fin 1024) (d : Fin 256) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 (ix2 r d)
      = (∑ k : Fin 1024, hB x0 x1 x2 r k * x3 (ix3 0 k ⟨256 + d.val, by omega⟩)) := by
  unfold out0_A_6
  rw [View.read_writes_junk_eq_canon]
  dsimp only [kernelRun0_A]
  rw [View.canon_unit_zero hz2]
  simp only [View.readAt_eq_ld, (hs0_0 t).read_unread, (hs0_1 t).read_unread, (hs0_2 t).read_unread, (hs0_3 t).read_unread, ldX, ldG]
  exact (pay6_apply _ _ r d).trans (Finset.sum_congr rfl fun k _ => congrArg₂ (· * ·) (row_apply c t x0 x1 x2 r k) (ldW256 x3 256 (by decide) _ k d))

theorem out7_apply (u : Fin 1) (r : Fin 1024) (d : Fin 512) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 (ix3 u r d)
      = (∑ k : Fin 1024, hB x0 x1 x2 r k * x3 (ix3 0 k ⟨512 + d.val, by omega⟩)) * Ideal.ofBits .f32 0x3E000000#32 := by
  unfold out0_A_7
  rw [View.read_writes_junk_eq_canon]
  dsimp only [kernelRun0_A]
  rw [View.canon_unit_zero hz3]
  simp only [View.readAt_eq_ld, (hs0_0 t).read_unread, (hs0_1 t).read_unread, (hs0_2 t).read_unread, (hs0_3 t).read_unread, ldX, ldG]
  exact (pay7_apply _ _ u r d).trans (congrArg (· * _) (Finset.sum_congr rfl fun k _ => congrArg₂ (· * ·) (row_apply c t x0 x1 x2 r k) (ldW512 x3 512 (by decide) _ k d)))

theorem out8_apply (u : Fin 1) (r : Fin 1024) (d : Fin 512) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 (ix3 u r d)
      = (∑ k : Fin 1024, hB x0 x1 x2 r k * x3 (ix3 0 k ⟨1024 + d.val, by omega⟩)) := by
  unfold out0_A_8
  rw [View.read_writes_junk_eq_canon]
  dsimp only [kernelRun0_A]
  rw [View.canon_unit_zero hz3]
  simp only [View.readAt_eq_ld, (hs0_0 t).read_unread, (hs0_1 t).read_unread, (hs0_2 t).read_unread, (hs0_3 t).read_unread, ldX, ldG]
  exact (pay8_apply _ _ u r d).trans (Finset.sum_congr rfl fun k _ => congrArg₂ (· * ·) (row_apply c t x0 x1 x2 r k) (ldW512 x3 1024 (by decide) _ k d))

theorem out9_apply (u : Fin 1) (r : Fin 1024) (d : Fin 512) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 (ix3 u r d)
      = (∑ k : Fin 1024, hB x0 x1 x2 r k * x3 (ix3 0 k ⟨1536 + d.val, by omega⟩)) := by
  unfold out0_A_9
  rw [View.read_writes_junk_eq_canon]
  dsimp only [kernelRun0_A]
  rw [View.canon_unit_zero hz3]
  unfold kernelRun0_A.sl.r_2 kernelRun0_A.sl.cst_45
  simp only [View.readAt_eq_ld, (hs0_0 t).read_unread, (hs0_1 t).read_unread, (hs0_2 t).read_unread, (hs0_3 t).read_unread, ldX, ldG]
  exact (pay1_apply _ _ u r d).trans (Finset.sum_congr rfl fun k _ => congrArg₂ (· * ·) (row_apply c t x0 x1 x2 r k) (ldW512 x3 1536 (by decide) _ k d))

end

/-! ## The windows' blocks -/

variable (m : (ℓ : Loc nD τ sig) → Buf (Elt Ideal) ℓ) (ρ : Dev nD → PrngReg)

theorem V0 (c : Dev nD) (l : Fin 2) (k : Fin 1024) : V m c main_v0 (ix3 l 0 k) = m ((c : Thread nD τ).loc main_arg2) (ix2 l k) := by
  have h : V m c main_v0 = shapeCast S2x1x1024 (m ((c : Thread nD τ).loc main_arg2)) shapeCasts_S2x1024_S2x1x1024 := by
    show StableHlo.after hostOps0 (fun b => m (c, b)) (Proc.devRef .tc main_v0) = _
    after_results; rfl
  rw [h]; pointwise []

theorem V1 (c : Dev nD) : V m c main_v1 = (m ((c : Thread nD τ).loc main_arg3) : S2x1024x5120.Idx → EReal) := by
  show StableHlo.after hostOps0 (fun b => m (c, b)) (Proc.devRef .tc main_v1) = _
  after_results; rfl

theorem t_lt (t : Fin cfg0.N) : t.val < 32 := lt_of_lt_of_eq t.isLt N_0

/-- The batch and the token of row `r` of point `t`'s block. -/
def bat (t : Fin cfg0.N) : Fin 4 := ⟨t.val / 8, by have := t_lt t; omega⟩
def tok (t : Fin cfg0.N) (r : Fin 1024) : Fin 8192 := ⟨t.val % 8 * 1024 + r.val, by omega⟩

theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem blk0 (c : Dev nD) (t : Fin cfg0.N) (r k : Fin 1024) :
    iblk m c 0 t (ix3 0 r k) = m ((c : Thread nD τ).loc main_arg0) (ix3 (bat t) (tok t r) k) := by
  obtain ⟨e0, e1, e2⟩ := idx0 t
  have e : ((cfg0.win 0).blk t).view.emb (ix3 0 r k) = ix3 (bat t) (tok t r) k := by
    funext a; apply Fin.ext
    match a with
    | ⟨0, _⟩ => show win0_0.index t (0 : Fin 3) * 1 + 1 * 0 = t.val / 8; omega
    | ⟨1, _⟩ => show win0_0.index t (1 : Fin 3) * 1024 + 1 * r.val = t.val % 8 * 1024 + r.val; omega
    | ⟨2, _⟩ => show win0_0.index t (2 : Fin 3) * 1024 + 1 * k.val = k.val; omega
  show V m c main_arg0 (((cfg0.win 0).blk t).view.emb (ix3 0 r k)) = _
  rw [e, V_main_arg0]

theorem idx1 : ∀ t : Fin cfg0.N, win0_1.index t (0 : Fin 4) = 0 ∧ win0_1.index t (1 : Fin 4) = t.val / 8 ∧ win0_1.index t (2 : Fin 4) = 0 ∧ win0_1.index t (3 : Fin 4) = 0 :=
  (by decide +kernel : ∀ t : Fin grid0.N, _)
theorem blk1 (c : Dev nD) (t : Fin cfg0.N) (o : Fin 6) (k : Fin 1024) :
    iblk m c 1 t (ix4 0 0 o k) = m ((c : Thread nD τ).loc main_arg1) (ix4 0 ⟨(bat t).val, Nat.lt_trans (bat t).isLt (by decide)⟩ o k) := by
  obtain ⟨e0, e1, e2, e3⟩ := idx1 t
  have e : ((cfg0.win 1).blk t).view.emb (ix4 0 0 o k) = ix4 0 ⟨(bat t).val, Nat.lt_trans (bat t).isLt (by decide)⟩ o k := by
    funext a; apply Fin.ext
    match a with
    | ⟨0, _⟩ => show win0_1.index t (0 : Fin 4) * 1 + 1 * 0 = 0; omega
    | ⟨1, _⟩ => show win0_1.index t (1 : Fin 4) * 1 + 1 * 0 = t.val / 8; omega
    | ⟨2, _⟩ => show win0_1.index t (2 : Fin 4) * 6 + 1 * o.val = o.val; omega
    | ⟨3, _⟩ => show win0_1.index t (3 : Fin 4) * 1024 + 1 * k.val = k.val; omega
  show V m c main_arg1 (((cfg0.win 1).blk t).view.emb (ix4 0 0 o k)) = _
  rw [e, V_main_arg1]

theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem blk2 (c : Dev nD) (t : Fin cfg0.N) (k : Fin 1024) :
    iblk m c 2 t (ix3 0 0 k) = m ((c : Thread nD τ).loc main_arg2) (ix2 0 k) := by
  obtain ⟨e0, e1, e2⟩ := idx2 t
  have e : ((cfg0.win 2).blk t).view.emb (ix3 0 0 k) = ix3 0 0 k := by
    funext a; apply Fin.ext
    match a with
    | ⟨0, _⟩ => show win0_2.index t (0 : Fin 3) * 1 + 1 * 0 = 0; omega
    | ⟨1, _⟩ => show win0_2.index t (1 : Fin 3) * 1 + 1 * 0 = 0; omega
    | ⟨2, _⟩ => show win0_2.index t (2 : Fin 3) * 1024 + 1 * k.val = k.val; omega
  show V m c main_v0 (((cfg0.win 2).blk t).view.emb (ix3 0 0 k)) = _
  rw [e, V0]

theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
/-- The weights' block is the first 2048 columns of the first layer's matrix. -/
theorem blk3 (c : Dev nD) (t : Fin cfg0.N) (k : Fin 1024) (n : Fin 2048) :
    X0_3 m c t (ix3 0 k n) = m ((c : Thread nD τ).loc main_arg3) (ix3 0 k ⟨n.val, by omega⟩) := by
  obtain ⟨e0, e1, e2⟩ := idx3 t
  unfold X0_3 Pipeline.Window.fill
  rw [dif_pos (moved0_3 t _)]
  refine Eq.trans (?_ : _ = V m c main_v1 (ix3 0 k ⟨n.val, by omega⟩)) (by rw [V1])
  refine congrArg (V m c main_v1) (funext fun a => Fin.ext ?_)
  match a with
  | ⟨0, _⟩ => show win0_3.index t (0 : Fin 3) * 1 + 1 * 0 = 0; omega
  | ⟨1, _⟩ => show win0_3.index t (1 : Fin 3) * 1024 + 1 * k.val = k.val; omega
  | ⟨2, _⟩ => show win0_3.index t (2 : Fin 3) * 2048 + 1 * n.val = n.val; omega

theorem idx4 : ∀ t : Fin cfg0.N, win0_4.index t (0 : Fin 3) = t.val / 8 ∧ win0_4.index t (1 : Fin 3) = t.val % 8 ∧ win0_4.index t (2 : Fin 3) = 0 :=
  (by decide +kernel : ∀ t : Fin grid0.N, _)
theorem emb4 (t : Fin cfg0.N) (u : Fin 1) (r : Fin 1024) (k : Fin 1024) : ((cfg0.win 4).blk t).view.emb (ix3 u r k) = ix3 (bat t) (tok t r) k := by
  obtain ⟨e0, e1, e2⟩ := idx4 t
  have hu : u.val = 0 := by omega
  funext a; apply Fin.ext
  match a with
  | ⟨0, _⟩ => show win0_4.index t (0 : Fin 3) * 1 + 1 * u.val = t.val / 8; omega
  | ⟨1, _⟩ => show win0_4.index t (1 : Fin 3) * 1024 + 1 * r.val = t.val % 8 * 1024 + r.val; omega
  | ⟨2, _⟩ => show win0_4.index t (2 : Fin 3) * 1024 + 1 * k.val = k.val; omega
def Gm4 (c : Dev nD) : Buf (Elt Ideal) ((c : Thread nD τ).loc main_v2_0) := G4 (m ((c : Thread nD τ).loc main_arg0)) (m ((c : Thread nD τ).loc main_arg1)) (m ((c : Thread nD τ).loc main_arg2))

theorem flushed4_eq (c : Dev nD) (t : Fin cfg0.N) :
    (dats m 0 c).flushed 4 t = ((cfg0.win 4).blk t).view.read (Elt Ideal) (Gm4 m c) := by
  rw [flushed4_A]
  funext j
  show out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (X0_3 m c t) j
    = Gm4 m c (((cfg0.win 4).blk t).view.emb j)
  obtain ⟨u, r, d, rfl⟩ : ∃ (u : Fin 1) (r : Fin 1024) (d : Fin 1024), j = ix3 u r d := ⟨j 0, j 1, j 2, eq_ix3 j⟩
  rw [emb4, out4_apply]
  simp only [hB, blk0, blk1, blk2, blk3]
  rfl

theorem covered4 (i : S4x8192x1024.Idx) :
    ∃ t : Fin cfg0.N, (cfg0.win 4).flush t = true ∧ i ∈ ((cfg0.win 4).blk t).view.set := by
  obtain ⟨b, s, d, rfl⟩ : ∃ (b : Fin 4) (s : Fin 8192) (d : Fin 1024), i = ix3 b s d := ⟨i 0, i 1, i 2, eq_ix3 i⟩
  refine ⟨⟨b.val * 8 + s.val / 1024, lt_of_lt_of_eq (b := 32) (by omega) N_0.symm⟩, flush0_4 _, ?_⟩
  have h := ((cfg0.win 4).blk (⟨b.val * 8 + s.val / 1024, lt_of_lt_of_eq (b := 32) (by omega) N_0.symm⟩ : Fin cfg0.N)).view.emb_mem_set
    (ix3 (0 : Fin 1) (⟨s.val % 1024, by omega⟩ : Fin 1024) d)
  rw [emb4] at h
  have hb : bat ⟨b.val * 8 + s.val / 1024, lt_of_lt_of_eq (b := 32) (by omega) N_0.symm⟩ = b :=
    Fin.ext (show (b.val * 8 + s.val / 1024) / 8 = b.val by omega)
  have hs : tok ⟨b.val * 8 + s.val / 1024, lt_of_lt_of_eq (b := 32) (by omega) N_0.symm⟩ ⟨s.val % 1024, by omega⟩ = s :=
    Fin.ext (show (b.val * 8 + s.val / 1024) % 8 * 1024 + s.val % 1024 = s.val by omega)
  rwa [hb, hs] at h

theorem final4 (c : Dev nD) : (dats m 0 c).arrAt 4 cfg0.N = Gm4 m c :=
  (dats m 0 c).arrAt_eq_of_cover 4 (Gm4 m c) (fun t _ => flushed4_eq m c t) covered4

theorem idx5 : ∀ t : Fin cfg0.N, win0_5.index t (0 : Fin 3) = t.val / 8 ∧ win0_5.index t (1 : Fin 3) = t.val % 8 ∧ win0_5.index t (2 : Fin 3) = 0 :=
  (by decide +kernel : ∀ t : Fin grid0.N, _)
theorem emb5 (t : Fin cfg0.N) (u : Fin 1) (r : Fin 1024) (k : Fin 256) : ((cfg0.win 5).blk t).view.emb (ix3 u r k) = ix3 (bat t) (tok t r) k := by
  obtain ⟨e0, e1, e2⟩ := idx5 t
  have hu : u.val = 0 := by omega
  funext a; apply Fin.ext
  match a with
  | ⟨0, _⟩ => show win0_5.index t (0 : Fin 3) * 1 + 1 * u.val = t.val / 8; omega
  | ⟨1, _⟩ => show win0_5.index t (1 : Fin 3) * 1024 + 1 * r.val = t.val % 8 * 1024 + r.val; omega
  | ⟨2, _⟩ => show win0_5.index t (2 : Fin 3) * 256 + 1 * k.val = k.val; omega
def Gm5 (c : Dev nD) : Buf (Elt Ideal) ((c : Thread nD τ).loc main_v2_1) := G5 (m ((c : Thread nD τ).loc main_arg0)) (m ((c : Thread nD τ).loc main_arg1)) (m ((c : Thread nD τ).loc main_arg2)) (m ((c : Thread nD τ).loc main_arg3))

theorem flushed5_eq (c : Dev nD) (t : Fin cfg0.N) :
    (dats m 0 c).flushed 5 t = ((cfg0.win 5).blk t).view.read (Elt Ideal) (Gm5 m c) := by
  rw [flushed5_A]
  funext j
  show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (X0_3 m c t) j
    = Gm5 m c (((cfg0.win 5).blk t).view.emb j)
  obtain ⟨u, r, d, rfl⟩ : ∃ (u : Fin 1) (r : Fin 1024) (d : Fin 256), j = ix3 u r d := ⟨j 0, j 1, j 2, eq_ix3 j⟩
  rw [emb5, out5_apply]
  simp only [hB, blk0, blk1, blk2, blk3]
  rfl

theorem covered5 (i : S4x8192x256.Idx) :
    ∃ t : Fin cfg0.N, (cfg0.win 5).flush t = true ∧ i ∈ ((cfg0.win 5).blk t).view.set := by
  obtain ⟨b, s, d, rfl⟩ : ∃ (b : Fin 4) (s : Fin 8192) (d : Fin 256), i = ix3 b s d := ⟨i 0, i 1, i 2, eq_ix3 i⟩
  refine ⟨⟨b.val * 8 + s.val / 1024, lt_of_lt_of_eq (b := 32) (by omega) N_0.symm⟩, flush0_5 _, ?_⟩
  have h := ((cfg0.win 5).blk (⟨b.val * 8 + s.val / 1024, lt_of_lt_of_eq (b := 32) (by omega) N_0.symm⟩ : Fin cfg0.N)).view.emb_mem_set
    (ix3 (0 : Fin 1) (⟨s.val % 1024, by omega⟩ : Fin 1024) d)
  rw [emb5] at h
  have hb : bat ⟨b.val * 8 + s.val / 1024, lt_of_lt_of_eq (b := 32) (by omega) N_0.symm⟩ = b :=
    Fin.ext (show (b.val * 8 + s.val / 1024) / 8 = b.val by omega)
  have hs : tok ⟨b.val * 8 + s.val / 1024, lt_of_lt_of_eq (b := 32) (by omega) N_0.symm⟩ ⟨s.val % 1024, by omega⟩ = s :=
    Fin.ext (show (b.val * 8 + s.val / 1024) % 8 * 1024 + s.val % 1024 = s.val by omega)
  rwa [hb, hs] at h

theorem final5 (c : Dev nD) : (dats m 0 c).arrAt 5 cfg0.N = Gm5 m c :=
  (dats m 0 c).arrAt_eq_of_cover 5 (Gm5 m c) (fun t _ => flushed5_eq m c t) covered5

theorem idx6 : ∀ t : Fin cfg0.N, win0_6.index t (0 : Fin 2) = t.val % 8 ∧ win0_6.index t (1 : Fin 2) = t.val / 8 :=
  (by decide +kernel : ∀ t : Fin grid0.N, _)
theorem emb6 (t : Fin cfg0.N) (r : Fin 1024) (k : Fin 256) :
    ((cfg0.win 6).blk t).view.emb (ix2 r k) = ix2 (tok t r) (⟨(bat t).val * 256 + k.val, by omega⟩ : Fin 1024) := by
  obtain ⟨e0, e1⟩ := idx6 t
  funext a; apply Fin.ext
  match a with
  | ⟨0, _⟩ => show win0_6.index t (0 : Fin 2) * 1024 + 1 * r.val = t.val % 8 * 1024 + r.val; omega
  | ⟨1, _⟩ => show win0_6.index t (1 : Fin 2) * 256 + 1 * k.val = t.val / 8 * 256 + k.val; omega
def Gm6 (c : Dev nD) : Buf (Elt Ideal) ((c : Thread nD τ).loc main_v2_2) := G6 (m ((c : Thread nD τ).loc main_arg0)) (m ((c : Thread nD τ).loc main_arg1)) (m ((c : Thread nD τ).loc main_arg2)) (m ((c : Thread nD τ).loc main_arg3))

theorem flushed6_eq (c : Dev nD) (t : Fin cfg0.N) :
    (dats m 0 c).flushed 6 t = ((cfg0.win 6).blk t).view.read (Elt Ideal) (Gm6 m c) := by
  rw [flushed6_A]
  funext j
  show out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (X0_3 m c t) j
    = Gm6 m c (((cfg0.win 6).blk t).view.emb j)
  obtain ⟨r, d, rfl⟩ : ∃ (r : Fin 1024) (d : Fin 256), j = ix2 r d := ⟨j 0, j 1, eq_ix2 j⟩
  rw [emb6, out6_apply]
  simp only [hB, blk0, blk1, blk2, blk3]
  have hb : (⟨((bat t).val * 256 + d.val) / 256, by omega⟩ : Fin 4) = bat t := Fin.ext (by simp only; omega)
  have hd : ((bat t).val * 256 + d.val) % 256 = d.val := by omega
  have e : Gm6 m c (ix2 (tok t r) (⟨(bat t).val * 256 + d.val, by omega⟩ : Fin 1024)) = zAt (m ((c : Thread nD τ).loc main_arg0)) (m ((c : Thread nD τ).loc main_arg1)) (m ((c : Thread nD τ).loc main_arg2)) (m ((c : Thread nD τ).loc main_arg3)) (⟨((bat t).val * 256 + d.val) / 256, by omega⟩ : Fin 4) (tok t r) ⟨256 + ((bat t).val * 256 + d.val) % 256, by omega⟩ := rfl
  rw [e, hb]
  simp only [hd]
  rfl

theorem covered6 (i : S8192x1024.Idx) :
    ∃ t : Fin cfg0.N, (cfg0.win 6).flush t = true ∧ i ∈ ((cfg0.win 6).blk t).view.set := by
  obtain ⟨s, d, rfl⟩ : ∃ (s : Fin 8192) (d : Fin 1024), i = ix2 s d := ⟨i 0, i 1, eq_ix2 i⟩
  refine ⟨⟨d.val / 256 * 8 + s.val / 1024, lt_of_lt_of_eq (b := 32) (by omega) N_0.symm⟩, flush0_6 _, ?_⟩
  have h := ((cfg0.win 6).blk (⟨d.val / 256 * 8 + s.val / 1024, lt_of_lt_of_eq (b := 32) (by omega) N_0.symm⟩ : Fin cfg0.N)).view.emb_mem_set
    (ix2 (⟨s.val % 1024, by omega⟩ : Fin 1024) (⟨d.val % 256, by omega⟩ : Fin 256))
  rw [emb6] at h
  have hs : tok ⟨d.val / 256 * 8 + s.val / 1024, lt_of_lt_of_eq (b := 32) (by omega) N_0.symm⟩ ⟨s.val % 1024, by omega⟩ = s :=
    Fin.ext (show (d.val / 256 * 8 + s.val / 1024) % 8 * 1024 + s.val % 1024 = s.val by omega)
  have hd : (⟨(bat ⟨d.val / 256 * 8 + s.val / 1024, lt_of_lt_of_eq (b := 32) (by omega) N_0.symm⟩).val * 256 + d.val % 256, by omega⟩ : Fin 1024) = d :=
    Fin.ext (show (d.val / 256 * 8 + s.val / 1024) / 8 * 256 + d.val % 256 = d.val by omega)
  rwa [hs, hd] at h

theorem final6 (c : Dev nD) : (dats m 0 c).arrAt 6 cfg0.N = Gm6 m c :=
  (dats m 0 c).arrAt_eq_of_cover 6 (Gm6 m c) (fun t _ => flushed6_eq m c t) covered6

theorem idx7 : ∀ t : Fin cfg0.N, win0_7.index t (0 : Fin 3) = t.val / 8 ∧ win0_7.index t (1 : Fin 3) = t.val % 8 ∧ win0_7.index t (2 : Fin 3) = 0 :=
  (by decide +kernel : ∀ t : Fin grid0.N, _)
theorem emb7 (t : Fin cfg0.N) (u : Fin 1) (r : Fin 1024) (k : Fin 512) : ((cfg0.win 7).blk t).view.emb (ix3 u r k) = ix3 (bat t) (tok t r) k := by
  obtain ⟨e0, e1, e2⟩ := idx7 t
  have hu : u.val = 0 := by omega
  funext a; apply Fin.ext
  match a with
  | ⟨0, _⟩ => show win0_7.index t (0 : Fin 3) * 1 + 1 * u.val = t.val / 8; omega
  | ⟨1, _⟩ => show win0_7.index t (1 : Fin 3) * 1024 + 1 * r.val = t.val % 8 * 1024 + r.val; omega
  | ⟨2, _⟩ => show win0_7.index t (2 : Fin 3) * 512 + 1 * k.val = k.val; omega
def Gm7 (c : Dev nD) : Buf (Elt Ideal) ((c : Thread nD τ).loc main_v2_3) := G7 (m ((c : Thread nD τ).loc main_arg0)) (m ((c : Thread nD τ).loc main_arg1)) (m ((c : Thread nD τ).loc main_arg2)) (m ((c : Thread nD τ).loc main_arg3))

theorem flushed7_eq (c : Dev nD) (t : Fin cfg0.N) :
    (dats m 0 c).flushed 7 t = ((cfg0.win 7).blk t).view.read (Elt Ideal) (Gm7 m c) := by
  rw [flushed7_A]
  funext j
  show out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (X0_3 m c t) j
    = Gm7 m c (((cfg0.win 7).blk t).view.emb j)
  obtain ⟨u, r, d, rfl⟩ : ∃ (u : Fin 1) (r : Fin 1024) (d : Fin 512), j = ix3 u r d := ⟨j 0, j 1, j 2, eq_ix3 j⟩
  rw [emb7, out7_apply]
  simp only [hB, blk0, blk1, blk2, blk3]
  rfl

theorem covered7 (i : S4x8192x512.Idx) :
    ∃ t : Fin cfg0.N, (cfg0.win 7).flush t = true ∧ i ∈ ((cfg0.win 7).blk t).view.set := by
  obtain ⟨b, s, d, rfl⟩ : ∃ (b : Fin 4) (s : Fin 8192) (d : Fin 512), i = ix3 b s d := ⟨i 0, i 1, i 2, eq_ix3 i⟩
  refine ⟨⟨b.val * 8 + s.val / 1024, lt_of_lt_of_eq (b := 32) (by omega) N_0.symm⟩, flush0_7 _, ?_⟩
  have h := ((cfg0.win 7).blk (⟨b.val * 8 + s.val / 1024, lt_of_lt_of_eq (b := 32) (by omega) N_0.symm⟩ : Fin cfg0.N)).view.emb_mem_set
    (ix3 (0 : Fin 1) (⟨s.val % 1024, by omega⟩ : Fin 1024) d)
  rw [emb7] at h
  have hb : bat ⟨b.val * 8 + s.val / 1024, lt_of_lt_of_eq (b := 32) (by omega) N_0.symm⟩ = b :=
    Fin.ext (show (b.val * 8 + s.val / 1024) / 8 = b.val by omega)
  have hs : tok ⟨b.val * 8 + s.val / 1024, lt_of_lt_of_eq (b := 32) (by omega) N_0.symm⟩ ⟨s.val % 1024, by omega⟩ = s :=
    Fin.ext (show (b.val * 8 + s.val / 1024) % 8 * 1024 + s.val % 1024 = s.val by omega)
  rwa [hb, hs] at h

theorem final7 (c : Dev nD) : (dats m 0 c).arrAt 7 cfg0.N = Gm7 m c :=
  (dats m 0 c).arrAt_eq_of_cover 7 (Gm7 m c) (fun t _ => flushed7_eq m c t) covered7

theorem idx8 : ∀ t : Fin cfg0.N, win0_8.index t (0 : Fin 3) = t.val / 8 ∧ win0_8.index t (1 : Fin 3) = t.val % 8 ∧ win0_8.index t (2 : Fin 3) = 0 :=
  (by decide +kernel : ∀ t : Fin grid0.N, _)
theorem emb8 (t : Fin cfg0.N) (u : Fin 1) (r : Fin 1024) (k : Fin 512) : ((cfg0.win 8).blk t).view.emb (ix3 u r k) = ix3 (bat t) (tok t r) k := by
  obtain ⟨e0, e1, e2⟩ := idx8 t
  have hu : u.val = 0 := by omega
  funext a; apply Fin.ext
  match a with
  | ⟨0, _⟩ => show win0_8.index t (0 : Fin 3) * 1 + 1 * u.val = t.val / 8; omega
  | ⟨1, _⟩ => show win0_8.index t (1 : Fin 3) * 1024 + 1 * r.val = t.val % 8 * 1024 + r.val; omega
  | ⟨2, _⟩ => show win0_8.index t (2 : Fin 3) * 512 + 1 * k.val = k.val; omega
def Gm8 (c : Dev nD) : Buf (Elt Ideal) ((c : Thread nD τ).loc main_v2_4) := G8 (m ((c : Thread nD τ).loc main_arg0)) (m ((c : Thread nD τ).loc main_arg1)) (m ((c : Thread nD τ).loc main_arg2)) (m ((c : Thread nD τ).loc main_arg3))

theorem flushed8_eq (c : Dev nD) (t : Fin cfg0.N) :
    (dats m 0 c).flushed 8 t = ((cfg0.win 8).blk t).view.read (Elt Ideal) (Gm8 m c) := by
  rw [flushed8_A]
  funext j
  show out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (X0_3 m c t) j
    = Gm8 m c (((cfg0.win 8).blk t).view.emb j)
  obtain ⟨u, r, d, rfl⟩ : ∃ (u : Fin 1) (r : Fin 1024) (d : Fin 512), j = ix3 u r d := ⟨j 0, j 1, j 2, eq_ix3 j⟩
  rw [emb8, out8_apply]
  simp only [hB, blk0, blk1, blk2, blk3]
  rfl

theorem covered8 (i : S4x8192x512.Idx) :
    ∃ t : Fin cfg0.N, (cfg0.win 8).flush t = true ∧ i ∈ ((cfg0.win 8).blk t).view.set := by
  obtain ⟨b, s, d, rfl⟩ : ∃ (b : Fin 4) (s : Fin 8192) (d : Fin 512), i = ix3 b s d := ⟨i 0, i 1, i 2, eq_ix3 i⟩
  refine ⟨⟨b.val * 8 + s.val / 1024, lt_of_lt_of_eq (b := 32) (by omega) N_0.symm⟩, flush0_8 _, ?_⟩
  have h := ((cfg0.win 8).blk (⟨b.val * 8 + s.val / 1024, lt_of_lt_of_eq (b := 32) (by omega) N_0.symm⟩ : Fin cfg0.N)).view.emb_mem_set
    (ix3 (0 : Fin 1) (⟨s.val % 1024, by omega⟩ : Fin 1024) d)
  rw [emb8] at h
  have hb : bat ⟨b.val * 8 + s.val / 1024, lt_of_lt_of_eq (b := 32) (by omega) N_0.symm⟩ = b :=
    Fin.ext (show (b.val * 8 + s.val / 1024) / 8 = b.val by omega)
  have hs : tok ⟨b.val * 8 + s.val / 1024, lt_of_lt_of_eq (b := 32) (by omega) N_0.symm⟩ ⟨s.val % 1024, by omega⟩ = s :=
    Fin.ext (show (b.val * 8 + s.val / 1024) % 8 * 1024 + s.val % 1024 = s.val by omega)
  rwa [hb, hs] at h

theorem final8 (c : Dev nD) : (dats m 0 c).arrAt 8 cfg0.N = Gm8 m c :=
  (dats m 0 c).arrAt_eq_of_cover 8 (Gm8 m c) (fun t _ => flushed8_eq m c t) covered8

theorem idx9 : ∀ t : Fin cfg0.N, win0_9.index t (0 : Fin 3) = t.val / 8 ∧ win0_9.index t (1 : Fin 3) = t.val % 8 ∧ win0_9.index t (2 : Fin 3) = 0 :=
  (by decide +kernel : ∀ t : Fin grid0.N, _)
theorem emb9 (t : Fin cfg0.N) (u : Fin 1) (r : Fin 1024) (k : Fin 512) : ((cfg0.win 9).blk t).view.emb (ix3 u r k) = ix3 (bat t) (tok t r) k := by
  obtain ⟨e0, e1, e2⟩ := idx9 t
  have hu : u.val = 0 := by omega
  funext a; apply Fin.ext
  match a with
  | ⟨0, _⟩ => show win0_9.index t (0 : Fin 3) * 1 + 1 * u.val = t.val / 8; omega
  | ⟨1, _⟩ => show win0_9.index t (1 : Fin 3) * 1024 + 1 * r.val = t.val % 8 * 1024 + r.val; omega
  | ⟨2, _⟩ => show win0_9.index t (2 : Fin 3) * 512 + 1 * k.val = k.val; omega
def Gm9 (c : Dev nD) : Buf (Elt Ideal) ((c : Thread nD τ).loc main_v2_5) := G9 (m ((c : Thread nD τ).loc main_arg0)) (m ((c : Thread nD τ).loc main_arg1)) (m ((c : Thread nD τ).loc main_arg2)) (m ((c : Thread nD τ).loc main_arg3))

theorem flushed9_eq (c : Dev nD) (t : Fin cfg0.N) :
    (dats m 0 c).flushed 9 t = ((cfg0.win 9).blk t).view.read (Elt Ideal) (Gm9 m c) := by
  rw [flushed9_A]
  funext j
  show out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (X0_3 m c t) j
    = Gm9 m c (((cfg0.win 9).blk t).view.emb j)
  obtain ⟨u, r, d, rfl⟩ : ∃ (u : Fin 1) (r : Fin 1024) (d : Fin 512), j = ix3 u r d := ⟨j 0, j 1, j 2, eq_ix3 j⟩
  rw [emb9, out9_apply]
  simp only [hB, blk0, blk1, blk2, blk3]
  rfl

theorem covered9 (i : S4x8192x512.Idx) :
    ∃ t : Fin cfg0.N, (cfg0.win 9).flush t = true ∧ i ∈ ((cfg0.win 9).blk t).view.set := by
  obtain ⟨b, s, d, rfl⟩ : ∃ (b : Fin 4) (s : Fin 8192) (d : Fin 512), i = ix3 b s d := ⟨i 0, i 1, i 2, eq_ix3 i⟩
  refine ⟨⟨b.val * 8 + s.val / 1024, lt_of_lt_of_eq (b := 32) (by omega) N_0.symm⟩, flush0_9 _, ?_⟩
  have h := ((cfg0.win 9).blk (⟨b.val * 8 + s.val / 1024, lt_of_lt_of_eq (b := 32) (by omega) N_0.symm⟩ : Fin cfg0.N)).view.emb_mem_set
    (ix3 (0 : Fin 1) (⟨s.val % 1024, by omega⟩ : Fin 1024) d)
  rw [emb9] at h
  have hb : bat ⟨b.val * 8 + s.val / 1024, lt_of_lt_of_eq (b := 32) (by omega) N_0.symm⟩ = b :=
    Fin.ext (show (b.val * 8 + s.val / 1024) / 8 = b.val by omega)
  have hs : tok ⟨b.val * 8 + s.val / 1024, lt_of_lt_of_eq (b := 32) (by omega) N_0.symm⟩ ⟨s.val % 1024, by omega⟩ = s :=
    Fin.ext (show (b.val * 8 + s.val / 1024) % 8 * 1024 + s.val % 1024 = s.val by omega)
  rwa [hb, hs] at h

theorem final9 (c : Dev nD) : (dats m 0 c).arrAt 9 cfg0.N = Gm9 m c :=
  (dats m 0 c).arrAt_eq_of_cover 9 (Gm9 m c) (fun t _ => flushed9_eq m c t) covered9

end Cert.Kernel4Ideal.Inproj

end
-- ==== Proof.InprojRef.lean ====
/- The reference's input projection as the same six functions of the argument arrays: one lemma per stage, at an index. -/
module

public import proofs.«01_k».proof.Proof.InprojVal
public import proofs.«01_k».proof.Proof.Gen.Reference4Ideal.Read

@[expose] public section

set_option maxRecDepth 16384

noncomputable section

namespace Cert.Reference4Ideal.Inproj

open Cert.Reference4Ideal Cert.Reference4Ideal.Read Cert.Ffn Cert.Inproj Idealize.ShloMosaic Idealize.ShloMosaic.TcCoe Idealize.SL.Sem

variable (x0 : Vec Ideal S4x8192x1024 .f32) (x1 : Vec Ideal S2x8x6x1024 .f32) (x2 : Vec Ideal S2x1024 .f32) (x3 : Vec Ideal S2x1024x5120 .f32)

/-- The normalised and modulated row. -/
theorem h_apply (b : Fin 4) (s : Fin 8192) (k : Fin 1024) : val_main_v26 (F := Ideal) x0 x1 x2 (ix3 b s k) = hAt x0 x1 x2 b s k := by
  unfold val_main_v26 val_main_v25 val_main_v24 val_main_v23 val_main_v22 val_main_v21 val_main_cst_2 val_main_v20 val_main_v19 val_main_v18 val_main_v17 val_main_v16 val_main_v15 val_main_v14 val_main_v13 val_main_cst_1 val_main_v12 val_main_v11 val_main_cst_0 val_main_v10 val_main_v9 val_main_cst val_main_v8 val_main_v7 val_main_v6 val_main_v5 val_main_v4 val_main_v3 val_main_v2 val_main_v1 val_main_v0
  pointwise []
  rfl

/-- Its projection to the first 2048 columns. -/
theorem z_apply (b : Fin 4) (s : Fin 8192) (n : Fin 2048) : val_main_v30 (F := Ideal) x0 x1 x2 x3 (ix3 b s n) = zAt x0 x1 x2 x3 b s n := by
  have e : val_main_v30 (F := Ideal) x0 x1 x2 x3 (ix3 b s n)
      = ∑ k : Fin 1024, val_main_v26 (F := Ideal) x0 x1 x2 (ix3 b s k) * x3 (ix3 0 k ⟨n.val, by omega⟩) := by
    unfold val_main_v30
    generalize val_main_v26 (F := Ideal) x0 x1 x2 = h
    pointwise [val_main_v29, val_main_v28, val_main_v27]
  rw [e]
  simp only [h_apply]
  rfl

theorem val40_eq : val_main_v40 (F := Ideal) x0 x1 x2 = G4 x0 x1 x2 := by
  funext j
  obtain ⟨b, s, d, rfl⟩ : ∃ (b : Fin 4) (s : Fin 8192) (d : Fin 1024), j = ix3 b s d := ⟨j 0, j 1, j 2, eq_ix3 j⟩
  exact h_apply x0 x1 x2 b s d

theorem val41_eq : val_main_v41 (F := Ideal) x0 x1 x2 x3 = G5 x0 x1 x2 x3 := by
  funext j
  obtain ⟨b, s, d, rfl⟩ : ∃ (b : Fin 4) (s : Fin 8192) (d : Fin 256), j = ix3 b s d := ⟨j 0, j 1, j 2, eq_ix3 j⟩
  have e : val_main_v41 (F := Ideal) x0 x1 x2 x3 (ix3 b s d) = val_main_v30 (F := Ideal) x0 x1 x2 x3 (ix3 b s ⟨0 + d.val, by omega⟩) := by
    unfold val_main_v41 val_main_v37
    generalize val_main_v30 (F := Ideal) x0 x1 x2 x3 = z
    pointwise []
  rw [e, z_apply]
  rfl

theorem val44_eq : val_main_v44 (F := Ideal) x0 x1 x2 x3 = G8 x0 x1 x2 x3 := by
  funext j
  obtain ⟨b, s, d, rfl⟩ : ∃ (b : Fin 4) (s : Fin 8192) (d : Fin 512), j = ix3 b s d := ⟨j 0, j 1, j 2, eq_ix3 j⟩
  have e : val_main_v44 (F := Ideal) x0 x1 x2 x3 (ix3 b s d) = val_main_v30 (F := Ideal) x0 x1 x2 x3 (ix3 b s ⟨1024 + d.val, by omega⟩) := by
    unfold val_main_v44 val_main_v38
    generalize val_main_v30 (F := Ideal) x0 x1 x2 x3 = z
    pointwise []
  rw [e, z_apply]
  rfl

theorem val45_eq : val_main_v45 (F := Ideal) x0 x1 x2 x3 = G9 x0 x1 x2 x3 := by
  funext j
  obtain ⟨b, s, d, rfl⟩ : ∃ (b : Fin 4) (s : Fin 8192) (d : Fin 512), j = ix3 b s d := ⟨j 0, j 1, j 2, eq_ix3 j⟩
  have e : val_main_v45 (F := Ideal) x0 x1 x2 x3 (ix3 b s d) = val_main_v30 (F := Ideal) x0 x1 x2 x3 (ix3 b s ⟨1536 + d.val, by omega⟩) := by
    unfold val_main_v45 val_main_v39
    generalize val_main_v30 (F := Ideal) x0 x1 x2 x3 = z
    pointwise []
  rw [e, z_apply]
  rfl

theorem val43_eq : val_main_v43 (F := Ideal) x0 x1 x2 x3 = G7 x0 x1 x2 x3 := by
  funext j
  obtain ⟨b, s, d, rfl⟩ : ∃ (b : Fin 4) (s : Fin 8192) (d : Fin 512), j = ix3 b s d := ⟨j 0, j 1, j 2, eq_ix3 j⟩
  have e : val_main_v43 (F := Ideal) x0 x1 x2 x3 (ix3 b s d)
      = val_main_v30 (F := Ideal) x0 x1 x2 x3 (ix3 b s ⟨512 + d.val, by omega⟩) * Ideal.ofBits .f32 0x3E000000#32 := by
    unfold val_main_v43 val_main_v36 val_main_v35 val_main_cst_3 val_main_v34
    generalize val_main_v30 (F := Ideal) x0 x1 x2 x3 = z
    pointwise []
  rw [e, z_apply]
  rfl

/-- Batches and channels read as one axis. -/
theorem join_apply (v : Vec Ideal S8192x4x256 .f32) (hc : S8192x4x256.ShapeCasts S8192x1024) (s : Fin 8192) (d : Fin 1024) :
    shapeCast S8192x1024 v hc (ix2 s d) = v (ix3 s ⟨d.val / 256, by omega⟩ ⟨d.val % 256, by omega⟩) := by
  refine shapeCast_apply _ _ _ _ ?_
  rw [rowMajor_val2 (ix2 s d) 1024 rfl, rowMajor_val3 (ix3 s (⟨d.val / 256, by omega⟩ : Fin 4) (⟨d.val % 256, by omega⟩ : Fin 256)) 1024 256 rfl rfl]
  show s.val * 1024 + d.val / 256 * 256 + d.val % 256 = s.val * 1024 + d.val
  omega

theorem val42_eq : val_main_v42 (F := Ideal) x0 x1 x2 x3 = G6 x0 x1 x2 x3 := by
  funext j
  obtain ⟨s, d, rfl⟩ : ∃ (s : Fin 8192) (d : Fin 1024), j = ix2 s d := ⟨j 0, j 1, eq_ix2 j⟩
  have e : ∀ (b : Fin 4) (n : Fin 256), val_main_v32 (F := Ideal) x0 x1 x2 x3 (ix3 s b n)
      = val_main_v30 (F := Ideal) x0 x1 x2 x3 (ix3 b s ⟨256 + n.val, by omega⟩) := by
    intro b n
    unfold val_main_v32 val_main_v31
    generalize val_main_v30 (F := Ideal) x0 x1 x2 x3 = z
    pointwise []
  refine (join_apply (val_main_v32 (F := Ideal) x0 x1 x2 x3) _ s d).trans ?_
  rw [e, z_apply]
  rfl

end Cert.Reference4Ideal.Inproj

end
-- ==== Proof.FnetA.lean ====
/- What the first stage's body leaves in its block, at an index. -/
module

public import proofs.«01_k».proof.Proof.Gen.Kernel5Ideal.Frame
public import Idealize.ShloMosaic.Lib.Pointwise
public import Idealize.ShloMosaic.Lib.Pipeline.ValueKit.Tiles
public import Idealize.ShloMosaic.Lib.Pipeline.ReadBack

@[expose] public section

set_option maxRecDepth 16384

noncomputable section

namespace Cert.Kernel5Ideal.FnetA

open Cert.Kernel5Ideal Cert.Kernel5Ideal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- A row of the table (from `o`) against a column of the block. -/
def colAt (f : Vec Ideal S128x64 .bf16) (z : Fin 64 → EReal) (o : Nat) (ho : o + 64 ≤ 128) (k : Fin 64) : EReal :=
  ∑ t : Fin 64, f (ix2 ⟨o + k.val, by omega⟩ t) * z t

/-- An element of the block's real (`p = 0`) or imaginary part. -/
def stageAt (f : Vec Ideal S128x64 .bf16) (z : Fin 64 → EReal) (c s : EReal) (p : Fin 2) (k : Fin 64) : EReal :=
  if p.val = 0 then colAt f z 0 (by decide) k * c - colAt f z 64 (by decide) k * s
  else colAt f z 0 (by decide) k * s + colAt f z 64 (by decide) k * c

theorem pay6_apply (f : Vec Ideal S128x64 .bf16) (x : Vec Ideal S1x64x16384 .bf16) (c s : Vec Ideal S64x16384 .f32) (u v : Fin 1) (k : Fin 64) (e : Fin 16384) :
    k0_pay6 (F := Ideal) f x c s (ix4 u v k e) = stageAt f (fun t => x (ix3 0 t e)) (c (ix2 k e)) (s (ix2 k e)) 0 k := by
  pointwise [k0_pay6, k0_pay2, k0_pay3, k0_pay4, k0_pay5, k0_pay1]
  refine Eq.trans ?_ (if_pos rfl).symm
  unfold colAt
  simp only [Nat.zero_add]

theorem pay7_apply (f : Vec Ideal S128x64 .bf16) (x : Vec Ideal S1x64x16384 .bf16) (c s : Vec Ideal S64x16384 .f32) (u v : Fin 1) (k : Fin 64) (e : Fin 16384) :
    k0_pay7 (F := Ideal) f x c s (ix4 u v k e) = stageAt f (fun t => x (ix3 0 t e)) (c (ix2 k e)) (s (ix2 k e)) 1 k := by
  pointwise [k0_pay7, k0_pay2, k0_pay3, k0_pay4, k0_pay5, k0_pay1]
  refine Eq.trans ?_ (if_neg (by decide)).symm
  unfold colAt
  simp only [Nat.zero_add]

/-- The block as one function of its index. -/
def outA (x0 : Vec Ideal S1x64x16384 .bf16) (x1 : Vec Ideal S128x64 .bf16) (x2 x3 : Vec Ideal S64x16384 .f32) : Vec Ideal S1x2x64x16384 .bf16 := fun i =>
  stageAt x1 (fun t => x0 (ix3 0 t (i 3))) (x2 (ix2 (i 2) (i 3))) (x3 (ix2 (i 2) (i 3))) (i 1) (i 2)

section
variable (x0 : Vec Ideal S1x64x16384 .bf16) (x1 : Vec Ideal S128x64 .bf16) (x2 x3 : Vec Ideal S64x16384 .f32)

theorem ldF (x : Vec Ideal S128x64 .bf16) : View.ld x r0_0 = x := View.ld_unit_zero hz2 _ x
theorem ldX (x : Vec Ideal S1x64x16384 .bf16) : View.ld x r0_1 = x := View.ld_unit_zero hz3 _ x
theorem ldC (x : Vec Ideal S64x16384 .f32) : View.ld x r0_2 = x := View.ld_unit_zero hz2 _ x

theorem emb_piece (p : Fin 2) (inb) (u v : Fin 1) (k : Fin 64) (e : Fin 16384) :
    (Rect.unit (s := S1x2x64x16384) ![0, p.val, 0, 0] S1x1x64x16384.size inb).emb (ix4 u v k e) = ix4 (0 : Fin 1) p k e := by
  funext a; apply Fin.ext
  match a with
  | ⟨0, _⟩ => show 0 + 1 * u.val = 0; omega
  | ⟨1, _⟩ => show p.val + 1 * v.val = p.val; omega
  | ⟨2, _⟩ => show 0 + 1 * k.val = k.val; omega
  | ⟨3, _⟩ => show 0 + 1 * e.val = e.val; omega

theorem piece7 (x : S1x1x64x16384.Idx) :
    k0_pay7 (F := Ideal) (View.ld x1 r0_0) (View.ld x0 r0_1) (View.ld x2 r0_2) (View.ld x3 r0_2) x = outA x0 x1 x2 x3 (r0_4.emb x) := by
  obtain ⟨u, v, k, e, rfl⟩ : ∃ (u v : Fin 1) (k : Fin 64) (e : Fin 16384), x = ix4 u v k e := ⟨x 0, x 1, x 2, x 3, eq_ix4 x⟩
  rw [ldF, ldX, ldC, ldC, pay7_apply]
  exact (congrArg (outA x0 x1 x2 x3) (emb_piece 1 _ u v k e)).symm

theorem piece6 (x : S1x1x64x16384.Idx) :
    k0_pay6 (F := Ideal) (View.ld x1 r0_0) (View.ld x0 r0_1) (View.ld x2 r0_2) (View.ld x3 r0_2) x = outA x0 x1 x2 x3 (r0_3.emb x) := by
  obtain ⟨u, v, k, e, rfl⟩ : ∃ (u v : Fin 1) (k : Fin 64) (e : Fin 16384), x = ix4 u v k e := ⟨x 0, x 1, x 2, x 3, eq_ix4 x⟩
  rw [ldF, ldX, ldC, ldC, pay6_apply]
  exact (congrArg (outA x0 x1 x2 x3) (emb_piece 0 _ u v k e)).symm

theorem out0_eq : out0_4 (F := Ideal) x0 x1 x2 x3 = outA x0 x1 x2 x3 := by
  funext y
  unfold out0_4
  refine View.canon_apply_of_pieces (outA x0 x1 x2 x3) _ ?_ y (cover0_4 _ _ y)
  exact View.PiecesOf.mem ⟨fun x => piece7 x0 x1 x2 x3 x, fun x => piece6 x0 x1 x2 x3 x, trivial⟩

end

end Cert.Kernel5Ideal.FnetA
-- ==== Proof.FnetB.lean ====
/- What the second stage's body leaves in its block, at an index. -/
module

public import proofs.«01_k».proof.Proof.Gen.Kernel5Ideal.Frame
public import Idealize.ShloMosaic.Lib.Pointwise
public import Idealize.ShloMosaic.Lib.Pipeline.ValueKit.Tiles
public import Idealize.ShloMosaic.Lib.Pipeline.ReadBack

@[expose] public section

set_option maxRecDepth 16384

noncomputable section

namespace Cert.Kernel5Ideal.Fnet

open Cert.Kernel5Ideal Cert.Kernel5Ideal.Gen Idealize.ShloMosaic Idealize.ShloMosaic.TcCoe Idealize.SL.Sem

theorem hz2 : (![0, 0] : Fin 2 → Nat) = fun _ => 0 := funext fun a => by fin_cases a <;> rfl

/-- The position sum's real (row `o = 0`) or imaginary (`o = 128`) part over a block's real part `a` and imaginary part `b`. -/
def posAt (a b : Fin 128 → Fin 256 → EReal) (f : Vec Ideal S256x256 .bf16) (o : Nat) (ho : o + 128 ≤ 256) (k : Fin 128) (d : Fin 256) : EReal :=
  ∑ j : Fin 128, f (ix2 ⟨o + k.val, by omega⟩ ⟨j.val, by omega⟩) * a j d + ∑ j : Fin 128, f (ix2 ⟨o + k.val, by omega⟩ ⟨128 + j.val, by omega⟩) * b j d

/-- An element of the block. -/
def mixAt (a b : Fin 128 → Fin 256 → EReal) (f c s : Vec Ideal S256x256 .bf16) (k : Fin 128) (e : Fin 256) : EReal :=
  (∑ d : Fin 256, posAt a b f 0 (by decide) k d * c (ix2 d e) - ∑ d : Fin 256, posAt a b f 128 (by decide) k d * s (ix2 d e)) * Named.named (F := Ideal) Cert.Kernel5Ideal.κ "inv_sqrt_n" (φ := .f32) 0x3AB504F3#32

theorem pay2_apply (a b : Vec Ideal S1x1x1x128x256 .bf16) (f c s : Vec Ideal S256x256 .bf16) (u : Fin 1) (k : Fin 128) (e : Fin 256) :
    k1_pay2 (F := Ideal) a b f c s (ix3 u k e) = mixAt (fun j d => a (ix5 0 0 0 j d)) (fun j d => b (ix5 0 0 0 j d)) f c s k e := by
  pointwise [k1_pay2]
  unfold mixAt posAt
  simp only [Nat.zero_add]

/-- The block as one function of its index. -/
def outB (x0 : Vec Ideal S1x2x32x128x256 .bf16) (x1 x2 x3 : Vec Ideal S256x256 .bf16) : Vec Ideal S1x128x8192 .bf16 := fun i =>
  mixAt (fun j d => x0 (ix5 0 0 ⟨(i 2).val / 256, Nat.div_lt_of_lt_mul (i 2).isLt⟩ j d)) (fun j d => x0 (ix5 0 1 ⟨(i 2).val / 256, Nat.div_lt_of_lt_mul (i 2).isLt⟩ j d))
    x1 x2 x3 (i 1) ⟨(i 2).val % 256, Nat.mod_lt _ (by decide)⟩

section
variable (x0 : Vec Ideal S1x2x32x128x256 .bf16) (x1 x2 x3 : Vec Ideal S256x256 .bf16)

theorem ldT (x : Vec Ideal S256x256 .bf16) (inb) : View.ld x (Rect.unit (s := S256x256) ![0, 0] ![256, 256] inb) = x := View.ld_unit_zero hz2 _ x

theorem ldA (p : Fin 2) (o : Nat) (ho : o < 32) (inb) (j : Fin 128) (d : Fin 256) :
    View.ld x0 (Rect.unit (s := S1x2x32x128x256) ![0, p.val, o, 0, 0] ![1, 1, 1, 128, 256] inb) (ix5 0 0 0 j d) = x0 (ix5 0 p ⟨o, ho⟩ j d) :=
  View.ld_unit_apply_of _ _ _ _ _ _ fun a => by
    match a with
    | ⟨0, _⟩ => rfl
    | ⟨1, _⟩ => rfl
    | ⟨2, _⟩ => rfl
    | ⟨3, _⟩ => exact (Nat.zero_add _).symm
    | ⟨4, _⟩ => exact (Nat.zero_add _).symm

theorem piece (o n : Nat) (ho : o < 32) (hn : n = 256 * o) (inb0) (inb1) (inb2) (x : S1x128x256.Idx) :
    k1_pay2 (F := Ideal) (View.ld x0 (Rect.unit (s := S1x2x32x128x256) ![0, 0, o, 0, 0] S1x1x1x128x256.size inb0))
      (View.ld x0 (Rect.unit (s := S1x2x32x128x256) ![0, 1, o, 0, 0] S1x1x1x128x256.size inb1)) (View.ld x1 r1_2) (View.ld x2 r1_2) (View.ld x3 r1_2) x
      = outB x0 x1 x2 x3 ((Rect.unit (s := S1x128x8192) ![0, 0, n] S1x128x256.size inb2).emb x) := by
  obtain ⟨u, k, e, rfl⟩ : ∃ (u : Fin 1) (k : Fin 128) (e : Fin 256), x = ix3 u k e := ⟨x 0, x 1, x 2, eq_ix3 x⟩
  have he : (Rect.unit (s := S1x128x8192) ![0, 0, n] S1x128x256.size inb2).emb (ix3 u k e) = ix3 (0 : Fin 1) k (⟨n + e.val, by omega⟩ : Fin 8192) := by
    funext a; apply Fin.ext
    match a with
    | ⟨0, _⟩ => show 0 + 1 * u.val = 0; omega
    | ⟨1, _⟩ => show 0 + 1 * k.val = k.val; omega
    | ⟨2, _⟩ => show n + 1 * e.val = n + e.val; omega
  have h1 : (⟨(n + e.val) / 256, by omega⟩ : Fin 32) = ⟨o, ho⟩ := Fin.ext (show (n + e.val) / 256 = o by omega)
  have h2 : (⟨(n + e.val) % 256, by omega⟩ : Fin 256) = e := Fin.ext (show (n + e.val) % 256 = e.val by omega)
  rw [he]
  have hG : outB x0 x1 x2 x3 (ix3 (0 : Fin 1) k (⟨n + e.val, by omega⟩ : Fin 8192))
      = mixAt (fun j d => x0 (ix5 0 0 ⟨(n + e.val) / 256, by omega⟩ j d)) (fun j d => x0 (ix5 0 1 ⟨(n + e.val) / 256, by omega⟩ j d))
          x1 x2 x3 k ⟨(n + e.val) % 256, by omega⟩ := rfl
  rw [hG, h1, h2, pay2_apply, ldT, ldT, ldT]
  rw [show (fun (j : Fin 128) (d : Fin 256) => View.ld x0 (Rect.unit (s := S1x2x32x128x256) ![0, 0, o, 0, 0] S1x1x1x128x256.size inb0) (ix5 0 0 0 j d))
      = fun j d => x0 (ix5 0 0 ⟨o, ho⟩ j d) from funext fun j => funext fun d => ldA x0 0 o ho _ j d,
    show (fun (j : Fin 128) (d : Fin 256) => View.ld x0 (Rect.unit (s := S1x2x32x128x256) ![0, 1, o, 0, 0] S1x1x1x128x256.size inb1) (ix5 0 0 0 j d))
      = fun j d => x0 (ix5 0 1 ⟨o, ho⟩ j d) from funext fun j => funext fun d => ldA x0 1 o ho _ j d]

theorem out1_eq : out1_4 (F := Ideal) x0 x1 x2 x3 = outB x0 x1 x2 x3 := by
  funext y
  unfold out1_4
  refine View.canon_apply_of_pieces (outB x0 x1 x2 x3) _ ?_ y (cover1_4 _ _ _ _ _ _ _ _ _ _ _ _ _ _ _ _ _ _ _ _ _ _ _ _ _ _ _ _ _ _ _ _ y)
  exact View.PiecesOf.mem ⟨fun x => piece x0 x1 x2 x3 31 7936 (by decide) rfl inb_S1x2x32x128x256_S1x1x1x128x256_0_0_31_0_0 inb_S1x2x32x128x256_S1x1x1x128x256_0_1_31_0_0 inb_S1x128x8192_S1x128x256_0_0_7936 x,
    fun x => piece x0 x1 x2 x3 30 7680 (by decide) rfl inb_S1x2x32x128x256_S1x1x1x128x256_0_0_30_0_0 inb_S1x2x32x128x256_S1x1x1x128x256_0_1_30_0_0 inb_S1x128x8192_S1x128x256_0_0_7680 x,
    fun x => piece x0 x1 x2 x3 29 7424 (by decide) rfl inb_S1x2x32x128x256_S1x1x1x128x256_0_0_29_0_0 inb_S1x2x32x128x256_S1x1x1x128x256_0_1_29_0_0 inb_S1x128x8192_S1x128x256_0_0_7424 x,
    fun x => piece x0 x1 x2 x3 28 7168 (by decide) rfl inb_S1x2x32x128x256_S1x1x1x128x256_0_0_28_0_0 inb_S1x2x32x128x256_S1x1x1x128x256_0_1_28_0_0 inb_S1x128x8192_S1x128x256_0_0_7168 x,
    fun x => piece x0 x1 x2 x3 27 6912 (by decide) rfl inb_S1x2x32x128x256_S1x1x1x128x256_0_0_27_0_0 inb_S1x2x32x128x256_S1x1x1x128x256_0_1_27_0_0 inb_S1x128x8192_S1x128x256_0_0_6912 x,
    fun x => piece x0 x1 x2 x3 26 6656 (by decide) rfl inb_S1x2x32x128x256_S1x1x1x128x256_0_0_26_0_0 inb_S1x2x32x128x256_S1x1x1x128x256_0_1_26_0_0 inb_S1x128x8192_S1x128x256_0_0_6656 x,
    fun x => piece x0 x1 x2 x3 25 6400 (by decide) rfl inb_S1x2x32x128x256_S1x1x1x128x256_0_0_25_0_0 inb_S1x2x32x128x256_S1x1x1x128x256_0_1_25_0_0 inb_S1x128x8192_S1x128x256_0_0_6400 x,
    fun x => piece x0 x1 x2 x3 24 6144 (by decide) rfl inb_S1x2x32x128x256_S1x1x1x128x256_0_0_24_0_0 inb_S1x2x32x128x256_S1x1x1x128x256_0_1_24_0_0 inb_S1x128x8192_S1x128x256_0_0_6144 x,
    fun x => piece x0 x1 x2 x3 23 5888 (by decide) rfl inb_S1x2x32x128x256_S1x1x1x128x256_0_0_23_0_0 inb_S1x2x32x128x256_S1x1x1x128x256_0_1_23_0_0 inb_S1x128x8192_S1x128x256_0_0_5888 x,
    fun x => piece x0 x1 x2 x3 22 5632 (by decide) rfl inb_S1x2x32x128x256_S1x1x1x128x256_0_0_22_0_0 inb_S1x2x32x128x256_S1x1x1x128x256_0_1_22_0_0 inb_S1x128x8192_S1x128x256_0_0_5632 x,
    fun x => piece x0 x1 x2 x3 21 5376 (by decide) rfl inb_S1x2x32x128x256_S1x1x1x128x256_0_0_21_0_0 inb_S1x2x32x128x256_S1x1x1x128x256_0_1_21_0_0 inb_S1x128x8192_S1x128x256_0_0_5376 x,
    fun x => piece x0 x1 x2 x3 20 5120 (by decide) rfl inb_S1x2x32x128x256_S1x1x1x128x256_0_0_20_0_0 inb_S1x2x32x128x256_S1x1x1x128x256_0_1_20_0_0 inb_S1x128x8192_S1x128x256_0_0_5120 x,
    fun x => piece x0 x1 x2 x3 19 4864 (by decide) rfl inb_S1x2x32x128x256_S1x1x1x128x256_0_0_19_0_0 inb_S1x2x32x128x256_S1x1x1x128x256_0_1_19_0_0 inb_S1x128x8192_S1x128x256_0_0_4864 x,
    fun x => piece x0 x1 x2 x3 18 4608 (by decide) rfl inb_S1x2x32x128x256_S1x1x1x128x256_0_0_18_0_0 inb_S1x2x32x128x256_S1x1x1x128x256_0_1_18_0_0 inb_S1x128x8192_S1x128x256_0_0_4608 x,
    fun x => piece x0 x1 x2 x3 17 4352 (by decide) rfl inb_S1x2x32x128x256_S1x1x1x128x256_0_0_17_0_0 inb_S1x2x32x128x256_S1x1x1x128x256_0_1_17_0_0 inb_S1x128x8192_S1x128x256_0_0_4352 x,
    fun x => piece x0 x1 x2 x3 16 4096 (by decide) rfl inb_S1x2x32x128x256_S1x1x1x128x256_0_0_16_0_0 inb_S1x2x32x128x256_S1x1x1x128x256_0_1_16_0_0 inb_S1x128x8192_S1x128x256_0_0_4096 x,
    fun x => piece x0 x1 x2 x3 15 3840 (by decide) rfl inb_S1x2x32x128x256_S1x1x1x128x256_0_0_15_0_0 inb_S1x2x32x128x256_S1x1x1x128x256_0_1_15_0_0 inb_S1x128x8192_S1x128x256_0_0_3840 x,
    fun x => piece x0 x1 x2 x3 14 3584 (by decide) rfl inb_S1x2x32x128x256_S1x1x1x128x256_0_0_14_0_0 inb_S1x2x32x128x256_S1x1x1x128x256_0_1_14_0_0 inb_S1x128x8192_S1x128x256_0_0_3584 x,
    fun x => piece x0 x1 x2 x3 13 3328 (by decide) rfl inb_S1x2x32x128x256_S1x1x1x128x256_0_0_13_0_0 inb_S1x2x32x128x256_S1x1x1x128x256_0_1_13_0_0 inb_S1x128x8192_S1x128x256_0_0_3328 x,
    fun x => piece x0 x1 x2 x3 12 3072 (by decide) rfl inb_S1x2x32x128x256_S1x1x1x128x256_0_0_12_0_0 inb_S1x2x32x128x256_S1x1x1x128x256_0_1_12_0_0 inb_S1x128x8192_S1x128x256_0_0_3072 x,
    fun x => piece x0 x1 x2 x3 11 2816 (by decide) rfl inb_S1x2x32x128x256_S1x1x1x128x256_0_0_11_0_0 inb_S1x2x32x128x256_S1x1x1x128x256_0_1_11_0_0 inb_S1x128x8192_S1x128x256_0_0_2816 x,
    fun x => piece x0 x1 x2 x3 10 2560 (by decide) rfl inb_S1x2x32x128x256_S1x1x1x128x256_0_0_10_0_0 inb_S1x2x32x128x256_S1x1x1x128x256_0_1_10_0_0 inb_S1x128x8192_S1x128x256_0_0_2560 x,
    fun x => piece x0 x1 x2 x3 9 2304 (by decide) rfl inb_S1x2x32x128x256_S1x1x1x128x256_0_0_9_0_0 inb_S1x2x32x128x256_S1x1x1x128x256_0_1_9_0_0 inb_S1x128x8192_S1x128x256_0_0_2304 x,
    fun x => piece x0 x1 x2 x3 8 2048 (by decide) rfl inb_S1x2x32x128x256_S1x1x1x128x256_0_0_8_0_0 inb_S1x2x32x128x256_S1x1x1x128x256_0_1_8_0_0 inb_S1x128x8192_S1x128x256_0_0_2048 x,
    fun x => piece x0 x1 x2 x3 7 1792 (by decide) rfl inb_S1x2x32x128x256_S1x1x1x128x256_0_0_7_0_0 inb_S1x2x32x128x256_S1x1x1x128x256_0_1_7_0_0 inb_S1x128x8192_S1x128x256_0_0_1792 x,
    fun x => piece x0 x1 x2 x3 6 1536 (by decide) rfl inb_S1x2x32x128x256_S1x1x1x128x256_0_0_6_0_0 inb_S1x2x32x128x256_S1x1x1x128x256_0_1_6_0_0 inb_S1x128x8192_S1x128x256_0_0_1536 x,
    fun x => piece x0 x1 x2 x3 5 1280 (by decide) rfl inb_S1x2x32x128x256_S1x1x1x128x256_0_0_5_0_0 inb_S1x2x32x128x256_S1x1x1x128x256_0_1_5_0_0 inb_S1x128x8192_S1x128x256_0_0_1280 x,
    fun x => piece x0 x1 x2 x3 4 1024 (by decide) rfl inb_S1x2x32x128x256_S1x1x1x128x256_0_0_4_0_0 inb_S1x2x32x128x256_S1x1x1x128x256_0_1_4_0_0 inb_S1x128x8192_S1x128x256_0_0_1024 x,
    fun x => piece x0 x1 x2 x3 3 768 (by decide) rfl inb_S1x2x32x128x256_S1x1x1x128x256_0_0_3_0_0 inb_S1x2x32x128x256_S1x1x1x128x256_0_1_3_0_0 inb_S1x128x8192_S1x128x256_0_0_768 x,
    fun x => piece x0 x1 x2 x3 2 512 (by decide) rfl inb_S1x2x32x128x256_S1x1x1x128x256_0_0_2_0_0 inb_S1x2x32x128x256_S1x1x1x128x256_0_1_2_0_0 inb_S1x128x8192_S1x128x256_0_0_512 x,
    fun x => piece x0 x1 x2 x3 1 256 (by decide) rfl inb_S1x2x32x128x256_S1x1x1x128x256_0_0_1_0_0 inb_S1x2x32x128x256_S1x1x1x128x256_0_1_1_0_0 inb_S1x128x8192_S1x128x256_0_0_256 x,
    fun x => piece x0 x1 x2 x3 0 0 (by decide) rfl inb_S1x2x32x128x256_S1x1x1x128x256_0_0_0_0_0 inb_S1x2x32x128x256_S1x1x1x128x256_0_1_0_0_0 inb_S1x128x8192_S1x128x256_0_0_0 x, trivial⟩

end

end Cert.Kernel5Ideal.Fnet
-- ==== Proof.FnetMath.lean ====
/- The real-number side of the Fourier mixing: the two stages of the kernel against one sum over all positions, and the
   sum over the channels of one group. -/
module

public import Idealize.ShloMosaic.PureOps.Ideal
public import Mathlib.Analysis.SpecialFunctions.Trigonometric.Basic

@[expose] public section

namespace FnetMath

open Real

noncomputable section

/-- The first stage's real (`f = cos`) or imaginary (`f = sin`) part at row `k1` and column `t2`. -/
def stage (f : ℝ → ℝ) (z : Fin 8192 → ℝ) (k1 t2 : ℕ) : ℝ :=
  ∑ t1 : Fin 64, f ((k1 : ℝ) * (t1 : ℕ) * (π / 32) + (k1 : ℝ) * t2 * (π / 4096))
    * (if h : (t1 : ℕ) * 128 + t2 < 8192 then z ⟨(t1 : ℕ) * 128 + t2, h⟩ else 0)

/-- The position sum at frequency `k`. -/
def full (f : ℝ → ℝ) (z : Fin 8192 → ℝ) (k : ℕ) : ℝ :=
  ∑ l : Fin 8192, f ((k : ℝ) * (l : ℕ) * (π / 4096)) * z l

theorem stage_cos (w : Fin 64 → ℝ) (k1 t2 : ℕ) :
    (∑ t1 : Fin 64, cos ((k1 : ℝ) * (t1 : ℕ) * (π / 32)) * w t1) * cos ((k1 : ℝ) * t2 * (π / 4096))
      - (∑ t1 : Fin 64, sin ((k1 : ℝ) * (t1 : ℕ) * (π / 32)) * w t1) * sin ((k1 : ℝ) * t2 * (π / 4096))
    = ∑ t1 : Fin 64, cos ((k1 : ℝ) * (t1 : ℕ) * (π / 32) + (k1 : ℝ) * t2 * (π / 4096)) * w t1 := by
  rw [Finset.sum_mul, Finset.sum_mul, ← Finset.sum_sub_distrib]
  refine Finset.sum_congr rfl fun t _ => ?_
  rw [cos_add]; ring

theorem stage_sin (w : Fin 64 → ℝ) (k1 t2 : ℕ) :
    (∑ t1 : Fin 64, cos ((k1 : ℝ) * (t1 : ℕ) * (π / 32)) * w t1) * sin ((k1 : ℝ) * t2 * (π / 4096))
      + (∑ t1 : Fin 64, sin ((k1 : ℝ) * (t1 : ℕ) * (π / 32)) * w t1) * cos ((k1 : ℝ) * t2 * (π / 4096))
    = ∑ t1 : Fin 64, sin ((k1 : ℝ) * (t1 : ℕ) * (π / 32) + (k1 : ℝ) * t2 * (π / 4096)) * w t1 := by
  rw [Finset.sum_mul, Finset.sum_mul, ← Finset.sum_add_distrib]
  refine Finset.sum_congr rfl fun t _ => ?_
  rw [sin_add]; ring

theorem phase (k1 k2 t1 t2 : ℕ) :
    ((k2 * 64 + k1 : ℕ) : ℝ) * ((t1 * 128 + t2 : ℕ) : ℝ) * (π / 4096)
      = (k2 : ℝ) * t2 * (π / 64) + ((k1 : ℝ) * t1 * (π / 32) + (k1 : ℝ) * t2 * (π / 4096))
        + ((k2 * t1 : ℕ) : ℝ) * (2 * π) := by
  push_cast; ring

/-- A sum over all positions, by (`t2`, `t1`). -/
theorem sum_positions (g : Fin 8192 → ℝ) :
    ∑ l, g l = ∑ t2 : Fin 128, ∑ t1 : Fin 64, g ⟨(t1 : ℕ) * 128 + t2, by omega⟩ := by
  rw [Finset.sum_comm, ← Finset.sum_product', Finset.univ_product_univ]
  refine (Fintype.sum_equiv (finProdFinEquiv (m := 64) (n := 128)) _ _ fun p => ?_).symm
  congr 1
  apply Fin.ext
  simp [finProdFinEquiv]; omega

theorem full_cos (z : Fin 8192 → ℝ) (k2 k1 : ℕ) :
    ∑ t2 : Fin 128, (cos ((k2 : ℝ) * (t2 : ℕ) * (π / 64)) * stage cos z k1 t2
      - sin ((k2 : ℝ) * (t2 : ℕ) * (π / 64)) * stage sin z k1 t2) = full cos z (k2 * 64 + k1) := by
  unfold full stage
  rw [sum_positions]
  refine Finset.sum_congr rfl fun t2 _ => ?_
  rw [Finset.mul_sum, Finset.mul_sum, ← Finset.sum_sub_distrib]
  refine Finset.sum_congr rfl fun t1 _ => ?_
  rw [dif_pos (show (t1 : ℕ) * 128 + (t2 : ℕ) < 8192 by omega)]
  show _ = cos (((k2 * 64 + k1 : ℕ) : ℝ) * (((t1 : ℕ) * 128 + (t2 : ℕ) : ℕ) : ℝ) * (π / 4096)) * _
  rw [phase, cos_add_nat_mul_two_pi, cos_add ((k2 : ℝ) * (t2 : ℕ) * (π / 64))]; ring

theorem full_sin (z : Fin 8192 → ℝ) (k2 k1 : ℕ) :
    ∑ t2 : Fin 128, (sin ((k2 : ℝ) * (t2 : ℕ) * (π / 64)) * stage cos z k1 t2
      + cos ((k2 : ℝ) * (t2 : ℕ) * (π / 64)) * stage sin z k1 t2) = full sin z (k2 * 64 + k1) := by
  unfold full stage
  rw [sum_positions]
  refine Finset.sum_congr rfl fun t2 _ => ?_
  rw [Finset.mul_sum, Finset.mul_sum, ← Finset.sum_add_distrib]
  refine Finset.sum_congr rfl fun t1 _ => ?_
  rw [dif_pos (show (t1 : ℕ) * 128 + (t2 : ℕ) < 8192 by omega)]
  show _ = sin (((k2 * 64 + k1 : ℕ) : ℝ) * (((t1 : ℕ) * 128 + (t2 : ℕ) : ℕ) : ℝ) * (π / 4096)) * _
  rw [phase, sin_add_nat_mul_two_pi, sin_add ((k2 : ℝ) * (t2 : ℕ) * (π / 64))]; ring

/-- A sum over 256 channels of which only those of one group count. -/
theorem sum_group (r : Fin 256 → ℝ) (f : ℝ → ℝ) (c : Fin 256) :
    ∑ i : Fin 256, r i * (if (i : ℕ) / 64 = (c : ℕ) / 64 then
        f ((((i : ℕ) % 64 : ℕ) : ℝ) * (((c : ℕ) % 64 : ℕ) : ℝ) * (π / 32)) else 0)
      = ∑ d : Fin 64, r ⟨(c : ℕ) / 64 * 64 + d, by omega⟩
          * f (((d : ℕ) : ℝ) * (((c : ℕ) % 64 : ℕ) : ℝ) * (π / 32)) := by
  have h := (Fintype.sum_equiv (finProdFinEquiv (m := 4) (n := 64))
    (fun p => r (finProdFinEquiv p) * (if ((finProdFinEquiv p : Fin 256) : ℕ) / 64 = (c : ℕ) / 64 then
        f (((((finProdFinEquiv p : Fin 256) : ℕ) % 64 : ℕ) : ℝ) * (((c : ℕ) % 64 : ℕ) : ℝ) * (π / 32)) else 0))
    (fun i : Fin 256 => r i * (if (i : ℕ) / 64 = (c : ℕ) / 64 then
        f ((((i : ℕ) % 64 : ℕ) : ℝ) * (((c : ℕ) % 64 : ℕ) : ℝ) * (π / 32)) else 0)) fun _ => rfl).symm
  refine h.trans ?_
  rw [Fintype.sum_prod_type, Finset.sum_eq_single (⟨(c : ℕ) / 64, by omega⟩ : Fin 4)]
  · refine Finset.sum_congr rfl fun d _ => ?_
    have e : ((finProdFinEquiv ((⟨(c : ℕ) / 64, by omega⟩ : Fin 4), d) : Fin 256) : ℕ)
        = (c : ℕ) / 64 * 64 + d := by simp [finProdFinEquiv]; omega
    rw [if_pos (by omega), show (((finProdFinEquiv ((⟨(c : ℕ) / 64, by omega⟩ : Fin 4), d) : Fin 256) : ℕ) % 64) = d by omega]
    congr 2
    exact Fin.ext e
  · intro g _ hg
    refine Finset.sum_eq_zero fun d _ => ?_
    have e : ((finProdFinEquiv (g, d) : Fin 256) : ℕ) = (g : ℕ) * 64 + d := by
      simp [finProdFinEquiv]; omega
    rw [if_neg, mul_zero]
    intro h
    apply hg
    apply Fin.ext
    show (g : ℕ) = (c : ℕ) / 64
    omega
  · intro h; exact absurd (Finset.mem_univ _) h

/-- A finite sum of extended reals that are all real. -/
theorem coe_sum {n : ℕ} (g : Fin n → ℝ) : ((∑ i, g i : ℝ) : EReal) = ∑ i, ((g i : ℝ) : EReal) := by
  induction n with
  | zero => simp
  | succ n ih => rw [Fin.sum_univ_succ, Fin.sum_univ_succ, EReal.coe_add, ih]

end

end FnetMath

end
-- ==== Proof.FnetTab.lean ====
/- The tables of angles, cosines and sines that the host builds, at an index. -/
module

public import proofs.«01_k».proof.Proof.FnetMath
public import proofs.«01_k».proof.Proof.Gen.Kernel5Ideal.Frame
public import Idealize.ShloMosaic.Lib.Pointwise
public import Idealize.ShloMosaic.Lib.StableHlo.Run

@[expose] public section

set_option maxRecDepth 16384

noncomputable section

namespace Cert.FnetTab

open Idealize.ShloMosaic

theorem word_mul (a b : Nat) (ha : a < 8192) (hb : b < 8192) : (BitVec.ofNat 32 a * BitVec.ofNat 32 b).toInt = ((a * b : Nat) : Int) := by
  have h : a * b < 8192 * 8192 := Nat.mul_lt_mul'' ha hb
  have e : (BitVec.ofNat 32 (a * b)).toNat = a * b := by rw [BitVec.toNat_ofNat]; exact Nat.mod_eq_of_lt (by omega)
  rw [← BitVec.ofNat_mul, BitVec.toInt_eq_toNat_of_lt (by omega), e]

theorem w32 : Ideal.ofBits .f32 0x3D000000#32 = ((1 / 32 : ℝ) : EReal) := by
  simp [Ideal.ofBits, Ideal.ieee, -EReal.coe_mul]; norm_num
theorem w64 : Ideal.ofBits .f32 0x3C800000#32 = ((1 / 64 : ℝ) : EReal) := by
  simp [Ideal.ofBits, Ideal.ieee, -EReal.coe_mul]; norm_num
theorem w4096 : Ideal.ofBits .f32 0x39800000#32 = ((1 / 4096 : ℝ) : EReal) := by
  simp [Ideal.ofBits, Ideal.ieee, -EReal.coe_mul]; norm_num
theorem wm1 : Ideal.ofBits .f32 0xBF800000#32 = ((-1 : ℝ) : EReal) := by
  simp [Ideal.ofBits, Ideal.ieee, -EReal.coe_mul]; norm_num
theorem acos_m1 : Ideal.acos (Ideal.ofBits .f32 0xBF800000#32) = ((Real.pi : ℝ) : EReal) := by
  rw [wm1, Ideal.acos_coe, if_pos (by norm_num), Real.arccos_neg_one]

theorem ang_val (a b : Nat) (ha : a < 8192) (hb : b < 8192) (w : BitVec 32) (n : ℝ) (hw : Ideal.ofBits .f32 w = ((1 / n : ℝ) : EReal)) :
    (((BitVec.ofNat 32 a * BitVec.ofNat 32 b).toInt : ℝ) : EReal) * (Ideal.acos (Ideal.ofBits .f32 0xBF800000#32) * Ideal.ofBits .f32 w)
      = (((a : ℝ) * b * (Real.pi / n) : ℝ) : EReal) := by
  rw [word_mul a b ha hb, acos_m1, hw, ← EReal.coe_mul, ← EReal.coe_mul]
  congr 1
  push_cast
  ring

end Cert.FnetTab

namespace Cert.Kernel5Ideal.FnetTab

open Cert.Kernel5Ideal Cert.Kernel5Ideal.Gen Idealize.ShloMosaic Idealize.ShloMosaic.TcCoe Idealize.SL.Sem Cert.FnetTab

def ang64 : FVec Ideal S64x64 .f32 :=
  mulf (sitofp .f32 (muli (iotaInDim S64x64 32 0) (iotaInDim S64x64 32 1)))
    (broadcastInDim S64x64 ![] bcast_S_S64x64 (mulf (Host.acos (constant S_ .f32 0xBF800000#32)) (constant S_ .f32 0x3D000000#32)))
theorem ang64_apply (i : Fin 64) (j : Fin 64) : ang64 (ix2 i j) = (((i.val : ℝ) * j.val * (Real.pi / 32) : ℝ) : EReal) := by
  refine Eq.trans ?_ (ang_val i.val j.val (by omega) (by omega) 0x3D000000#32 32 w32)
  pointwise [ang64]
  rfl

def angT : FVec Ideal S64x128 .f32 :=
  mulf (sitofp .f32 (muli (iotaInDim S64x128 32 0) (iotaInDim S64x128 32 1)))
    (broadcastInDim S64x128 ![] bcast_S_S64x128 (mulf (Host.acos (constant S_ .f32 0xBF800000#32)) (constant S_ .f32 0x39800000#32)))
theorem angT_apply (i : Fin 64) (j : Fin 128) : angT (ix2 i j) = (((i.val : ℝ) * j.val * (Real.pi / 4096) : ℝ) : EReal) := by
  refine Eq.trans ?_ (ang_val i.val j.val (by omega) (by omega) 0x39800000#32 4096 w4096)
  pointwise [angT]
  rfl

def ang128 : FVec Ideal S128x128 .f32 :=
  mulf (sitofp .f32 (muli (iotaInDim S128x128 32 0) (iotaInDim S128x128 32 1)))
    (broadcastInDim S128x128 ![] bcast_S_S128x128 (mulf (Host.acos (constant S_ .f32 0xBF800000#32)) (constant S_ .f32 0x3C800000#32)))
theorem ang128_apply (i : Fin 128) (j : Fin 128) : ang128 (ix2 i j) = (((i.val : ℝ) * j.val * (Real.pi / 64) : ℝ) : EReal) := by
  refine Eq.trans ?_ (ang_val i.val j.val (by omega) (by omega) 0x3C800000#32 64 w64)
  pointwise [ang128]
  rfl

variable (m : (ℓ : Loc nD τ sig) → Buf (Elt Ideal) ℓ) (ρ : Dev nD → PrngReg)

def f1 : FVec Ideal S128x64 .bf16 :=
  truncf .bf16 (concatenate S128x64 0 [⟨S64x64, Host.cos ang64⟩, ⟨S64x64, Host.sin ang64⟩] concatenates_S64x64_S64x64_S128x64_d0) bitsLt_bf16_f32

theorem v64 (c : Dev nD) : V1 m ρ c main_v64 = f1 := by
  show StableHlo.after hostOps0 (W0 m ρ c) (Proc.devRef .tc main_v64) = _
  after_results; rfl

theorem f1_cos (k : Fin 64) (t : Fin 64) : f1 (ix2 ⟨0 + k.val, by omega⟩ t) = ((Real.cos ((k.val : ℝ) * t.val * (Real.pi / 32)) : ℝ) : EReal) := by
  pointwise [f1]
  rw [ang64_apply]; rfl
theorem f1_sin (k : Fin 64) (t : Fin 64) : f1 (ix2 ⟨64 + k.val, by omega⟩ t) = ((Real.sin ((k.val : ℝ) * t.val * (Real.pi / 32)) : ℝ) : EReal) := by
  pointwise [f1]
  rw [ang64_apply]; rfl

def cw : FVec Ideal S64x32768 .f32 :=
  shapeCast S64x32768 (broadcastInDim S64x128x256 ![0, 1] bcast_S64x128_S64x128x256_0_1 (Host.cos angT)) shapeCasts_S64x128x256_S64x32768
def sw : FVec Ideal S64x32768 .f32 :=
  shapeCast S64x32768 (broadcastInDim S64x128x256 ![0, 1] bcast_S64x128_S64x128x256_0_1 (Host.sin angT)) shapeCasts_S64x128x256_S64x32768

theorem v60 (c : Dev nD) : V1 m ρ c main_v60 = cw := by
  show StableHlo.after hostOps0 (W0 m ρ c) (Proc.devRef .tc main_v60) = _
  after_results; rfl
theorem v62 (c : Dev nD) : V1 m ρ c main_v62 = sw := by
  show StableHlo.after hostOps0 (W0 m ρ c) (Proc.devRef .tc main_v62) = _
  after_results; rfl

theorem cw_apply (k : Fin 64) (e : Fin 32768) : cw (ix2 k e) = ((Real.cos ((k.val : ℝ) * (e.val / 256 : ℕ) * (Real.pi / 4096)) : ℝ) : EReal) := by
  pointwise [cw]
  rw [angT_apply]; rfl
theorem sw_apply (k : Fin 64) (e : Fin 32768) : sw (ix2 k e) = ((Real.sin ((k.val : ℝ) * (e.val / 256 : ℕ) * (Real.pi / 4096)) : ℝ) : EReal) := by
  pointwise [sw]
  rw [angT_apply]; rfl

theorem v63 (c : Dev nD) : V1 m ρ c main_v63 = shapeCast S4x64x32768 (m ((c : Thread nD τ).loc main_arg0) : Vec Ideal S4x8192x256 .bf16) shapeCasts_S4x8192x256_S4x64x32768 := by
  show StableHlo.after hostOps0 (W0 m ρ c) (Proc.devRef .tc main_v63) = _
  after_results; rfl
theorem zf_apply (z : Vec Ideal S4x8192x256 .bf16) (b : Fin 4) (t : Fin 64) (e : Fin 32768) :
    shapeCast S4x64x32768 z shapeCasts_S4x8192x256_S4x64x32768 (ix3 b t e) = z (ix3 b ⟨t.val * 128 + e.val / 256, by omega⟩ ⟨e.val % 256, by omega⟩) := by
  pointwise []

def f2 : FVec Ideal S256x256 .bf16 :=
  truncf .bf16 (concatenate S256x256 0 [⟨S128x256, concatenate S128x256 1 [⟨S128x128, Host.cos ang128⟩, ⟨S128x128, Host.negf (Host.sin ang128)⟩] concatenates_S128x128_S128x128_S128x256_d1⟩,
    ⟨S128x256, concatenate S128x256 1 [⟨S128x128, Host.sin ang128⟩, ⟨S128x128, Host.cos ang128⟩] concatenates_S128x128_S128x128_S128x256_d1⟩] concatenates_S128x256_S128x256_S256x256_d0) bitsLt_bf16_f32

theorem v67 (c : Dev nD) : V3 m ρ c main_v67 = f2 := by
  have h : W2 m ρ c (Proc.devRef .tc main_v32) = StableHlo.after hostOps0 (W0 m ρ c) (Proc.devRef .tc main_v32) := W2_of m ρ c main_v32 (by decide)
  show StableHlo.after hostOps1 (W2 m ρ c) (Proc.devRef .tc main_v67) = _
  after_results
  rw [h]
  after_results; rfl

theorem f2_00 (k j : Fin 128) : f2 (ix2 ⟨0 + k.val, by omega⟩ ⟨j.val, by omega⟩) = ((Real.cos ((k.val : ℝ) * j.val * (Real.pi / 64)) : ℝ) : EReal) := by
  pointwise [f2]
  rw [ang128_apply]; rfl
theorem f2_01 (k j : Fin 128) : f2 (ix2 ⟨0 + k.val, by omega⟩ ⟨128 + j.val, by omega⟩) = ((-Real.sin ((k.val : ℝ) * j.val * (Real.pi / 64)) : ℝ) : EReal) := by
  pointwise [f2]
  rw [ang128_apply]; rfl
theorem f2_10 (k j : Fin 128) : f2 (ix2 ⟨128 + k.val, by omega⟩ ⟨j.val, by omega⟩) = ((Real.sin ((k.val : ℝ) * j.val * (Real.pi / 64)) : ℝ) : EReal) := by
  pointwise [f2]
  rw [ang128_apply]; rfl
theorem f2_11 (k j : Fin 128) : f2 (ix2 ⟨128 + k.val, by omega⟩ ⟨128 + j.val, by omega⟩) = ((Real.cos ((k.val : ℝ) * j.val * (Real.pi / 64)) : ℝ) : EReal) := by
  pointwise [f2]
  rw [ang128_apply]; rfl

theorem sel (x y : Fin 4) (a b : EReal) :
    Scalar.select (IntOp.cmpi CmpIPredicate.eq (BitVec.ofNat 32 x.val) (BitVec.ofNat 32 y.val)) a b = if x.val = y.val then a else b := by
  fin_cases x <;> fin_cases y <;> rfl

def bc : FVec Ideal S256x256 .bf16 :=
  truncf .bf16 (shapeCast S256x256 (select (broadcastInDim S4x64x4x64 ![0, 1, 2, 3] bcast_S4x1x4x1_S4x64x4x64_0_1_2_3 (cmpi .eq (iotaInDim S4x1x4x1 32 0) (iotaInDim S4x1x4x1 32 2)))
    (broadcastInDim S4x64x4x64 ![0, 1, 2, 3] bcast_S1x64x1x64_S4x64x4x64_0_1_2_3 (broadcastInDim S1x64x1x64 ![1, 3] bcast_S64x64_S1x64x1x64_1_3 (Host.cos ang64)))
    (broadcastInDim S4x64x4x64 ![] bcast_S_S4x64x4x64 (constant S_ .f32 0x00000000#32))) shapeCasts_S4x64x4x64_S256x256) bitsLt_bf16_f32

theorem v68 (c : Dev nD) : V3 m ρ c main_v68 = bc := by
  have h : W2 m ρ c (Proc.devRef .tc main_v52) = StableHlo.after hostOps0 (W0 m ρ c) (Proc.devRef .tc main_v52) := W2_of m ρ c main_v52 (by decide)
  show StableHlo.after hostOps1 (W2 m ρ c) (Proc.devRef .tc main_v68) = _
  after_results
  rw [h]
  after_results; rfl

theorem bc_apply (d e : Fin 256) : bc (ix2 d e)
    = (((if d.val / 64 = e.val / 64 then Real.cos (((d.val % 64 : ℕ) : ℝ) * (e.val % 64 : ℕ) * (Real.pi / 32)) else 0) : ℝ) : EReal) := by
  pointwise [bc]
  rw [ang64_apply]
  refine (sel ⟨d.val / 64, by omega⟩ ⟨e.val / 64, by omega⟩ _ _).trans ?_
  show (if d.val / 64 = e.val / 64 then _ else _) = _
  split <;> rfl

def bs : FVec Ideal S256x256 .bf16 :=
  truncf .bf16 (shapeCast S256x256 (select (broadcastInDim S4x64x4x64 ![0, 1, 2, 3] bcast_S4x1x4x1_S4x64x4x64_0_1_2_3 (cmpi .eq (iotaInDim S4x1x4x1 32 0) (iotaInDim S4x1x4x1 32 2)))
    (broadcastInDim S4x64x4x64 ![0, 1, 2, 3] bcast_S1x64x1x64_S4x64x4x64_0_1_2_3 (broadcastInDim S1x64x1x64 ![1, 3] bcast_S64x64_S1x64x1x64_1_3 (Host.sin ang64)))
    (broadcastInDim S4x64x4x64 ![] bcast_S_S4x64x4x64 (constant S_ .f32 0x00000000#32))) shapeCasts_S4x64x4x64_S256x256) bitsLt_bf16_f32

theorem v69 (c : Dev nD) : V3 m ρ c main_v69 = bs := by
  have h : W2 m ρ c (Proc.devRef .tc main_v58) = StableHlo.after hostOps0 (W0 m ρ c) (Proc.devRef .tc main_v58) := W2_of m ρ c main_v58 (by decide)
  show StableHlo.after hostOps1 (W2 m ρ c) (Proc.devRef .tc main_v69) = _
  after_results
  rw [h]
  after_results; rfl

theorem bs_apply (d e : Fin 256) : bs (ix2 d e)
    = (((if d.val / 64 = e.val / 64 then Real.sin (((d.val % 64 : ℕ) : ℝ) * (e.val % 64 : ℕ) * (Real.pi / 32)) else 0) : ℝ) : EReal) := by
  pointwise [bs]
  rw [ang64_apply]
  refine (sel ⟨d.val / 64, by omega⟩ ⟨e.val / 64, by omega⟩ _ _).trans ?_
  show (if d.val / 64 = e.val / 64 then _ else _) = _
  split <;> rfl

end Cert.Kernel5Ideal.FnetTab
-- ==== Proof.FnetVal.lean ====
/- The Fourier mixing's result array as a function of the argument array, at the ideal instance. -/
module

public import proofs.«01_k».proof.Proof.FnetA
public import proofs.«01_k».proof.Proof.FnetB
public import proofs.«01_k».proof.Proof.FnetTab

@[expose] public section

set_option maxRecDepth 16384

noncomputable section

namespace Cert.Kernel5Ideal.FnetVal

open Cert.Kernel5Ideal Cert.Kernel5Ideal.Gen Cert.Kernel5Ideal.FnetA Cert.Kernel5Ideal.Fnet Cert.Kernel5Ideal.FnetTab
open Idealize.ShloMosaic Idealize.ShloMosaic.TcCoe Idealize.SL.Sem

variable (m : (ℓ : Loc nD τ sig) → Buf (Elt Ideal) ℓ) (ρ : Dev nD → PrngReg)

/-! ## The first stage -/

theorem lt0 (t : Fin cfg0.N) : t.val < 8 := lt_of_lt_of_eq t.isLt N_0
def bat0 (t : Fin cfg0.N) : Fin 4 := ⟨t.val % 4, Nat.mod_lt _ (by decide)⟩
def col0 (t : Fin cfg0.N) (e : Fin 16384) : Fin 32768 := ⟨t.val / 4 * 16384 + e.val, by have := lt0 t; omega⟩

theorem idx0_0 : ∀ t : Fin cfg0.N, win0_0.index t (0 : Fin 3) = t.val % 4 ∧ win0_0.index t (1 : Fin 3) = 0 ∧ win0_0.index t (2 : Fin 3) = t.val / 4 :=
  (by decide +kernel : ∀ t : Fin grid0.N, _)
theorem blk0_0 (c : Dev nD) (t : Fin cfg0.N) (k : Fin 64) (e : Fin 16384) :
    iblk0 (V1 m ρ) c 0 t (ix3 0 k e) = (m ((c : Thread nD τ).loc main_arg0) : Vec Ideal S4x8192x256 .bf16)
      (ix3 (bat0 t) ⟨k.val * 128 + (col0 t e).val / 256, by have := (col0 t e).isLt; omega⟩ ⟨(col0 t e).val % 256, by omega⟩) := by
  obtain ⟨e0, e1, e2⟩ := idx0_0 t
  have h : ((cfg0.win 0).blk t).view.emb (ix3 0 k e) = ix3 (bat0 t) k (col0 t e) := by
    funext a; apply Fin.ext
    match a with
    | ⟨0, _⟩ => show win0_0.index t (0 : Fin 3) * 1 + 1 * 0 = t.val % 4; omega
    | ⟨1, _⟩ => show win0_0.index t (1 : Fin 3) * 64 + 1 * k.val = k.val; omega
    | ⟨2, _⟩ => show win0_0.index t (2 : Fin 3) * 16384 + 1 * e.val = t.val / 4 * 16384 + e.val; omega
  show V1 m ρ c main_v63 (((cfg0.win 0).blk t).view.emb (ix3 0 k e)) = _
  rw [h, v63, zf_apply]

theorem idx0_1 : ∀ t : Fin cfg0.N, win0_1.index t (0 : Fin 2) = 0 ∧ win0_1.index t (1 : Fin 2) = 0 :=
  (by decide +kernel : ∀ t : Fin grid0.N, _)
theorem blk0_1 (c : Dev nD) (t : Fin cfg0.N) : iblk0 (V1 m ρ) c 1 t = f1 := by
  obtain ⟨e0, e1⟩ := idx0_1 t
  funext i
  have h : ((cfg0.win 1).blk t).view.emb i = i := by
    funext a; apply Fin.ext
    match a with
    | ⟨0, _⟩ => show win0_1.index t (0 : Fin 2) * 128 + 1 * (i 0).val = (i 0).val; omega
    | ⟨1, _⟩ => show win0_1.index t (1 : Fin 2) * 64 + 1 * (i 1).val = (i 1).val; omega
  show V1 m ρ c main_v64 (((cfg0.win 1).blk t).view.emb i) = _
  rw [h, v64]

theorem idx0_2 : ∀ t : Fin cfg0.N, win0_2.index t (0 : Fin 2) = 0 ∧ win0_2.index t (1 : Fin 2) = t.val / 4 :=
  (by decide +kernel : ∀ t : Fin grid0.N, _)
theorem blk0_2 (c : Dev nD) (t : Fin cfg0.N) (k : Fin 64) (e : Fin 16384) : iblk0 (V1 m ρ) c 2 t (ix2 k e) = cw (ix2 k (col0 t e)) := by
  obtain ⟨e0, e1⟩ := idx0_2 t
  have h : ((cfg0.win 2).blk t).view.emb (ix2 k e) = ix2 k (col0 t e) := by
    funext a; apply Fin.ext
    match a with
    | ⟨0, _⟩ => show win0_2.index t (0 : Fin 2) * 64 + 1 * k.val = k.val; omega
    | ⟨1, _⟩ => show win0_2.index t (1 : Fin 2) * 16384 + 1 * e.val = t.val / 4 * 16384 + e.val; omega
  show V1 m ρ c main_v60 (((cfg0.win 2).blk t).view.emb (ix2 k e)) = _
  rw [h, v60]

theorem idx0_3 : ∀ t : Fin cfg0.N, win0_3.index t (0 : Fin 2) = 0 ∧ win0_3.index t (1 : Fin 2) = t.val / 4 :=
  (by decide +kernel : ∀ t : Fin grid0.N, _)
theorem blk0_3 (c : Dev nD) (t : Fin cfg0.N) (k : Fin 64) (e : Fin 16384) : iblk0 (V1 m ρ) c 3 t (ix2 k e) = sw (ix2 k (col0 t e)) := by
  obtain ⟨e0, e1⟩ := idx0_3 t
  have h : ((cfg0.win 3).blk t).view.emb (ix2 k e) = ix2 k (col0 t e) := by
    funext a; apply Fin.ext
    match a with
    | ⟨0, _⟩ => show win0_3.index t (0 : Fin 2) * 64 + 1 * k.val = k.val; omega
    | ⟨1, _⟩ => show win0_3.index t (1 : Fin 2) * 16384 + 1 * e.val = t.val / 4 * 16384 + e.val; omega
  show V1 m ρ c main_v62 (((cfg0.win 3).blk t).view.emb (ix2 k e)) = _
  rw [h, v62]

/-- An element of the first stage's result, by batch, part, frequency within the block and column. -/
def stA (x : Vec Ideal S4x8192x256 .bf16) (b : Fin 4) (p : Fin 2) (k : Fin 64) (e : Fin 32768) : EReal :=
  stageAt f1 (fun t => x (ix3 b ⟨t.val * 128 + e.val / 256, by omega⟩ ⟨e.val % 256, by omega⟩)) (cw (ix2 k e)) (sw (ix2 k e)) p k

def GA (c : Dev nD) : Buf (Elt Ideal) ((c : Thread nD τ).loc main_v65) := fun i =>
  stA (m ((c : Thread nD τ).loc main_arg0)) (i 0) (i 1) (i 2) (i 3)

theorem idx0_4 : ∀ t : Fin cfg0.N, win0_4.index t (0 : Fin 4) = t.val % 4 ∧ win0_4.index t (1 : Fin 4) = 0 ∧ win0_4.index t (2 : Fin 4) = 0 ∧ win0_4.index t (3 : Fin 4) = t.val / 4 :=
  (by decide +kernel : ∀ t : Fin grid0.N, _)
theorem emb0_4 (t : Fin cfg0.N) (u : Fin 1) (p : Fin 2) (k : Fin 64) (e : Fin 16384) :
    ((cfg0.win 4).blk t).view.emb (ix4 u p k e) = ix4 (bat0 t) p k (col0 t e) := by
  obtain ⟨e0, e1, e2, e3⟩ := idx0_4 t
  have hu : u.val = 0 := by omega
  funext a; apply Fin.ext
  match a with
  | ⟨0, _⟩ => show win0_4.index t (0 : Fin 4) * 1 + 1 * u.val = t.val % 4; omega
  | ⟨1, _⟩ => show win0_4.index t (1 : Fin 4) * 2 + 1 * p.val = p.val; omega
  | ⟨2, _⟩ => show win0_4.index t (2 : Fin 4) * 64 + 1 * k.val = k.val; omega
  | ⟨3, _⟩ => show win0_4.index t (3 : Fin 4) * 16384 + 1 * e.val = t.val / 4 * 16384 + e.val; omega

theorem flushed0_eq (c : Dev nD) (t : Fin cfg0.N) :
    (dat0 (V1 m ρ) c).flushed 4 t = ((cfg0.win 4).blk t).view.read (Elt Ideal) (GA m c) := by
  have hf : (dat0 (V1 m ρ) c).flushed 4 t = (cfg0.win 4).cut (grid0.coords t) ((dat0 (V1 m ρ) c).after 4 t) := rfl
  rw [hf, after0_4]
  funext j
  show out0_4 (F := Ideal) (iblk0 (V1 m ρ) c 0 t) (iblk0 (V1 m ρ) c 1 t) (iblk0 (V1 m ρ) c 2 t) (iblk0 (V1 m ρ) c 3 t) j
    = GA m c (((cfg0.win 4).blk t).view.emb j)
  obtain ⟨u, p, k, e, rfl⟩ : ∃ (u : Fin 1) (p : Fin 2) (k : Fin 64) (e : Fin 16384), j = ix4 u p k e := ⟨j 0, j 1, j 2, j 3, eq_ix4 j⟩
  rw [emb0_4, out0_eq]
  show stageAt (iblk0 (V1 m ρ) c 1 t) (fun t' => iblk0 (V1 m ρ) c 0 t (ix3 0 t' e)) (iblk0 (V1 m ρ) c 2 t (ix2 k e)) (iblk0 (V1 m ρ) c 3 t (ix2 k e)) p k
    = stA (m ((c : Thread nD τ).loc main_arg0)) (bat0 t) p k (col0 t e)
  simp only [blk0_0, blk0_1, blk0_2, blk0_3]
  rfl

theorem covered0 (i : S4x2x64x32768.Idx) :
    ∃ t : Fin cfg0.N, (cfg0.win 4).flush t = true ∧ i ∈ ((cfg0.win 4).blk t).view.set := by
  obtain ⟨b, p, k, e, rfl⟩ : ∃ (b : Fin 4) (p : Fin 2) (k : Fin 64) (e : Fin 32768), i = ix4 b p k e := ⟨i 0, i 1, i 2, i 3, eq_ix4 i⟩
  refine ⟨⟨e.val / 16384 * 4 + b.val, lt_of_lt_of_eq (b := 8) (by omega) N_0.symm⟩, flush0_4 _, ?_⟩
  have h := ((cfg0.win 4).blk (⟨e.val / 16384 * 4 + b.val, lt_of_lt_of_eq (b := 8) (by omega) N_0.symm⟩ : Fin cfg0.N)).view.emb_mem_set
    (ix4 (0 : Fin 1) p k (⟨e.val % 16384, by omega⟩ : Fin 16384))
  rw [emb0_4] at h
  have hb : bat0 ⟨e.val / 16384 * 4 + b.val, lt_of_lt_of_eq (b := 8) (by omega) N_0.symm⟩ = b :=
    Fin.ext (show (e.val / 16384 * 4 + b.val) % 4 = b.val by omega)
  have hs : col0 ⟨e.val / 16384 * 4 + b.val, lt_of_lt_of_eq (b := 8) (by omega) N_0.symm⟩ ⟨e.val % 16384, by omega⟩ = e :=
    Fin.ext (show (e.val / 16384 * 4 + b.val) / 4 * 16384 + e.val % 16384 = e.val by omega)
  rwa [hb, hs] at h

theorem final0 (c : Dev nD) : (dat0 (V1 m ρ) c).arrAt 4 cfg0.N = GA m c :=
  (dat0 (V1 m ρ) c).arrAt_eq_of_cover 4 (GA m c) (fun t _ => flushed0_eq m ρ c t) covered0

/-! ## The array between the stages -/

theorem v66 (c : Dev nD) : V3 m ρ c main_v66 = shapeCast S4x2x64x128x256 (GA m c : Vec Ideal S4x2x64x32768 .bf16) shapeCasts_S4x2x64x32768_S4x2x64x128x256 := by
  have h : W2 m ρ c (Proc.devRef .tc main_v65) = GA m c := (W2_arr m ρ c 4).trans (final0 m ρ c)
  show StableHlo.after hostOps1 (W2 m ρ c) (Proc.devRef .tc main_v66) = _
  after_results
  rw [h]; rfl
theorem v66_apply (y : Vec Ideal S4x2x64x32768 .bf16) (b : Fin 4) (p : Fin 2) (k : Fin 64) (j : Fin 128) (d : Fin 256) :
    shapeCast S4x2x64x128x256 y shapeCasts_S4x2x64x32768_S4x2x64x128x256 (ix5 b p k j d) = y (ix4 b p k ⟨j.val * 256 + d.val, by omega⟩) := by
  pointwise []

/-! ## The second stage -/

theorem lt1 (t : Fin cfg1.N) : t.val < 8 := lt_of_lt_of_eq t.isLt N_1
def bat1 (t : Fin cfg1.N) : Fin 4 := ⟨t.val / 2, by have := lt1 t; omega⟩
def frq1 (t : Fin cfg1.N) (k : Fin 32) : Fin 64 := ⟨t.val % 2 * 32 + k.val, by omega⟩
def col1 (t : Fin cfg1.N) (e : Fin 8192) : Fin 16384 := ⟨t.val % 2 * 8192 + e.val, by omega⟩

theorem idx1_0 : ∀ t : Fin cfg1.N, win1_0.index t (0 : Fin 5) = t.val / 2 ∧ win1_0.index t (1 : Fin 5) = 0 ∧ win1_0.index t (2 : Fin 5) = t.val % 2
    ∧ win1_0.index t (3 : Fin 5) = 0 ∧ win1_0.index t (4 : Fin 5) = 0 :=
  (by decide +kernel : ∀ t : Fin grid1.N, _)
theorem blk1_0 (c : Dev nD) (t : Fin cfg1.N) (p : Fin 2) (k : Fin 32) (j : Fin 128) (d : Fin 256) :
    iblk1 (V3 m ρ) c 0 t (ix5 0 p k j d) = stA (m ((c : Thread nD τ).loc main_arg0)) (bat1 t) p (frq1 t k) ⟨j.val * 256 + d.val, by omega⟩ := by
  obtain ⟨e0, e1, e2, e3, e4⟩ := idx1_0 t
  have h : ((cfg1.win 0).blk t).view.emb (ix5 0 p k j d) = ix5 (bat1 t) p (frq1 t k) j d := by
    funext a; apply Fin.ext
    match a with
    | ⟨0, _⟩ => show win1_0.index t (0 : Fin 5) * 1 + 1 * 0 = t.val / 2; omega
    | ⟨1, _⟩ => show win1_0.index t (1 : Fin 5) * 2 + 1 * p.val = p.val; omega
    | ⟨2, _⟩ => show win1_0.index t (2 : Fin 5) * 32 + 1 * k.val = t.val % 2 * 32 + k.val; omega
    | ⟨3, _⟩ => show win1_0.index t (3 : Fin 5) * 128 + 1 * j.val = j.val; omega
    | ⟨4, _⟩ => show win1_0.index t (4 : Fin 5) * 256 + 1 * d.val = d.val; omega
  show V3 m ρ c main_v66 (((cfg1.win 0).blk t).view.emb (ix5 0 p k j d)) = _
  rw [h, v66, v66_apply]
  rfl

theorem idx1_1 : ∀ t : Fin cfg1.N, win1_1.index t (0 : Fin 2) = 0 ∧ win1_1.index t (1 : Fin 2) = 0 :=
  (by decide +kernel : ∀ t : Fin grid1.N, _)
theorem blk1_1 (c : Dev nD) (t : Fin cfg1.N) : iblk1 (V3 m ρ) c 1 t = f2 := by
  obtain ⟨e0, e1⟩ := idx1_1 t
  funext i
  have h : ((cfg1.win 1).blk t).view.emb i = i := by
    funext a; apply Fin.ext
    match a with
    | ⟨0, _⟩ => show win1_1.index t (0 : Fin 2) * 256 + 1 * (i 0).val = (i 0).val; omega
    | ⟨1, _⟩ => show win1_1.index t (1 : Fin 2) * 256 + 1 * (i 1).val = (i 1).val; omega
  show V3 m ρ c main_v67 (((cfg1.win 1).blk t).view.emb i) = _
  rw [h, v67]

theorem idx1_2 : ∀ t : Fin cfg1.N, win1_2.index t (0 : Fin 2) = 0 ∧ win1_2.index t (1 : Fin 2) = 0 :=
  (by decide +kernel : ∀ t : Fin grid1.N, _)
theorem blk1_2 (c : Dev nD) (t : Fin cfg1.N) : iblk1 (V3 m ρ) c 2 t = bc := by
  obtain ⟨e0, e1⟩ := idx1_2 t
  funext i
  have h : ((cfg1.win 2).blk t).view.emb i = i := by
    funext a; apply Fin.ext
    match a with
    | ⟨0, _⟩ => show win1_2.index t (0 : Fin 2) * 256 + 1 * (i 0).val = (i 0).val; omega
    | ⟨1, _⟩ => show win1_2.index t (1 : Fin 2) * 256 + 1 * (i 1).val = (i 1).val; omega
  show V3 m ρ c main_v68 (((cfg1.win 2).blk t).view.emb i) = _
  rw [h, v68]

theorem idx1_3 : ∀ t : Fin cfg1.N, win1_3.index t (0 : Fin 2) = 0 ∧ win1_3.index t (1 : Fin 2) = 0 :=
  (by decide +kernel : ∀ t : Fin grid1.N, _)
theorem blk1_3 (c : Dev nD) (t : Fin cfg1.N) : iblk1 (V3 m ρ) c 3 t = bs := by
  obtain ⟨e0, e1⟩ := idx1_3 t
  funext i
  have h : ((cfg1.win 3).blk t).view.emb i = i := by
    funext a; apply Fin.ext
    match a with
    | ⟨0, _⟩ => show win1_3.index t (0 : Fin 2) * 256 + 1 * (i 0).val = (i 0).val; omega
    | ⟨1, _⟩ => show win1_3.index t (1 : Fin 2) * 256 + 1 * (i 1).val = (i 1).val; omega
  show V3 m ρ c main_v69 (((cfg1.win 3).blk t).view.emb i) = _
  rw [h, v69]

/-- An element of the result, by batch, frequency block and column. -/
def mixB (x : Vec Ideal S4x8192x256 .bf16) (b : Fin 4) (k : Fin 128) (e : Fin 16384) : EReal :=
  mixAt (fun j d => stA x b 0 ⟨e.val / 256, by omega⟩ ⟨j.val * 256 + d.val, by omega⟩) (fun j d => stA x b 1 ⟨e.val / 256, by omega⟩ ⟨j.val * 256 + d.val, by omega⟩)
    f2 bc bs k ⟨e.val % 256, by omega⟩

def GB (c : Dev nD) : Buf (Elt Ideal) ((c : Thread nD τ).loc main_v70) := fun i =>
  mixB (m ((c : Thread nD τ).loc main_arg0)) (i 0) (i 1) (i 2)

theorem idx1_4 : ∀ t : Fin cfg1.N, win1_4.index t (0 : Fin 3) = t.val / 2 ∧ win1_4.index t (1 : Fin 3) = 0 ∧ win1_4.index t (2 : Fin 3) = t.val % 2 :=
  (by decide +kernel : ∀ t : Fin grid1.N, _)
theorem emb1_4 (t : Fin cfg1.N) (u : Fin 1) (k : Fin 128) (e : Fin 8192) : ((cfg1.win 4).blk t).view.emb (ix3 u k e) = ix3 (bat1 t) k (col1 t e) := by
  obtain ⟨e0, e1, e2⟩ := idx1_4 t
  have hu : u.val = 0 := by omega
  funext a; apply Fin.ext
  match a with
  | ⟨0, _⟩ => show win1_4.index t (0 : Fin 3) * 1 + 1 * u.val = t.val / 2; omega
  | ⟨1, _⟩ => show win1_4.index t (1 : Fin 3) * 128 + 1 * k.val = k.val; omega
  | ⟨2, _⟩ => show win1_4.index t (2 : Fin 3) * 8192 + 1 * e.val = t.val % 2 * 8192 + e.val; omega

theorem flushed1_eq (c : Dev nD) (t : Fin cfg1.N) :
    (dat1 (V3 m ρ) c).flushed 4 t = ((cfg1.win 4).blk t).view.read (Elt Ideal) (GB m c) := by
  have hf : (dat1 (V3 m ρ) c).flushed 4 t = (cfg1.win 4).cut (grid1.coords t) ((dat1 (V3 m ρ) c).after 4 t) := rfl
  rw [hf, after1_4]
  funext j
  show out1_4 (F := Ideal) (iblk1 (V3 m ρ) c 0 t) (iblk1 (V3 m ρ) c 1 t) (iblk1 (V3 m ρ) c 2 t) (iblk1 (V3 m ρ) c 3 t) j
    = GB m c (((cfg1.win 4).blk t).view.emb j)
  obtain ⟨u, k, e, rfl⟩ : ∃ (u : Fin 1) (k : Fin 128) (e : Fin 8192), j = ix3 u k e := ⟨j 0, j 1, j 2, eq_ix3 j⟩
  rw [emb1_4, out1_eq]
  show mixAt (fun j d => iblk1 (V3 m ρ) c 0 t (ix5 0 0 ⟨e.val / 256, by omega⟩ j d)) (fun j d => iblk1 (V3 m ρ) c 0 t (ix5 0 1 ⟨e.val / 256, by omega⟩ j d))
      (iblk1 (V3 m ρ) c 1 t) (iblk1 (V3 m ρ) c 2 t) (iblk1 (V3 m ρ) c 3 t) k ⟨e.val % 256, by omega⟩
    = mixB (m ((c : Thread nD τ).loc main_arg0)) (bat1 t) k (col1 t e)
  simp only [blk1_0, blk1_1, blk1_2, blk1_3]
  unfold mixB
  have hq : frq1 t ⟨e.val / 256, by omega⟩ = ⟨(col1 t e).val / 256, by omega⟩ :=
    Fin.ext (show t.val % 2 * 32 + e.val / 256 = (t.val % 2 * 8192 + e.val) / 256 by omega)
  have he : (⟨e.val % 256, by omega⟩ : Fin 256) = ⟨(col1 t e).val % 256, by omega⟩ :=
    Fin.ext (show e.val % 256 = (t.val % 2 * 8192 + e.val) % 256 by omega)
  rw [hq, he]

theorem covered1 (i : S4x128x16384.Idx) :
    ∃ t : Fin cfg1.N, (cfg1.win 4).flush t = true ∧ i ∈ ((cfg1.win 4).blk t).view.set := by
  obtain ⟨b, k, e, rfl⟩ : ∃ (b : Fin 4) (k : Fin 128) (e : Fin 16384), i = ix3 b k e := ⟨i 0, i 1, i 2, eq_ix3 i⟩
  refine ⟨⟨b.val * 2 + e.val / 8192, lt_of_lt_of_eq (b := 8) (by omega) N_1.symm⟩, flush1_4 _, ?_⟩
  have h := ((cfg1.win 4).blk (⟨b.val * 2 + e.val / 8192, lt_of_lt_of_eq (b := 8) (by omega) N_1.symm⟩ : Fin cfg1.N)).view.emb_mem_set
    (ix3 (0 : Fin 1) k (⟨e.val % 8192, by omega⟩ : Fin 8192))
  rw [emb1_4] at h
  have hb : bat1 ⟨b.val * 2 + e.val / 8192, lt_of_lt_of_eq (b := 8) (by omega) N_1.symm⟩ = b :=
    Fin.ext (show (b.val * 2 + e.val / 8192) / 2 = b.val by omega)
  have hs : col1 ⟨b.val * 2 + e.val / 8192, lt_of_lt_of_eq (b := 8) (by omega) N_1.symm⟩ ⟨e.val % 8192, by omega⟩ = e :=
    Fin.ext (show (b.val * 2 + e.val / 8192) % 2 * 8192 + e.val % 8192 = e.val by omega)
  rwa [hb, hs] at h

theorem final1 (c : Dev nD) : (dat1 (V3 m ρ) c).arrAt 4 cfg1.N = GB m c :=
  (dat1 (V3 m ρ) c).arrAt_eq_of_cover 4 (GB m c) (fun t _ => flushed1_eq m ρ c t) covered1

end Cert.Kernel5Ideal.FnetVal
-- ==== Proof.FnetRef.lean ====
/- The reference's Fourier mixing at an index, over real entries. -/
module

public import proofs.«01_k».proof.Proof.FnetTab
public import proofs.«01_k».proof.Proof.Gen.Reference5Ideal.Read
public import proofs.«01_k».proof.Proof.Gen.Pre_latent_finite
public import Idealize.ShloMosaic.Lib.ReduceAll

@[expose] public section

set_option maxRecDepth 16384

noncomputable section

namespace Cert.FnetTab

open Idealize.ShloMosaic

/-- The group transform of the position sums at frequency `k` and channel `c`. -/
def mixed (z : Fin 4 → Fin 8192 → Fin 256 → ℝ) (b : Fin 4) (k : ℕ) (c : Fin 256) : ℝ :=
  ∑ d : Fin 64, FnetMath.full Real.cos (fun l => z b l ⟨c.val / 64 * 64 + d.val, by omega⟩) k * Real.cos ((d.val : ℝ) * (c.val % 64 : ℕ) * (Real.pi / 32))
    - ∑ d : Fin 64, FnetMath.full Real.sin (fun l => z b l ⟨c.val / 64 * 64 + d.val, by omega⟩) k * Real.sin ((d.val : ℝ) * (c.val % 64 : ℕ) * (Real.pi / 32))

end Cert.FnetTab

namespace Cert.Reference5Ideal.Fnet

open Cert.Reference5Ideal Cert.Reference5Ideal.Read Cert.FnetTab Idealize.ShloMosaic Idealize.ShloMosaic.TcCoe Idealize.SL.Sem

theorem angL (i j : Fin 8192) : val_main_v9 (F := Ideal) (ix2 i j) = (((i.val : ℝ) * j.val * (Real.pi / 4096) : ℝ) : EReal) := by
  refine Eq.trans ?_ (ang_val i.val j.val i.isLt j.isLt 0x39800000#32 4096 w4096)
  pointwise [val_main_v9, val_main_v8, val_main_v7, val_main_v6, val_main_v5, val_main_v4, val_main_v3, val_main_v2, val_main_cst, val_main_cst_0]
  rfl

theorem angD (i j : Fin 64) : val_main_v17 (F := Ideal) (ix2 i j) = (((i.val : ℝ) * j.val * (Real.pi / 32) : ℝ) : EReal) := by
  refine Eq.trans ?_ (ang_val i.val j.val (by omega) (by omega) 0x3D000000#32 32 w32)
  pointwise [val_main_v17, val_main_v16, val_main_v15, val_main_v14, val_main_v13, val_main_v12, val_main_v11, val_main_v10, val_main_cst_1, val_main_cst_2]
  rfl

variable (x0 : Vec Ideal S4x8192x256 .bf16) (z : Fin 4 → Fin 8192 → Fin 256 → ℝ)

theorem v1 (b : Fin 4) (l : Fin 8192) (g : Fin 4) (d : Fin 64) : val_main_v1 (F := Ideal) x0 (ix4 b l g d) = x0 (ix3 b l ⟨g.val * 64 + d.val, by omega⟩) := by
  pointwise [val_main_v1, val_main_v0]

theorem re (b : Fin 4) (k : Fin 8192) (g : Fin 4) (d : Fin 64) :
    val_main_v20 (F := Ideal) x0 (ix4 b k g d) = ∑ l : Fin 8192, val_main_v1 (F := Ideal) x0 (ix4 b l g d) * val_main_v18 (F := Ideal) (ix2 k l) := by
  unfold val_main_v20 val_main_v19
  generalize val_main_v1 (F := Ideal) x0 = y
  generalize val_main_v18 (F := Ideal) = y'
  pointwise []

theorem im (b : Fin 4) (k : Fin 8192) (g : Fin 4) (d : Fin 64) :
    val_main_v23 (F := Ideal) x0 (ix4 b k g d) = ∑ l : Fin 8192, val_main_v1 (F := Ideal) x0 (ix4 b l g d) * val_main_v21 (F := Ideal) (ix2 k l) := by
  unfold val_main_v23 val_main_v22
  generalize val_main_v1 (F := Ideal) x0 = y
  generalize val_main_v21 (F := Ideal) = y'
  pointwise []

/-- The reference's root, as a real. -/
theorem w524288 : Ideal.ofBits .f32 0x49000000#32 = ((524288 : ℝ) : EReal) := by
  simp [Ideal.ofBits, Ideal.ieee, -EReal.coe_mul]; norm_num

theorem div_root (y : EReal) : Ideal.div y (Ideal.sqrt (Ideal.ofBits .f32 0x49000000#32)) = y * (((Real.sqrt 524288)⁻¹ : ℝ) : EReal) := by
  rw [w524288, Ideal.sqrt_coe, if_neg (by norm_num), Ideal.div_coe (Real.sqrt_pos.mpr (by norm_num)).ne', one_div]

theorem v31 (b : Fin 4) (k : Fin 8192) (g : Fin 4) (e : Fin 64) :
    val_main_v32 (F := Ideal) x0 (ix4 b k g e) = (∑ d : Fin 64, val_main_v20 (F := Ideal) x0 (ix4 b k g d) * val_main_v24 (F := Ideal) (ix2 d e)
      - ∑ d : Fin 64, val_main_v23 (F := Ideal) x0 (ix4 b k g d) * val_main_v26 (F := Ideal) (ix2 d e)) * (((Real.sqrt 524288)⁻¹ : ℝ) : EReal) := by
  unfold val_main_v32 val_main_v31 val_main_v30 val_main_v29 val_main_v28 val_main_v27 val_main_v25 val_main_cst_3
  generalize val_main_v20 (F := Ideal) x0 = y
  generalize val_main_v23 (F := Ideal) x0 = y'
  generalize val_main_v24 (F := Ideal) = c
  generalize val_main_v26 (F := Ideal) = s
  refine Eq.trans ?_ (div_root _)
  pointwise []

theorem v32 (b : Fin 4) (k : Fin 128) (c : Fin 16384) :
    val_main_v33 (F := Ideal) x0 (ix3 b k c) = val_main_v32 (F := Ideal) x0 (ix4 b ⟨k.val * 64 + c.val / 256, by omega⟩ ⟨c.val % 256 / 64, by omega⟩ ⟨c.val % 64, by omega⟩) := by
  unfold val_main_v33
  generalize val_main_v32 (F := Ideal) x0 = y
  pointwise []
  have h : c.val / 64 % 4 = c.val % 256 / 64 := by omega
  simp only [h]

theorem re_val (hz : ∀ b l d, x0 (ix3 b l d) = ((z b l d : ℝ) : EReal)) (b : Fin 4) (k : Fin 8192) (g : Fin 4) (d : Fin 64) :
    val_main_v20 (F := Ideal) x0 (ix4 b k g d) = ((FnetMath.full Real.cos (fun l => z b l ⟨g.val * 64 + d.val, by omega⟩) k.val : ℝ) : EReal) := by
  rw [re]
  unfold FnetMath.full
  rw [FnetMath.coe_sum]
  refine Finset.sum_congr rfl fun l _ => ?_
  rw [v1, hz, EReal.coe_mul, mul_comm]
  refine congrArg (· * _) ?_
  show Ideal.cos (val_main_v9 (F := Ideal) (ix2 k l)) = _
  rw [angL]; rfl

theorem im_val (hz : ∀ b l d, x0 (ix3 b l d) = ((z b l d : ℝ) : EReal)) (b : Fin 4) (k : Fin 8192) (g : Fin 4) (d : Fin 64) :
    val_main_v23 (F := Ideal) x0 (ix4 b k g d) = ((FnetMath.full Real.sin (fun l => z b l ⟨g.val * 64 + d.val, by omega⟩) k.val : ℝ) : EReal) := by
  rw [im]
  unfold FnetMath.full
  rw [FnetMath.coe_sum]
  refine Finset.sum_congr rfl fun l _ => ?_
  rw [v1, hz, EReal.coe_mul, mul_comm]
  refine congrArg (· * _) ?_
  show Ideal.sin (val_main_v9 (F := Ideal) (ix2 k l)) = _
  rw [angL]; rfl

/-- Entries of finite magnitude are reals. -/
theorem entries_real (h : Cert.Pre_latent_finite.fn (F := Ideal) x0 = fun _ => 1#1) (b : Fin 4) (l : Fin 8192) (d : Fin 256) :
    x0 (ix3 b l d) = (((x0 (ix3 b l d) : EReal).toReal : ℝ) : EReal) := by
  have : Subsingleton Cert.Pre_latent_finite.S_.Idx := ⟨fun i j => funext fun a => a.elim0⟩
  unfold Cert.Pre_latent_finite.fn at h
  have h0 := congrFun h (fun a => a.elim0)
  have h1 := Host.reduce_andi_all _ _ _ _ _ h0 (ix3 b l d)
  have hlt : Ideal.cmp .olt (max (x0 (ix3 b l d) : EReal) (-x0 (ix3 b l d))) (Ideal.ofBits .f32 0x7F800000#32) = 1#1 := h1
  have htop : Ideal.ofBits .f32 0x7F800000#32 = ⊤ := by simp [Ideal.ofBits, Ideal.ieee]
  rw [htop] at hlt
  generalize x0 (ix3 b l d) = y at hlt ⊢
  change EReal at y
  have hy : max y (-y) < ⊤ := by
    by_contra hn
    rw [show Ideal.cmp .olt (max y (-y)) ⊤ = BitVec.ofBool (decide (max y (-y) < ⊤)) from rfl, decide_eq_false hn] at hlt
    exact absurd hlt (by decide)
  refine (EReal.coe_toReal (fun e => ?_) (fun e => ?_)).symm
  · rw [e] at hy; simp at hy
  · rw [e] at hy; simp at hy

/-- The reference's result. -/
theorem val_apply (hz : ∀ b l d, x0 (ix3 b l d) = ((z b l d : ℝ) : EReal)) (b : Fin 4) (k : Fin 128) (c : Fin 16384) :
    val_main_v33 (F := Ideal) x0 (ix3 b k c)
      = ((mixed z b (k.val * 64 + c.val / 256) ⟨c.val % 256, by omega⟩ : ℝ) : EReal) * (((Real.sqrt 524288)⁻¹ : ℝ) : EReal) := by
  rw [v32, v31]
  refine congrArg (· * _) ?_
  unfold mixed
  rw [EReal.coe_sub, FnetMath.coe_sum, FnetMath.coe_sum]
  have he : c.val % 256 % 64 = c.val % 64 := by omega
  refine congrArg₂ (· - ·) (Finset.sum_congr rfl fun d _ => ?_) (Finset.sum_congr rfl fun d _ => ?_)
  · rw [re_val x0 z hz, EReal.coe_mul]
    refine congrArg (_ * ·) ?_
    show Ideal.cos (val_main_v17 (F := Ideal) (ix2 d ⟨c.val % 64, _⟩)) = _
    rw [angD]
    simp only [he]; rfl
  · rw [im_val x0 z hz, EReal.coe_mul]
    refine congrArg (_ * ·) ?_
    show Ideal.sin (val_main_v17 (F := Ideal) (ix2 d ⟨c.val % 64, _⟩)) = _
    rw [angD]
    simp only [he]; rfl

end Cert.Reference5Ideal.Fnet
-- ==== Proof.FnetReal.lean ====
/- The kernel's Fourier mixing at an index, over real entries: two stages make the whole transform. -/
module

public import proofs.«01_k».proof.Proof.FnetVal
public import proofs.«01_k».proof.Proof.FnetRef

@[expose] public section

set_option maxRecDepth 16384

noncomputable section

namespace Cert.Kernel5Ideal.FnetVal

open Cert.Kernel5Ideal Cert.Kernel5Ideal.Gen Cert.Kernel5Ideal.FnetA Cert.Kernel5Ideal.Fnet Cert.Kernel5Ideal.FnetTab Cert.FnetTab
open Idealize.ShloMosaic Idealize.ShloMosaic.TcCoe Idealize.SL.Sem

variable (x : Vec Ideal S4x8192x256 .bf16) (z : Fin 4 → Fin 8192 → Fin 256 → ℝ)

theorem col_cos (w : Fin 64 → ℝ) (k : Fin 64) :
    colAt f1 (fun t => ((w t : ℝ) : EReal)) 0 (by decide) k = ((∑ t : Fin 64, Real.cos ((k.val : ℝ) * t.val * (Real.pi / 32)) * w t : ℝ) : EReal) := by
  unfold colAt
  rw [FnetMath.coe_sum]
  refine Finset.sum_congr rfl fun t _ => ?_
  rw [f1_cos, EReal.coe_mul]

theorem col_sin (w : Fin 64 → ℝ) (k : Fin 64) :
    colAt f1 (fun t => ((w t : ℝ) : EReal)) 64 (by decide) k = ((∑ t : Fin 64, Real.sin ((k.val : ℝ) * t.val * (Real.pi / 32)) * w t : ℝ) : EReal) := by
  unfold colAt
  rw [FnetMath.coe_sum]
  refine Finset.sum_congr rfl fun t _ => ?_
  rw [f1_sin, EReal.coe_mul]

theorem stage_eq (f : ℝ → ℝ) (y : Fin 8192 → ℝ) (k j : ℕ) (hj : j < 128) (w : Fin 64 → ℝ)
    (hw : ∀ t : Fin 64, w t = y ⟨t.val * 128 + j, by omega⟩) :
    ∑ t : Fin 64, f ((k : ℝ) * t.val * (Real.pi / 32) + (k : ℝ) * j * (Real.pi / 4096)) * w t = FnetMath.stage f y k j := by
  unfold FnetMath.stage
  refine Finset.sum_congr rfl fun t _ => ?_
  rw [dif_pos (show t.val * 128 + j < 8192 by omega), hw]

theorem stA_real (hz : ∀ b l d, x (ix3 b l d) = ((z b l d : ℝ) : EReal)) (b : Fin 4) (p : Fin 2) (k : Fin 64) (j : Fin 128) (d : Fin 256) :
    stA x b p k ⟨j.val * 256 + d.val, by omega⟩
      = ((if p.val = 0 then FnetMath.stage Real.cos (fun l => z b l d) k.val j.val else FnetMath.stage Real.sin (fun l => z b l d) k.val j.val : ℝ) : EReal) := by
  have hj : (j.val * 256 + d.val) / 256 = j.val := by omega
  have hd : (j.val * 256 + d.val) % 256 = d.val := by omega
  unfold stA stageAt
  simp only [hz, hj, hd, cw_apply, sw_apply]
  rw [col_cos (fun t => z b ⟨t.val * 128 + j.val, by omega⟩ d), col_sin (fun t => z b ⟨t.val * 128 + j.val, by omega⟩ d)]
  simp only [← EReal.coe_mul, ← EReal.coe_sub, ← EReal.coe_add]
  rw [FnetMath.stage_cos, FnetMath.stage_sin, stage_eq Real.cos (fun l => z b l d) k.val j.val j.isLt _ (fun _ => rfl),
    stage_eq Real.sin (fun l => z b l d) k.val j.val j.isLt _ (fun _ => rfl)]
  split <;> rfl

variable (A B : Fin 128 → Fin 256 → ℝ)

theorem pos_re (k : Fin 128) (d : Fin 256) :
    posAt (fun j d => ((A j d : ℝ) : EReal)) (fun j d => ((B j d : ℝ) : EReal)) f2 0 (by decide) k d
      = ((∑ j : Fin 128, (Real.cos ((k.val : ℝ) * j.val * (Real.pi / 64)) * A j d - Real.sin ((k.val : ℝ) * j.val * (Real.pi / 64)) * B j d) : ℝ) : EReal) := by
  unfold posAt
  simp only [f2_00, f2_01, ← EReal.coe_mul]
  rw [← FnetMath.coe_sum, ← FnetMath.coe_sum, ← EReal.coe_add, ← Finset.sum_add_distrib]
  refine congrArg _ (Finset.sum_congr rfl fun j _ => ?_)
  ring

theorem pos_im (k : Fin 128) (d : Fin 256) :
    posAt (fun j d => ((A j d : ℝ) : EReal)) (fun j d => ((B j d : ℝ) : EReal)) f2 128 (by decide) k d
      = ((∑ j : Fin 128, (Real.sin ((k.val : ℝ) * j.val * (Real.pi / 64)) * A j d + Real.cos ((k.val : ℝ) * j.val * (Real.pi / 64)) * B j d) : ℝ) : EReal) := by
  unfold posAt
  simp only [f2_10, f2_11, ← EReal.coe_mul]
  rw [← FnetMath.coe_sum, ← FnetMath.coe_sum, ← EReal.coe_add, ← Finset.sum_add_distrib]

/-- The kernel's named constant is the unitary factor. -/
theorem inv_sqrt_n : Named.named (F := Ideal) Cert.Kernel5Ideal.κ "inv_sqrt_n" (φ := .f32) 0x3AB504F3#32 = (((Real.sqrt 524288)⁻¹ : ℝ) : EReal) :=
  IdealRules.named_const.ideal_named_scalar _ _ _ _ rfl

/-- The kernel's result over real entries. -/
theorem mixB_real (hz : ∀ b l d, x (ix3 b l d) = ((z b l d : ℝ) : EReal)) (b : Fin 4) (k : Fin 128) (e : Fin 16384) :
    mixB x b k e = ((mixed z b (k.val * 64 + e.val / 256) ⟨e.val % 256, by omega⟩ : ℝ) : EReal) * (((Real.sqrt 524288)⁻¹ : ℝ) : EReal) := by
  unfold mixB mixAt
  refine congrArg₂ (· * ·) ?_ inv_sqrt_n
  simp only [stA_real x z hz]
  simp only [pos_re, pos_im, bc_apply, bs_apply]
  simp only [show ((0 : Fin 2).val = 0) = True from by simp, show ((1 : Fin 2).val = 0) = False from by simp, if_true, if_false]
  simp only [FnetMath.full_cos, FnetMath.full_sin, ← EReal.coe_mul]
  rw [← FnetMath.coe_sum, ← FnetMath.coe_sum, ← EReal.coe_sub]
  unfold mixed
  rw [FnetMath.sum_group (fun i => FnetMath.full Real.cos (fun l => z b l i) (k.val * 64 + e.val / 256)) Real.cos ⟨e.val % 256, by omega⟩,
    FnetMath.sum_group (fun i => FnetMath.full Real.sin (fun l => z b l i) (k.val * 64 + e.val / 256)) Real.sin ⟨e.val % 256, by omega⟩]

/-- The reference's result is the kernel's, where every entry is finite. -/
theorem result_eq (m : (ℓ : Loc nD τ sig) → Buf (Elt Ideal) ℓ) (c : Dev nD)
    (h : Cert.Pre_latent_finite.fn (F := Ideal) (m ((c : Thread nD τ).loc main_arg0)) = fun _ => 1#1) :
    Cert.Reference5Ideal.Read.val_main_v33 (F := Ideal) (m ((c : Thread nD τ).loc main_arg0)) = GB m c := by
  funext i
  obtain ⟨b, k, e, rfl⟩ : ∃ (b : Fin 4) (k : Fin 128) (e : Fin 16384), i = ix3 b k e := ⟨i 0, i 1, i 2, eq_ix3 i⟩
  have hz := Cert.Reference5Ideal.Fnet.entries_real _ h
  exact (Cert.Reference5Ideal.Fnet.val_apply _ _ hz b k e).trans (mixB_real _ _ hz b k e).symm

end Cert.Kernel5Ideal.FnetVal
-- ==== Proof.FnetRun.lean ====
/- Every run of the Fourier mixing leaves its result array as `GB` says. -/
module

public import proofs.«01_k».proof.Proof.FnetVal

@[expose] public section

set_option maxRecDepth 16384

noncomputable section

namespace Cert.Kernel5Ideal.FnetVal

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The run's post with the result array. -/
theorem run : θ_run defs (onTc (τ := τ) (main (F := Ideal))) ⟨m, fun _ => 0, ρ⟩ (fun r => (∀ c : Dev nD,
      r.2.mem ((c.tc : Thread nD τ).loc main_v70) = GB m c
      ∧ r.2.mem ((c.tc : Thread nD τ).loc main_arg0) = m ((c.tc : Thread nD τ).loc main_arg0))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v70 (by decide))).trans ((W4_arr m ρ c 4).trans (final1 m ρ c)),
      (h c _ (mem_uc main_arg0 (by decide))).trans (W4_main_arg0 m ρ c)⟩), funext fun g => hz g (.inr (no_unscoped g.2))⟩)

end Cert.Kernel5Ideal.FnetVal
-- ==== Proof.ModVal.lean ====
/- The modulation call: its result array as one function of the stacked rows, the weights and the biases, and the reference's as the
   same. -/
module

public import proofs.«01_k».proof.Proof.Gen.Kernel6Ideal.Value
public import proofs.«01_k».proof.Proof.Gen.Reference6Ideal.Read
public import Idealize.ShloMosaic.Lib.Pointwise
public import Idealize.ShloMosaic.Lib.StableHlo.Run
public import Idealize.ShloMosaic.Lib.Pipeline.ValueKit.Tiles

@[expose] public section

set_option maxRecDepth 16384

noncomputable section

namespace Cert.Mod

open Idealize.ShloMosaic

/-- `z · sigmoid z`, the sigmoid as `1 / (1 + exp (-z))`. -/
def silu (z : EReal) : EReal := z * Ideal.div (Ideal.ofBits .f32 0x3F800000#32) (Ideal.ofBits .f32 0x3F800000#32 + Ideal.exp (-z))

/-- The result at layer `i 0`, row `i 1`, lane `i 2`. -/
def G (x : Vec Ideal ⟨2, ![8, 1024]⟩ .f32) (w : Vec Ideal ⟨3, ![2, 1024, 6144]⟩ .f32) (b : Vec Ideal ⟨2, ![2, 6144]⟩ .f32) :
    Vec Ideal ⟨3, ![2, 8, 6144]⟩ .f32 := fun i =>
  ∑ k : Fin 1024, silu (x (ix2 (i 1) k)) * w (ix3 (i 0) k (i 2)) + b (ix2 (i 0) (i 2))

end Cert.Mod

namespace Cert.Kernel6Ideal.Mod

open Cert.Kernel6Ideal Cert.Kernel6Ideal.Gen Cert.Kernel6Ideal.Value Cert.Mod Idealize.ShloMosaic Idealize.ShloMosaic.TcCoe Idealize.SL.Sem

theorem one : Ideal.ofBits .f32 0x3F800000#32 = 1 := by
  simp [Ideal.ofBits, Ideal.ieee, -EReal.coe_mul]
  norm_num

theorem pay1_apply (x : Vec Ideal S8x1024 .f32) (w : Vec Ideal S1x1024x1024 .f32) (b : Vec Ideal S1x1x1024 .f32) (u : Fin 1) (r : Fin 8) (n : Fin 1024) :
    k0_pay1 (F := Ideal) x w b (ix3 u r n) = ∑ k : Fin 1024, silu (x (ix2 r k)) * w (ix3 0 k n) + b (ix3 0 0 n) := by
  unfold silu
  rw [one]
  pointwise [k0_pay1]
  rfl

theorem hz2 : (![0, 0] : Fin 2 → Nat) = fun _ => 0 := funext fun a => by fin_cases a <;> rfl
theorem hz3 : (![0, 0, 0] : Fin 3 → Nat) = fun _ => 0 := funext fun a => by fin_cases a <;> rfl

theorem out_apply (x : Vec Ideal S8x1024 .f32) (w : Vec Ideal S1x1024x1024 .f32) (b : Vec Ideal S1x1x1024 .f32) (u : Fin 1) (r : Fin 8) (n : Fin 1024) :
    out0_3 x w b (ix3 u r n) = ∑ k : Fin 1024, silu (x (ix2 r k)) * w (ix3 0 k n) + b (ix3 0 0 n) := by
  unfold out0_3
  rw [View.canon_unit_zero hz3, View.ld_unit_zero hz2, View.ld_unit_zero hz3, View.ld_unit_zero hz3, pay1_apply]

variable (m : (ℓ : Loc nD τ sig) → Buf (Elt Ideal) ℓ) (ρ : Dev nD → PrngReg)

/-- The stacked rows: four of `c`, one of `c_ctx`, three of zeros. -/
def rows (x0 : Vec Ideal S4x1024 .f32) (x1 : Vec Ideal S1024 .f32) : Vec Ideal S8x1024 .f32 :=
  Cert.Reference6Ideal.Read.val_main_v2 (F := Ideal) x0 x1

theorem V2 (c : Dev nD) : V m c main_v2 = rows (m ((c : Thread nD τ).loc main_arg0)) (m ((c : Thread nD τ).loc main_arg1)) := by
  show StableHlo.after hostOps0 (fun b => m (c, b)) (Proc.devRef .tc main_v2) = _
  after_results_simp
  rfl

theorem V3 (c : Dev nD) (l : Fin 2) (k : Fin 6144) : V m c main_v3 (ix3 l 0 k) = m ((c : Thread nD τ).loc main_arg3) (ix2 l k) := by
  have h : V m c main_v3 = shapeCast S2x1x6144 (m ((c : Thread nD τ).loc main_arg3)) shapeCasts_S2x6144_S2x1x6144 := by
    show StableHlo.after hostOps0 (fun b => m (c, b)) (Proc.devRef .tc main_v3) = _
    after_results; rfl
  rw [h]
  generalize m ((c : Thread nD τ).loc main_arg3) = y
  refine shapeCast_apply (s := S2x6144) (t := S2x1x6144) y _ (ix3 l 0 k) (ix2 l k) ?_
  rw [Shape.rowMajor_val_two, Shape.rowMajor_val_three]
  show l.val * 6144 + k.val = (l.val * 1 + 0) * 6144 + k.val
  omega

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = t.val / 6 ∧ win0_1.index t (1 : Fin 3) = 0 ∧ win0_1.index t (2 : Fin 3) = t.val % 6 :=
  (by decide +kernel : ∀ t : Fin grid0.N, _)
theorem idx2 : ∀ t : Fin cfg0.N, win0_2.index t (0 : Fin 3) = t.val / 6 ∧ win0_2.index t (1 : Fin 3) = 0 ∧ win0_2.index t (2 : Fin 3) = t.val % 6 :=
  (by decide +kernel : ∀ t : Fin grid0.N, _)
theorem idx3 : ∀ t : Fin cfg0.N, win0_3.index t (0 : Fin 3) = t.val / 6 ∧ win0_3.index t (1 : Fin 3) = 0 ∧ win0_3.index t (2 : Fin 3) = t.val % 6 :=
  (by decide +kernel : ∀ t : Fin grid0.N, _)

theorem t_lt (t : Fin cfg0.N) : t.val < 12 := lt_of_lt_of_eq t.isLt N_0

/-- The layer and the lane of lane `n` of point `t`'s block. -/
def lay (t : Fin cfg0.N) : Fin 2 := ⟨t.val / 6, by have := t_lt t; omega⟩
def lan (t : Fin cfg0.N) (n : Fin 1024) : Fin 6144 := ⟨t.val % 6 * 1024 + n.val, by omega⟩

theorem emb3 (t : Fin cfg0.N) (u : Fin 1) (r : Fin 8) (n : Fin 1024) : ((cfg0.win 3).blk t).view.emb (ix3 u r n) = ix3 (lay t) r (lan t n) := by
  obtain ⟨e0, e1, e2⟩ := idx3 t
  have hu : u.val = 0 := by omega
  funext a; apply Fin.ext
  match a with
  | ⟨0, _⟩ => show win0_3.index t (0 : Fin 3) * 1 + 1 * u.val = t.val / 6; omega
  | ⟨1, _⟩ => show win0_3.index t (1 : Fin 3) * 8 + 1 * r.val = r.val; omega
  | ⟨2, _⟩ => show win0_3.index t (2 : Fin 3) * 1024 + 1 * n.val = t.val % 6 * 1024 + n.val; omega

theorem blk0 (c : Dev nD) (t : Fin cfg0.N) (r : Fin 8) (k : Fin 1024) :
    iblk m c 0 t (ix2 r k) = rows (m ((c : Thread nD τ).loc main_arg0)) (m ((c : Thread nD τ).loc main_arg1)) (ix2 r k) := by
  obtain ⟨e0, e1⟩ := idx0 t
  have e : ((cfg0.win 0).blk t).view.emb (ix2 r k) = ix2 r k := by
    funext a; apply Fin.ext
    match a with
    | ⟨0, _⟩ => show win0_0.index t (0 : Fin 2) * 8 + 1 * r.val = r.val; omega
    | ⟨1, _⟩ => show win0_0.index t (1 : Fin 2) * 1024 + 1 * k.val = k.val; omega
  show V m c main_v2 (((cfg0.win 0).blk t).view.emb (ix2 r k)) = _
  rw [e, V2]

theorem blk1 (c : Dev nD) (t : Fin cfg0.N) (k n : Fin 1024) :
    iblk m c 1 t (ix3 0 k n) = m ((c : Thread nD τ).loc main_arg2) (ix3 (lay t) k (lan t n)) := by
  obtain ⟨e0, e1, e2⟩ := idx1 t
  have e : ((cfg0.win 1).blk t).view.emb (ix3 0 k n) = ix3 (lay t) k (lan t n) := by
    funext a; apply Fin.ext
    match a with
    | ⟨0, _⟩ => show win0_1.index t (0 : Fin 3) * 1 + 1 * 0 = t.val / 6; omega
    | ⟨1, _⟩ => show win0_1.index t (1 : Fin 3) * 1024 + 1 * k.val = k.val; omega
    | ⟨2, _⟩ => show win0_1.index t (2 : Fin 3) * 1024 + 1 * n.val = t.val % 6 * 1024 + n.val; omega
  show V m c main_arg2 (((cfg0.win 1).blk t).view.emb (ix3 0 k n)) = _
  rw [e, V_main_arg2]

theorem blk2 (c : Dev nD) (t : Fin cfg0.N) (n : Fin 1024) :
    iblk m c 2 t (ix3 0 0 n) = m ((c : Thread nD τ).loc main_arg3) (ix2 (lay t) (lan t n)) := by
  obtain ⟨e0, e1, e2⟩ := idx2 t
  have e : ((cfg0.win 2).blk t).view.emb (ix3 0 0 n) = ix3 (lay t) 0 (lan t n) := by
    funext a; apply Fin.ext
    match a with
    | ⟨0, _⟩ => show win0_2.index t (0 : Fin 3) * 1 + 1 * 0 = t.val / 6; omega
    | ⟨1, _⟩ => show win0_2.index t (1 : Fin 3) * 1 + 1 * 0 = 0; omega
    | ⟨2, _⟩ => show win0_2.index t (2 : Fin 3) * 1024 + 1 * n.val = t.val % 6 * 1024 + n.val; omega
  show V m c main_v3 (((cfg0.win 2).blk t).view.emb (ix3 0 0 n)) = _
  rw [e, V3]

/-- `G` of the arguments as launched. -/
def Gm (c : Dev nD) : Buf (Elt Ideal) ((c : Thread nD τ).loc main_v4) :=
  G (rows (m ((c : Thread nD τ).loc main_arg0)) (m ((c : Thread nD τ).loc main_arg1))) (m ((c : Thread nD τ).loc main_arg2))
    (m ((c : Thread nD τ).loc main_arg3))

theorem flushed_eq (c : Dev nD) (t : Fin cfg0.N) :
    (dats m 0 c).flushed 3 t = ((cfg0.win 3).blk t).view.read (Elt Ideal) (Gm m c) := by
  rw [flushed3]
  funext j
  show out0_3 (iblk m c 0 t) (iblk m c 1 t) (iblk m c 2 t) j = Gm m c (((cfg0.win 3).blk t).view.emb j)
  obtain ⟨u, r, n, rfl⟩ : ∃ (u : Fin 1) (r : Fin 8) (n : Fin 1024), j = ix3 u r n := ⟨j 0, j 1, j 2, eq_ix3 j⟩
  rw [emb3, out_apply]
  simp only [blk0, blk1, blk2]
  rfl

theorem covered (i : S2x8x6144.Idx) : ∃ t : Fin cfg0.N, (cfg0.win 3).flush t = true ∧ i ∈ ((cfg0.win 3).blk t).view.set := by
  obtain ⟨l, r, n, rfl⟩ : ∃ (l : Fin 2) (r : Fin 8) (n : Fin 6144), i = ix3 l r n := ⟨i 0, i 1, i 2, eq_ix3 i⟩
  refine ⟨⟨l.val * 6 + n.val / 1024, lt_of_lt_of_eq (b := 12) (by omega) N_0.symm⟩, flush0_3 _, ?_⟩
  have h := ((cfg0.win 3).blk (⟨l.val * 6 + n.val / 1024, lt_of_lt_of_eq (b := 12) (by omega) N_0.symm⟩ : Fin cfg0.N)).view.emb_mem_set
    (ix3 (0 : Fin 1) r (⟨n.val % 1024, by omega⟩ : Fin 1024))
  rw [emb3] at h
  have hb : lay ⟨l.val * 6 + n.val / 1024, lt_of_lt_of_eq (b := 12) (by omega) N_0.symm⟩ = l :=
    Fin.ext (show (l.val * 6 + n.val / 1024) / 6 = l.val by omega)
  have hs : lan ⟨l.val * 6 + n.val / 1024, lt_of_lt_of_eq (b := 12) (by omega) N_0.symm⟩ ⟨n.val % 1024, by omega⟩ = n :=
    Fin.ext (show (l.val * 6 + n.val / 1024) % 6 * 1024 + n.val % 1024 = n.val by omega)
  rwa [hb, hs] at h

theorem final (c : Dev nD) : (dats m 0 c).arrAt 3 cfg0.N = Gm m c :=
  (dats m 0 c).arrAt_eq_of_cover 3 (Gm m c) (fun t _ => flushed_eq m c t) covered

end Cert.Kernel6Ideal.Mod

namespace Cert.Reference6Ideal.Mod

open Cert.Reference6Ideal Cert.Reference6Ideal.Read Cert.Mod Idealize.ShloMosaic Idealize.ShloMosaic.TcCoe Idealize.SL.Sem

variable (x0 : Vec Ideal S4x1024 .f32) (x1 : Vec Ideal S1024 .f32) (x2 : Vec Ideal S2x1024x6144 .f32) (x3 : Vec Ideal S2x6144 .f32)

theorem silu_apply (r : Fin 8) (k : Fin 1024) : val_main_v9 (F := Ideal) x0 x1 (ix2 r k) = silu (val_main_v2 (F := Ideal) x0 x1 (ix2 r k)) := by
  unfold val_main_v9 val_main_v8 val_main_v7 val_main_v6 val_main_v5 val_main_v4 val_main_v3 val_main_cst_1 val_main_cst_0
  generalize val_main_v2 (F := Ideal) x0 x1 = y
  rfl

theorem val_eq : val_main_v14 (F := Ideal) x0 x1 x2 x3 = G (Cert.Kernel6Ideal.Mod.rows x0 x1) x2 x3 := by
  funext j
  obtain ⟨l, r, n, rfl⟩ : ∃ (l : Fin 2) (r : Fin 8) (n : Fin 6144), j = ix3 l r n := ⟨j 0, j 1, j 2, eq_ix3 j⟩
  have h : val_main_v14 (F := Ideal) x0 x1 x2 x3 (ix3 l r n)
      = ∑ k : Fin 1024, x2 (ix3 l k n) * val_main_v9 (F := Ideal) x0 x1 (ix2 r k) + x3 (ix2 l n) := by
    unfold val_main_v14 val_main_v13 val_main_v12 val_main_v11 val_main_v10
    generalize val_main_v9 (F := Ideal) x0 x1 = y
    pointwise []
  rw [h]
  simp only [silu_apply]
  unfold G
  refine congrArg (· + _) (Finset.sum_congr rfl fun k _ => mul_comm _ _)

end Cert.Reference6Ideal.Mod

end
-- ==== Proof.CtxVal.lean ====
/- The context attention call: what each payload of the body computes at a row and a lane, and the result array as one function of
   the queries, the keys and the values. -/
module

public import proofs.«01_k».proof.Proof.Gen.Kernel7Ideal.Value
public import Idealize.ShloMosaic.Lib.Pointwise
public import Idealize.ShloMosaic.Lib.StableHlo.Run
public import Idealize.ShloMosaic.Lib.Pipeline.ValueKit.Tiles
public import Idealize.ShloMosaic.PureOps.Ideal.Laws

@[expose] public section

set_option maxRecDepth 16384

noncomputable section

namespace Cert.Ctx

open Idealize.ShloMosaic

/-- The score of query `r` against key `s`. -/
def sc (Q K : Fin 256 → Fin 64 → EReal) (r s : Fin 256) : EReal := ∑ d : Fin 64, Q r d * K s d

/-- The greatest score of query `r`. -/
def mx (Q K : Fin 256 → Fin 64 → EReal) (r : Fin 256) : EReal :=
  (Finset.univ : Finset (Fin 256)).fold max (Ideal.ofBits .f32 0xFF800000#32) (sc Q K r)

/-- The weight of key `s` for query `r`, before the normalization. -/
def ex (Q K : Fin 256 → Fin 64 → EReal) (r s : Fin 256) : EReal := Ideal.exp (sc Q K r s - mx Q K r)

/-- One head of the attention: the weighted sum of the values, divided once by the sum of the weights. -/
def head (Q K V : Fin 256 → Fin 64 → EReal) (r : Fin 256) (d : Fin 64) : EReal :=
  Ideal.div (∑ s : Fin 256, ex Q K r s * V s d) (∑ s : Fin 256, ex Q K r s)

/-- Batch `b`'s head of lane `c`, as a matrix. -/
def part (x : Vec Ideal ⟨3, ![4, 256, 512]⟩ .bf16) (b : Fin 4) (c : Fin 512) (r : Fin 256) (d : Fin 64) : EReal :=
  x (ix3 b r ⟨c.val / 64 * 64 + d.val, by omega⟩)

/-- The result at batch `i 0`, query `i 1`, lane `i 2`. -/
def G (x0 x1 x2 : Vec Ideal ⟨3, ![4, 256, 512]⟩ .bf16) : Vec Ideal ⟨3, ![4, 256, 512]⟩ .bf16 := fun i =>
  head (part x0 (i 0) (i 2)) (part x1 (i 0) (i 2)) (part x2 (i 0) (i 2)) (i 1) ⟨(i 2).val % 64, Nat.mod_lt _ (by omega)⟩

end Cert.Ctx

namespace Cert.Kernel7Ideal.Ctx

open Cert.Kernel7Ideal Cert.Kernel7Ideal.Gen Cert.Kernel7Ideal.Value Cert.Ctx Idealize.ShloMosaic Idealize.ShloMosaic.TcCoe Idealize.SL.Sem

/-- A block's 64 lanes as a matrix. -/
def mat (x : Vec Ideal S1x256x64 .bf16) (r : Fin 256) (d : Fin 64) : EReal := x (ix3 0 r d)

def scores (q k : Vec Ideal S1x256x64 .bf16) : FVec Ideal S256x256 .f32 :=
  matmul dot_S256x64_S256x64_S256x256_1_1_0_0_n_n none (shapeCast S256x64 q shapeCasts_S1x256x64_S256x64 : FVec Ideal S256x64 .bf16)
    (shapeCast S256x64 k shapeCasts_S1x256x64_S256x64 : FVec Ideal S256x64 .bf16) (constant S256x256 .f32 0x00000000#32)

theorem scores_apply (q k : Vec Ideal S1x256x64 .bf16) (r s : Fin 256) : scores q k (ix2 r s) = sc (mat q) (mat k) r s := by
  unfold sc mat
  pointwise [scores]

def maxes (q k : Vec Ideal S1x256x64 .bf16) : FVec Ideal S256 .f32 :=
  multiReduction .maximumf [1] S256 (scores q k) 0xFF800000#32 reduces_S256x256_S256 (.inl rfl) rfl

theorem lift_eq (r k : Fin 256) : reduces_S256x256_S256.lift (ix1 r) k = (ix2 r k : S256x256.Idx) := by
  funext a; apply Fin.ext
  match a with
  | ⟨0, _⟩ => rfl
  | ⟨1, _⟩ => rfl

theorem maxes_apply (q k : Vec Ideal S1x256x64 .bf16) (r : Fin 256) : maxes q k (ix1 r) = mx (mat q) (mat k) r := by
  unfold maxes mx
  refine (Ideal.multiReduction_maximumf_single _ _ _ _ _ _).trans ?_
  refine congrArg (Finset.fold max _ · _) (funext fun s => ?_)
  exact (congrArg (scores q k) (lift_eq r s)).trans (scores_apply q k r s)

theorem pay3_apply (q k : Vec Ideal S1x256x64 .bf16) (r s : Fin 256) : k0_pay3 (F := Ideal) q k (ix2 r s) = ex (mat q) (mat k) r s := by
  unfold ex
  rw [← scores_apply, ← maxes_apply]
  show exp (subf (scores q k) (broadcastTo S256x256 (shapeCast S256x1 (maxes q k) shapeCasts_S256_S256x1) broadcasts_S256x1_S256x256)) (ix2 r s) = _
  generalize scores q k = y
  generalize maxes q k = z
  pointwise []

theorem pay4_apply (q k : Vec Ideal S1x256x64 .bf16) (r : Fin 256) (u : Fin 1) :
    k0_pay4 (F := Ideal) q k (ix2 r u) = ∑ s : Fin 256, ex (mat q) (mat k) r s := by
  have h : multiReduction .add [1] S256 (k0_pay3 (F := Ideal) q k) 0x00000000#32 reduces_S256x256_S256 (.inl rfl) rfl (ix1 r)
      = ∑ s : Fin 256, ex (mat q) (mat k) r s := by
    refine (Ideal.multiReduction_add_single _ _ _ _ _ _).trans ?_
    refine Finset.sum_congr rfl fun s _ => ?_
    exact (congrArg (k0_pay3 (F := Ideal) q k) (lift_eq r s)).trans (pay3_apply q k r s)
  rw [← h]
  unfold k0_pay4
  generalize multiReduction .add [1] S256 (k0_pay3 (F := Ideal) q k) 0x00000000#32 reduces_S256x256_S256 (.inl rfl) rfl = y
  pointwise []

/-- The second head's quotient. -/
def second (q k v : Vec Ideal S1x256x64 .bf16) : FVec Ideal S256x64 .f32 :=
  divf (matmul dot_S256x256_S256x64_S256x64_1_0_0_1_n_n none (k0_pay5 (F := Ideal) q k) (k0_pay6 (F := Ideal) v) (constant S256x64 .f32 0x00000000#32))
    (broadcastTo S256x64 (k0_pay4 (F := Ideal) q k) broadcasts_S256x1_S256x64)

theorem second_apply (q k v : Vec Ideal S1x256x64 .bf16) (r : Fin 256) (d : Fin 64) :
    second q k v (ix2 r d) = head (mat q) (mat k) (mat v) r d := by
  have h : second q k v (ix2 r d) = Ideal.div (∑ s : Fin 256, k0_pay3 (F := Ideal) q k (ix2 r s) * v (ix3 0 s d)) (k0_pay4 (F := Ideal) q k (ix2 r 0)) := by
    unfold second k0_pay5 k0_pay6
    generalize k0_pay3 (F := Ideal) q k = y
    generalize k0_pay4 (F := Ideal) q k = z
    pointwise []
  rw [h, pay4_apply]
  simp only [pay3_apply]
  rfl

theorem pay2_eq (q k v : Vec Ideal S1x256x64 .bf16) : k0_pay2 (F := Ideal) q k v = second q k v := rfl

/-- The lanes of the first and of the second head. -/
def lo (d : Fin 64) : Fin 128 := ⟨d.val, by omega⟩
def hi (d : Fin 64) : Fin 128 := ⟨64 + d.val, by omega⟩

/-- What the body leaves: the two heads side by side. -/
theorem pay1_left (q k v q' k' v' : Vec Ideal S1x256x64 .bf16) (u : Fin 1) (r : Fin 256) (d : Fin 64) :
    k0_pay1 (F := Ideal) (k0_pay2 q k v) (k0_pay4 q' k') (k0_pay5 q' k') (k0_pay6 v') (ix3 u r (lo d))
      = head (mat q) (mat k) (mat v) r d := by
  rw [← second_apply, pay2_eq]
  show shapeCast S1x256x128 (truncf .bf16 (concatenate S256x128 1 [⟨S256x64, second q k v⟩, ⟨S256x64, second q' k' v'⟩]
    concatenates_S256x64_S256x64_S256x128_d1) bitsLt_bf16_f32) shapeCasts_S256x128_S1x256x128 _ = _
  generalize second q k v = y
  generalize second q' k' v' = z
  unfold lo
  pointwise []

theorem pay1_right (q k v q' k' v' : Vec Ideal S1x256x64 .bf16) (u : Fin 1) (r : Fin 256) (d : Fin 64) :
    k0_pay1 (F := Ideal) (k0_pay2 q k v) (k0_pay4 q' k') (k0_pay5 q' k') (k0_pay6 v') (ix3 u r (hi d))
      = head (mat q') (mat k') (mat v') r d := by
  rw [← second_apply, pay2_eq]
  show shapeCast S1x256x128 (truncf .bf16 (concatenate S256x128 1 [⟨S256x64, second q k v⟩, ⟨S256x64, second q' k' v'⟩]
    concatenates_S256x64_S256x64_S256x128_d1) bitsLt_bf16_f32) shapeCasts_S256x128_S1x256x128 _ = _
  generalize second q k v = y
  generalize second q' k' v' = z
  unfold hi
  pointwise []

theorem hz3 : (![0, 0, 0] : Fin 3 → Nat) = fun _ => 0 := funext fun a => by fin_cases a <;> rfl

theorem ldM (x : Vec Ideal S1x256x128 .bf16) (o : Nat) (ho : o ≤ 64) (inb) :
    mat (View.ld x (Rect.unit (s := S1x256x128) ![0, 0, o] S1x256x64.size inb)) = fun r d => x (ix3 0 r ⟨o + d.val, by omega⟩) := by
  funext r d
  exact View.ld_unit_apply_of _ _ _ _ _ _ fun a => by
    match a with
    | ⟨0, _⟩ => rfl
    | ⟨1, _⟩ => exact (Nat.zero_add _).symm
    | ⟨2, _⟩ => rfl

theorem out_apply (x0 x1 x2 : Vec Ideal S1x256x128 .bf16) (u : Fin 1) (r : Fin 256) (n : Fin 128) :
    out0_3 x0 x1 x2 (ix3 u r n)
      = head (fun r d => x0 (ix3 0 r ⟨n.val / 64 * 64 + d.val, by omega⟩)) (fun r d => x1 (ix3 0 r ⟨n.val / 64 * 64 + d.val, by omega⟩))
          (fun r d => x2 (ix3 0 r ⟨n.val / 64 * 64 + d.val, by omega⟩)) r ⟨n.val % 64, by omega⟩ := by
  unfold out0_3
  rw [View.canon_unit_zero hz3]
  by_cases hn : n.val < 64
  · obtain ⟨d, rfl⟩ : ∃ d : Fin 64, n = lo d := ⟨⟨n.val, hn⟩, rfl⟩
    have h0 : (lo d).val / 64 * 64 = 0 := by show d.val / 64 * 64 = 0; omega
    have h1 : (lo d).val % 64 = d.val := by show d.val % 64 = d.val; omega
    rw [pay1_left, ldM _ 0 (by omega), ldM _ 0 (by omega), ldM _ 0 (by omega)]
    simp only [h0, h1]
  · obtain ⟨d, rfl⟩ : ∃ d : Fin 64, n = hi d := ⟨⟨n.val - 64, by omega⟩, Fin.ext (show n.val = 64 + (n.val - 64) by omega)⟩
    have h0 : (hi d).val / 64 * 64 = 64 := by show (64 + d.val) / 64 * 64 = 64; omega
    have h1 : (hi d).val % 64 = d.val := by show (64 + d.val) % 64 = d.val; omega
    rw [pay1_right, ldM _ 64 (by omega), ldM _ 64 (by omega), ldM _ 64 (by omega)]
    simp only [h0, h1]

variable (m : (ℓ : Loc nD τ sig) → Buf (Elt Ideal) ℓ) (ρ : Dev nD → PrngReg)

theorem idx0 : ∀ t : Fin cfg0.N, win0_0.index t (0 : Fin 3) = t.val / 4 ∧ win0_0.index t (1 : Fin 3) = 0 ∧ win0_0.index t (2 : Fin 3) = t.val % 4 :=
  (by decide +kernel : ∀ t : Fin grid0.N, _)
theorem idx1 : ∀ t : Fin cfg0.N, win0_1.index t (0 : Fin 3) = t.val / 4 ∧ win0_1.index t (1 : Fin 3) = 0 ∧ win0_1.index t (2 : Fin 3) = t.val % 4 :=
  (by decide +kernel : ∀ t : Fin grid0.N, _)
theorem idx2 : ∀ t : Fin cfg0.N, win0_2.index t (0 : Fin 3) = t.val / 4 ∧ win0_2.index t (1 : Fin 3) = 0 ∧ win0_2.index t (2 : Fin 3) = t.val % 4 :=
  (by decide +kernel : ∀ t : Fin grid0.N, _)
theorem idx3 : ∀ t : Fin cfg0.N, win0_3.index t (0 : Fin 3) = t.val / 4 ∧ win0_3.index t (1 : Fin 3) = 0 ∧ win0_3.index t (2 : Fin 3) = t.val % 4 :=
  (by decide +kernel : ∀ t : Fin grid0.N, _)

theorem t_lt (t : Fin cfg0.N) : t.val < 16 := lt_of_lt_of_eq t.isLt N_0

/-- The batch and the lane of lane `n` of point `t`'s block. -/
def bat (t : Fin cfg0.N) : Fin 4 := ⟨t.val / 4, by have := t_lt t; omega⟩
def lan (t : Fin cfg0.N) (n : Fin 128) : Fin 512 := ⟨t.val % 4 * 128 + n.val, by omega⟩

theorem emb3 (t : Fin cfg0.N) (u : Fin 1) (r : Fin 256) (n : Fin 128) : ((cfg0.win 3).blk t).view.emb (ix3 u r n) = ix3 (bat t) r (lan t n) := by
  obtain ⟨e0, e1, e2⟩ := idx3 t
  have hu : u.val = 0 := by omega
  funext a; apply Fin.ext
  match a with
  | ⟨0, _⟩ => show win0_3.index t (0 : Fin 3) * 1 + 1 * u.val = t.val / 4; omega
  | ⟨1, _⟩ => show win0_3.index t (1 : Fin 3) * 256 + 1 * r.val = r.val; omega
  | ⟨2, _⟩ => show win0_3.index t (2 : Fin 3) * 128 + 1 * n.val = t.val % 4 * 128 + n.val; omega

theorem blk0 (c : Dev nD) (t : Fin cfg0.N) (r : Fin 256) (n : Fin 128) :
    iblk m c 0 t (ix3 0 r n) = m ((c : Thread nD τ).loc main_arg0) (ix3 (bat t) r (lan t n)) := by
  obtain ⟨e0, e1, e2⟩ := idx0 t
  have e : ((cfg0.win 0).blk t).view.emb (ix3 0 r n) = ix3 (bat t) r (lan t n) := by
    funext a; apply Fin.ext
    match a with
    | ⟨0, _⟩ => show win0_0.index t (0 : Fin 3) * 1 + 1 * 0 = t.val / 4; omega
    | ⟨1, _⟩ => show win0_0.index t (1 : Fin 3) * 256 + 1 * r.val = r.val; omega
    | ⟨2, _⟩ => show win0_0.index t (2 : Fin 3) * 128 + 1 * n.val = t.val % 4 * 128 + n.val; omega
  show V m c main_arg0 (((cfg0.win 0).blk t).view.emb (ix3 0 r n)) = _
  rw [e, V_main_arg0]

theorem blk1 (c : Dev nD) (t : Fin cfg0.N) (r : Fin 256) (n : Fin 128) :
    iblk m c 1 t (ix3 0 r n) = m ((c : Thread nD τ).loc main_arg1) (ix3 (bat t) r (lan t n)) := by
  obtain ⟨e0, e1, e2⟩ := idx1 t
  have e : ((cfg0.win 1).blk t).view.emb (ix3 0 r n) = ix3 (bat t) r (lan t n) := by
    funext a; apply Fin.ext
    match a with
    | ⟨0, _⟩ => show win0_1.index t (0 : Fin 3) * 1 + 1 * 0 = t.val / 4; omega
    | ⟨1, _⟩ => show win0_1.index t (1 : Fin 3) * 256 + 1 * r.val = r.val; omega
    | ⟨2, _⟩ => show win0_1.index t (2 : Fin 3) * 128 + 1 * n.val = t.val % 4 * 128 + n.val; omega
  show V m c main_arg1 (((cfg0.win 1).blk t).view.emb (ix3 0 r n)) = _
  rw [e, V_main_arg1]

theorem blk2 (c : Dev nD) (t : Fin cfg0.N) (r : Fin 256) (n : Fin 128) :
    iblk m c 2 t (ix3 0 r n) = m ((c : Thread nD τ).loc main_arg2) (ix3 (bat t) r (lan t n)) := by
  obtain ⟨e0, e1, e2⟩ := idx2 t
  have e : ((cfg0.win 2).blk t).view.emb (ix3 0 r n) = ix3 (bat t) r (lan t n) := by
    funext a; apply Fin.ext
    match a with
    | ⟨0, _⟩ => show win0_2.index t (0 : Fin 3) * 1 + 1 * 0 = t.val / 4; omega
    | ⟨1, _⟩ => show win0_2.index t (1 : Fin 3) * 256 + 1 * r.val = r.val; omega
    | ⟨2, _⟩ => show win0_2.index t (2 : Fin 3) * 128 + 1 * n.val = t.val % 4 * 128 + n.val; omega
  show V m c main_arg2 (((cfg0.win 2).blk t).view.emb (ix3 0 r n)) = _
  rw [e, V_main_arg2]

/-- `G` of the arguments as launched. -/
def Gm (c : Dev nD) : Buf (Elt Ideal) ((c : Thread nD τ).loc main_v0) :=
  G (m ((c : Thread nD τ).loc main_arg0)) (m ((c : Thread nD τ).loc main_arg1)) (m ((c : Thread nD τ).loc main_arg2))

theorem lan_part (t : Fin cfg0.N) (n : Fin 128) (d : Fin 64) :
    lan t ⟨n.val / 64 * 64 + d.val, by omega⟩ = ⟨(lan t n).val / 64 * 64 + d.val, by omega⟩ :=
  Fin.ext (show t.val % 4 * 128 + (n.val / 64 * 64 + d.val) = (t.val % 4 * 128 + n.val) / 64 * 64 + d.val by omega)

theorem lan_mod (t : Fin cfg0.N) (n : Fin 128) : (⟨n.val % 64, by omega⟩ : Fin 64) = ⟨(lan t n).val % 64, by omega⟩ :=
  Fin.ext (show n.val % 64 = (t.val % 4 * 128 + n.val) % 64 by omega)

theorem flushed_eq (c : Dev nD) (t : Fin cfg0.N) :
    (dats m 0 c).flushed 3 t = ((cfg0.win 3).blk t).view.read (Elt Ideal) (Gm m c) := by
  rw [flushed3]
  funext j
  show out0_3 (iblk m c 0 t) (iblk m c 1 t) (iblk m c 2 t) j = Gm m c (((cfg0.win 3).blk t).view.emb j)
  obtain ⟨u, r, n, rfl⟩ : ∃ (u : Fin 1) (r : Fin 256) (n : Fin 128), j = ix3 u r n := ⟨j 0, j 1, j 2, eq_ix3 j⟩
  rw [emb3, out_apply]
  simp only [blk0, blk1, blk2]
  simp only [lan_part]
  rw [lan_mod t n]
  rfl

theorem covered (i : S4x256x512.Idx) : ∃ t : Fin cfg0.N, (cfg0.win 3).flush t = true ∧ i ∈ ((cfg0.win 3).blk t).view.set := by
  obtain ⟨b, r, n, rfl⟩ : ∃ (b : Fin 4) (r : Fin 256) (n : Fin 512), i = ix3 b r n := ⟨i 0, i 1, i 2, eq_ix3 i⟩
  refine ⟨⟨b.val * 4 + n.val / 128, lt_of_lt_of_eq (b := 16) (by omega) N_0.symm⟩, flush0_3 _, ?_⟩
  have h := ((cfg0.win 3).blk (⟨b.val * 4 + n.val / 128, lt_of_lt_of_eq (b := 16) (by omega) N_0.symm⟩ : Fin cfg0.N)).view.emb_mem_set
    (ix3 (0 : Fin 1) r (⟨n.val % 128, by omega⟩ : Fin 128))
  rw [emb3] at h
  have hb : bat ⟨b.val * 4 + n.val / 128, lt_of_lt_of_eq (b := 16) (by omega) N_0.symm⟩ = b :=
    Fin.ext (show (b.val * 4 + n.val / 128) / 4 = b.val by omega)
  have hs : lan ⟨b.val * 4 + n.val / 128, lt_of_lt_of_eq (b := 16) (by omega) N_0.symm⟩ ⟨n.val % 128, by omega⟩ = n :=
    Fin.ext (show (b.val * 4 + n.val / 128) % 4 * 128 + n.val % 128 = n.val by omega)
  rwa [hb, hs] at h

theorem final (c : Dev nD) : (dats m 0 c).arrAt 3 cfg0.N = Gm m c :=
  (dats m 0 c).arrAt_eq_of_cover 3 (Gm m c) (fun t _ => flushed_eq m c t) covered

end Cert.Kernel7Ideal.Ctx

end
-- ==== Proof.CtxRef.lean ====
/- The reference's context attention over finite queries and keys: the same heads. -/
module

public import proofs.«01_k».proof.Proof.CtxVal
public import proofs.«01_k».proof.Proof.Gen.Reference7Ideal.Read
public import proofs.«01_k».proof.Proof.Gen.Pre_queries_keys_finite
public import Idealize.ShloMosaic.Lib.ReduceAll

@[expose] public section

set_option maxRecDepth 16384

noncomputable section

namespace Cert.Ctx

open Idealize.ShloMosaic

theorem coe_sum {ι : Type} (s : Finset ι) (g : ι → ℝ) : ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

theorem sum_mul_coe {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.mpr hc) (EReal.coe_ne_top c), ih]

theorem neg_inf : Ideal.ofBits .f32 0xFF800000#32 = ⊥ := by simp [Ideal.ofBits, Ideal.ieee]

variable (Q K V : Fin 256 → Fin 64 → EReal)

/-- Over finite queries and keys the weights are positive reals. -/
theorem ex_real (hQ : ∀ r d, Q r d = (((Q r d).toReal : ℝ) : EReal)) (hK : ∀ r d, K r d = (((K r d).toReal : ℝ) : EReal)) (r : Fin 256) :
    ∃ e : Fin 256 → ℝ, (∀ s, 0 < e s) ∧ ∀ s, ex Q K r s = ((e s : ℝ) : EReal) := by
  have hs : ∀ s, sc Q K r s = ((∑ d : Fin 64, (Q r d).toReal * (K s d).toReal : ℝ) : EReal) := fun s => by
    unfold sc
    rw [coe_sum]
    refine Finset.sum_congr rfl fun d _ => ?_
    rw [EReal.coe_mul, ← hQ, ← hK]
  have hm : mx Q K r = (((mx Q K r).toReal : ℝ) : EReal) := by
    refine (EReal.coe_toReal (ne_of_lt ?_) (ne_of_gt ?_)).symm
    · unfold mx
      rw [neg_inf, Finset.fold_max_lt]
      exact ⟨bot_lt_top, fun s _ => by rw [hs]; exact EReal.coe_lt_top _⟩
    · unfold mx
      rw [Finset.lt_fold_max]
      exact .inr ⟨0, Finset.mem_univ _, by rw [hs]; exact EReal.bot_lt_coe _⟩
  refine ⟨fun s => Real.exp ((∑ d : Fin 64, (Q r d).toReal * (K s d).toReal) - (mx Q K r).toReal), fun s => Real.exp_pos _, fun s => ?_⟩
  unfold ex
  rw [hs, hm, ← EReal.coe_sub, Ideal.exp_coe, EReal.toReal_coe]

/-- Dividing every weight by their sum, or the weighted values once, is the same. -/
theorem head_eq (hQ : ∀ r d, Q r d = (((Q r d).toReal : ℝ) : EReal)) (hK : ∀ r d, K r d = (((K r d).toReal : ℝ) : EReal))
    (r : Fin 256) (d : Fin 64) :
    ∑ s : Fin 256, V s d * Ideal.div (ex Q K r s) (∑ s : Fin 256, ex Q K r s) = head Q K V r d := by
  obtain ⟨e, he, hex⟩ := ex_real Q K hQ hK r
  unfold head
  simp only [hex]
  rw [← coe_sum]
  have hpos : 0 < ∑ s, e s := Finset.sum_pos (fun s _ => he s) ⟨0, Finset.mem_univ _⟩
  rw [Ideal.div_coe hpos.ne', sum_mul_coe _ _ (one_div_pos.mpr hpos).le]
  refine Finset.sum_congr rfl fun s _ => ?_
  rw [Ideal.div_coe hpos.ne', mul_comm (e s : EReal) (V s d), mul_assoc]

end Cert.Ctx

namespace Cert.Reference7Ideal.Ctx

open Cert.Reference7Ideal Cert.Reference7Ideal.Gen Cert.Reference7Ideal.Read Cert.Ctx Idealize.ShloMosaic Idealize.ShloMosaic.TcCoe Idealize.SL.Sem

variable (x0 x1 x2 : Vec Ideal S4x256x512 .bf16)

/-- Head `h`'s lane `d`. -/
def lane (h : Fin 8) (d : Fin 64) : Fin 512 := ⟨h.val * 64 + d.val, by omega⟩

/-- Head `h` of batch `b`, as a matrix. -/
def hd (x : Vec Ideal S4x256x512 .bf16) (b : Fin 4) (h : Fin 8) (r : Fin 256) (d : Fin 64) : EReal := x (ix3 b r (lane h d))

theorem v0 (b : Fin 4) (r : Fin 256) (h : Fin 8) (d : Fin 64) : val_main_v0 (F := Ideal) x0 (ix4 b r h d) = hd x0 b h r d := by
  unfold hd lane
  pointwise [val_main_v0]
theorem v1 (b : Fin 4) (r : Fin 256) (h : Fin 8) (d : Fin 64) : val_main_v1 (F := Ideal) x1 (ix4 b r h d) = hd x1 b h r d := by
  unfold hd lane
  pointwise [val_main_v1]
theorem v2 (b : Fin 4) (r : Fin 256) (h : Fin 8) (d : Fin 64) : val_main_v2 (F := Ideal) x2 (ix4 b r h d) = hd x2 b h r d := by
  unfold hd lane
  pointwise [val_main_v2]

theorem v3 (b : Fin 4) (h : Fin 8) (r s : Fin 256) : val_main_v3 (F := Ideal) x0 x1 (ix4 b h r s) = sc (hd x0 b h) (hd x1 b h) r s := by
  have e : val_main_v3 (F := Ideal) x0 x1 (ix4 b h r s)
      = ∑ d : Fin 64, val_main_v0 (F := Ideal) x0 (ix4 b r h d) * val_main_v1 (F := Ideal) x1 (ix4 b s h d) := by
    unfold val_main_v3
    generalize val_main_v0 (F := Ideal) x0 = y
    generalize val_main_v1 (F := Ideal) x1 = y'
    pointwise []
  rw [e]
  simp only [v0, v1]
  rfl

theorem red : Shape.Reduces S4x8x256x256 [3] S4x8x256 := by decide

theorem lift_eq (b : Fin 4) (h : Fin 8) (r s : Fin 256) : red.lift (ix3 b h r) s = (ix4 b h r s : S4x8x256x256.Idx) := by
  funext a; apply Fin.ext
  match a with
  | ⟨0, _⟩ => rfl
  | ⟨1, _⟩ => rfl
  | ⟨2, _⟩ => rfl
  | ⟨3, _⟩ => rfl

theorem v4 (b : Fin 4) (h : Fin 8) (r : Fin 256) : val_main_v4 (F := Ideal) x0 x1 (ix3 b h r) = mx (hd x0 b h) (hd x1 b h) r := by
  unfold val_main_v4 mx
  refine (Host.reduce_eq_fold_single (FloatOps.maximumf (F := Ideal) (φ := .f32)) _ _ _ red _ _).trans ?_
  refine congrArg (Finset.fold max _ · _) (funext fun s => ?_)
  exact (congrArg (val_main_v3 (F := Ideal) x0 x1) (lift_eq b h r s)).trans (v3 x0 x1 b h r s)

theorem v6 (b : Fin 4) (h : Fin 8) (r : Fin 256) : val_main_v6 (F := Ideal) x0 x1 (ix3 b h r) = mx (hd x0 b h) (hd x1 b h) r := by
  rw [← v4]
  refine (show _ = max (Ideal.ofBits .f32 0xFF800000#32) (val_main_v4 (F := Ideal) x0 x1 (ix3 b h r)) from ?_).trans ?_
  · unfold val_main_v6 val_main_v5 val_main_cst_0
    generalize val_main_v4 (F := Ideal) x0 x1 = y
    pointwise []
  · rw [neg_inf, max_eq_right bot_le]

theorem v10 (b : Fin 4) (h : Fin 8) (r s : Fin 256) : val_main_v10 (F := Ideal) x0 x1 (ix4 b h r s) = ex (hd x0 b h) (hd x1 b h) r s := by
  unfold ex
  rw [← v6, ← v3]
  unfold val_main_v10 val_main_v9 val_main_v8 val_main_v7
  generalize val_main_v6 (F := Ideal) x0 x1 = y
  generalize val_main_v3 (F := Ideal) x0 x1 = y'
  pointwise []

theorem v11 (b : Fin 4) (h : Fin 8) (r : Fin 256) :
    val_main_v11 (F := Ideal) x0 x1 (ix3 b h r) = ∑ s : Fin 256, ex (hd x0 b h) (hd x1 b h) r s := by
  rw [val_main_v11_apply]
  have hc : val_main_cst_1 (F := Ideal) (Shape.Idx.first h_S_) = (0 : EReal) := by
    show Ideal.ofBits .f32 0x00000000#32 = 0
    simp [Ideal.ofBits, Ideal.ieee]
  rw [hc, zero_add]
  refine Finset.sum_congr rfl fun s _ => ?_
  rw [← v10]
  refine congrArg (val_main_v10 (F := Ideal) x0 x1) (funext fun a => ?_)
  match a with
  | ⟨0, _⟩ => rfl
  | ⟨1, _⟩ => rfl
  | ⟨2, _⟩ => rfl
  | ⟨3, _⟩ => rfl

theorem v15 (b : Fin 4) (h : Fin 8) (r s : Fin 256) : val_main_v15 (F := Ideal) x0 x1 (ix4 b h r s)
    = Ideal.div (ex (hd x0 b h) (hd x1 b h) r s) (∑ s : Fin 256, ex (hd x0 b h) (hd x1 b h) r s) := by
  rw [← v11, ← v10]
  unfold val_main_v15 val_main_v14 val_main_v13 val_main_v12
  generalize val_main_v10 (F := Ideal) x0 x1 = y
  generalize val_main_v11 (F := Ideal) x0 x1 = y'
  pointwise []

theorem v16 (b : Fin 4) (h : Fin 8) (d : Fin 64) (r : Fin 256) : val_main_v16 (F := Ideal) x0 x1 x2 (ix4 b h d r)
    = ∑ s : Fin 256, hd x2 b h s d * Ideal.div (ex (hd x0 b h) (hd x1 b h) r s) (∑ s : Fin 256, ex (hd x0 b h) (hd x1 b h) r s) := by
  have e : val_main_v16 (F := Ideal) x0 x1 x2 (ix4 b h d r)
      = ∑ s : Fin 256, val_main_v2 (F := Ideal) x2 (ix4 b s h d) * val_main_v15 (F := Ideal) x0 x1 (ix4 b h r s) := by
    unfold val_main_v16
    generalize val_main_v2 (F := Ideal) x2 = y
    generalize val_main_v15 (F := Ideal) x0 x1 = y'
    pointwise []
  rw [e]
  simp only [v2, v15]

theorem v19 (b : Fin 4) (r : Fin 256) (c : Fin 512) : val_main_v19 (F := Ideal) x0 x1 x2 (ix3 b r c)
    = val_main_v16 (F := Ideal) x0 x1 x2 (ix4 b ⟨c.val / 64, by omega⟩ ⟨c.val % 64, by omega⟩ r) := by
  unfold val_main_v19 val_main_v18 val_main_v17
  generalize val_main_v16 (F := Ideal) x0 x1 x2 = y
  pointwise []

/-- The precondition makes every query and every key a real. -/
theorem finite_of (x : Vec Ideal S4x256x512 .bf16) (i : S4x256x512.Idx)
    (hlt : Ideal.cmp .olt (max (x i : EReal) (-x i)) (Ideal.ofBits .f32 0x7F800000#32) = 1#1) :
    (x i : EReal) = (((x i : EReal).toReal : ℝ) : EReal) := by
  have htop : Ideal.ofBits .f32 0x7F800000#32 = ⊤ := by simp [Ideal.ofBits, Ideal.ieee]
  rw [htop] at hlt
  generalize x i = y at hlt ⊢
  change EReal at y
  have hy : max y (-y) < ⊤ := by
    by_contra hn
    rw [show Ideal.cmp .olt (max y (-y)) ⊤ = BitVec.ofBool (decide (max y (-y) < ⊤)) from rfl, decide_eq_false hn] at hlt
    exact absurd hlt (by decide)
  refine (EReal.coe_toReal (fun e => ?_) (fun e => ?_)).symm
  · rw [e] at hy; simp at hy
  · rw [e] at hy; simp at hy

theorem and_one {a b : BitVec 1} (h : a &&& b = 1#1) : a = 1#1 ∧ b = 1#1 := by
  revert a b; decide

theorem entries_real (h : Cert.Pre_queries_keys_finite.fn (F := Ideal) x0 x1 x2 = fun _ => 1#1) :
    (∀ i, (x0 i : EReal) = (((x0 i : EReal).toReal : ℝ) : EReal)) ∧ ∀ i, (x1 i : EReal) = (((x1 i : EReal).toReal : ℝ) : EReal) := by
  have : Subsingleton Cert.Pre_queries_keys_finite.S_.Idx := ⟨fun i j => funext fun a => a.elim0⟩
  unfold Cert.Pre_queries_keys_finite.fn at h
  obtain ⟨ha, hb⟩ := and_one (congrFun h (fun a => a.elim0))
  exact ⟨fun i => finite_of x0 i (Host.reduce_andi_all _ _ _ _ _ ha i), fun i => finite_of x1 i (Host.reduce_andi_all _ _ _ _ _ hb i)⟩

theorem val_eq (h : Cert.Pre_queries_keys_finite.fn (F := Ideal) x0 x1 x2 = fun _ => 1#1) :
    val_main_v19 (F := Ideal) x0 x1 x2 = G x0 x1 x2 := by
  obtain ⟨hq, hk⟩ := entries_real x0 x1 x2 h
  funext j
  obtain ⟨b, r, c, rfl⟩ : ∃ (b : Fin 4) (r : Fin 256) (c : Fin 512), j = ix3 b r c := ⟨j 0, j 1, j 2, eq_ix3 j⟩
  rw [v19, v16]
  exact head_eq (hd x0 b ⟨c.val / 64, by omega⟩) (hd x1 b ⟨c.val / 64, by omega⟩) (hd x2 b ⟨c.val / 64, by omega⟩)
    (fun r d => hq _) (fun r d => hk _) r ⟨c.val % 64, by omega⟩

end Cert.Reference7Ideal.Ctx

end
-- ==== Proof.lean ====
module

public import proofs.«01_k».proof.Proof.FfnRef
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Ffn0Ref
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.MergeRef
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.InprojRef
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.FnetReal
public import proofs.«01_k».proof.Proof.FnetRun
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_latent_finite
public import proofs.«01_k».proof.Proof.ModVal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.CtxRef
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_queries_keys_finite
public import proofs.«01_k».proof.Defs
public import Idealize.ShloMosaic.Adequacy
public import Idealize.ShloMosaic.Init

@[expose] public section

noncomputable section

namespace Cert.Proof

open Idealize.ShloMosaic Idealize.SL.Sem Cert.Kernel

/-- The last layer's feed-forward call: the kernel's run with its result at `G` of the arguments, and the reference's with the same. -/
theorem algebraic : Cert.algebraic_KernelIdeal_ReferenceIdeal (hKernelIdeal := Cert.KernelIdeal.Gen.facts)
    (hReferenceIdeal := Cert.ReferenceIdeal.Gen.facts) := fun m g m' g' _ hm =>
  ⟨fun c => Cert.KernelIdeal.Ffn.Gm m c,
    (θ_run _ _ _).mono (fun r h c => ⟨(h c).1.trans (Cert.KernelIdeal.Ffn.final m c), (h c).2⟩)
      (Cert.KernelIdeal.Value.run_blocks (F := Ideal) m g),
    (θ_run _ _ _).mono (fun r h c => ⟨(h c).1.trans (by
        obtain ⟨h0, h1, h2, h3, h4, h5⟩ := hm c
        rw [Cert.ReferenceIdeal.Read.val_main_v53_eq, Cert.ReferenceIdeal.Ffn.val_eq, h0, h1, h2, h3, h4, h5]
        rfl), (h c).2⟩)
      (Cert.ReferenceIdeal.Value.run (F := Ideal) m' g')⟩

theorem frame_r : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- The first layer's feed-forward call. -/
theorem algebraic2 : Cert.algebraic_Kernel2Ideal_Reference2Ideal (hKernel2Ideal := Cert.Kernel2Ideal.Gen.facts)
    (hReference2Ideal := Cert.Reference2Ideal.Gen.facts) := fun m g m' g' _ hm =>
  ⟨fun c => Cert.Kernel2Ideal.Ffn.Gm m c,
    (θ_run _ _ _).mono (fun r h c => ⟨(h c).1.trans (Cert.Kernel2Ideal.Ffn.final m c), (h c).2⟩)
      (Cert.Kernel2Ideal.Value.run_blocks (F := Ideal) m g),
    (θ_run _ _ _).mono (fun r h c => ⟨(h c).1.trans (by
        obtain ⟨h0, h1, h2, h3, h4, h5⟩ := hm c
        rw [Cert.Reference2Ideal.Read.val_main_v40_eq, Cert.Reference2Ideal.Ffn.val_eq, h0, h1, h2, h3, h4]
        rfl), (h c).2⟩)
      (Cert.Reference2Ideal.Value.run (F := Ideal) m' g')⟩

theorem frame_r2 : Cert.quiescent_Reference2Ideal (hReference2Ideal := Cert.Reference2Ideal.Gen.facts) := fun m g _ =>
  (θ_run _ _ _).mono (fun r h => ⟨fun c => (h c).2, sem_eq_zero_of_no_sems (by decide) r.2⟩)
    (Cert.Reference2Ideal.Value.run (F := Ideal) m g)

/-- The gated merge. -/
theorem algebraic3 : Cert.algebraic_Kernel3Ideal_Reference3Ideal (hKernel3Ideal := Cert.Kernel3Ideal.Gen.facts)
    (hReference3Ideal := Cert.Reference3Ideal.Gen.facts) := fun m g m' g' _ hm =>
  ⟨fun c => Cert.Kernel3Ideal.Merge.Gm m c,
    (θ_run _ _ _).mono (fun r h c => ⟨(h c).1.trans (Cert.Kernel3Ideal.Merge.final m c), (h c).2⟩)
      (Cert.Kernel3Ideal.Value.run_blocks (F := Ideal) m g),
    (θ_run _ _ _).mono (fun r h c => ⟨(h c).1.trans (by
        obtain ⟨h0, h1, h2, h3, h4, h5, h6, h7, h8, h9, h10, h11, h12, h13, h14⟩ := hm c
        rw [Cert.Reference3Ideal.Read.val_main_v78_eq, Cert.Reference3Ideal.Merge.val_eq, h0, h1, h2, h3, h4, h5, h6, h7, h8, h9, h10, h11, h12, h13, h14]
        rfl), (h c).2⟩)
      (Cert.Reference3Ideal.Value.run (F := Ideal) m' g')⟩

theorem frame_r3 : Cert.quiescent_Reference3Ideal (hReference3Ideal := Cert.Reference3Ideal.Gen.facts) := fun m g _ =>
  (θ_run _ _ _).mono (fun r h => ⟨fun c => (h c).2, sem_eq_zero_of_no_sems (by decide) r.2⟩)
    (Cert.Reference3Ideal.Value.run (F := Ideal) m g)

/-- The input projection: six results. -/
theorem algebraic4 : Cert.algebraic_Kernel4Ideal_Reference4Ideal (hKernel4Ideal := Cert.Kernel4Ideal.Gen.facts)
    (hReference4Ideal := Cert.Reference4Ideal.Gen.facts) := fun m g m' g' _ hm =>
  ⟨fun c => Cert.Kernel4Ideal.Inproj.Gm4 m c, fun c => Cert.Kernel4Ideal.Inproj.Gm5 m c, fun c => Cert.Kernel4Ideal.Inproj.Gm6 m c, fun c => Cert.Kernel4Ideal.Inproj.Gm7 m c, fun c => Cert.Kernel4Ideal.Inproj.Gm8 m c, fun c => Cert.Kernel4Ideal.Inproj.Gm9 m c,
    (θ_run _ _ _).mono (fun r h c => by
        obtain ⟨r4, r5, r6, r7, r8, r9, ra⟩ := h c
        exact ⟨r4.trans (Cert.Kernel4Ideal.Inproj.final4 m c), r5.trans (Cert.Kernel4Ideal.Inproj.final5 m c), r6.trans (Cert.Kernel4Ideal.Inproj.final6 m c), r7.trans (Cert.Kernel4Ideal.Inproj.final7 m c), r8.trans (Cert.Kernel4Ideal.Inproj.final8 m c), r9.trans (Cert.Kernel4Ideal.Inproj.final9 m c), ra⟩)
      (Cert.Kernel4Ideal.Value.run_blocks (F := Ideal) m g),
    (θ_run _ _ _).mono (fun r h c => by
        obtain ⟨r4, r5, r6, r7, r8, r9, ra⟩ := h c
        obtain ⟨h0, h1, h2, h3⟩ := hm c
        refine ⟨r4.trans ?_, r5.trans ?_, r6.trans ?_, r7.trans ?_, r8.trans ?_, r9.trans ?_, ra⟩
        · rw [Cert.Reference4Ideal.Read.val_main_v40_eq, Cert.Reference4Ideal.Inproj.val40_eq, h0, h1, h2]; rfl
        · rw [Cert.Reference4Ideal.Read.val_main_v41_eq, Cert.Reference4Ideal.Inproj.val41_eq, h0, h1, h2, h3]; rfl
        · rw [Cert.Reference4Ideal.Read.val_main_v42_eq, Cert.Reference4Ideal.Inproj.val42_eq, h0, h1, h2, h3]; rfl
        · rw [Cert.Reference4Ideal.Read.val_main_v43_eq, Cert.Reference4Ideal.Inproj.val43_eq, h0, h1, h2, h3]; rfl
        · rw [Cert.Reference4Ideal.Read.val_main_v44_eq, Cert.Reference4Ideal.Inproj.val44_eq, h0, h1, h2, h3]; rfl
        · rw [Cert.Reference4Ideal.Read.val_main_v45_eq, Cert.Reference4Ideal.Inproj.val45_eq, h0, h1, h2, h3]; rfl)
      (Cert.Reference4Ideal.Value.run (F := Ideal) m' g')⟩

theorem frame_r4 : Cert.quiescent_Reference4Ideal (hReference4Ideal := Cert.Reference4Ideal.Gen.facts) := fun m g _ =>
  (θ_run _ _ _).mono (fun r h => ⟨fun c => (h c).2.2.2.2.2.2, sem_eq_zero_of_no_sems (by decide) r.2⟩)
    (Cert.Reference4Ideal.Value.run (F := Ideal) m g)

/-- The Fourier mixing: over real entries both results are the whole transform. -/
theorem algebraic5 : Cert.algebraic_Kernel5Ideal_Reference5Ideal_pre_latent_finite (hKernel5Ideal := Cert.Kernel5Ideal.Gen.facts)
    (hReference5Ideal := Cert.Reference5Ideal.Gen.facts) (hPre_latent_finite := Cert.Pre_latent_finite.Gen.facts) := fun m g m' g' hp hm =>
  ⟨fun c => Cert.Kernel5Ideal.FnetVal.GB m c,
    (θ_run _ _ _).mono (fun r h => h.1) (Cert.Kernel5Ideal.FnetVal.run m g),
    (θ_run _ _ _).mono (fun r h c => ⟨(h c).1.trans (by
        rw [Cert.Reference5Ideal.Read.val_main_v33_eq, hm c]
        exact Cert.Kernel5Ideal.FnetVal.result_eq m c (hp c)), (h c).2⟩)
      (Cert.Reference5Ideal.Value.run (F := Ideal) m' g')⟩

theorem frame_r5 : Cert.quiescent_Reference5Ideal (hReference5Ideal := Cert.Reference5Ideal.Gen.facts) := fun m g _ =>
  (θ_run _ _ _).mono (fun r h => ⟨fun c => (h c).2, sem_eq_zero_of_no_sems (by decide) r.2⟩)
    (Cert.Reference5Ideal.Value.run (F := Ideal) m g)

/-- The unitary factor of the Fourier mixing: the named constant stands for the real that its float word is the rounding of. -/
theorem named : IdealRules.named_const.Statement Cert.Kernel5Ideal.κ "inv_sqrt_n" .f32 0x3AB504F3#32 (((Real.sqrt 524288)⁻¹ : ℝ) : EReal) :=
  IdealRules.named_const.statement Cert.Kernel5Ideal.κ "inv_sqrt_n" .f32 0x3AB504F3#32 (((Real.sqrt 524288)⁻¹ : ℝ) : EReal) rfl

/-- The modulation vectors of both layers. -/
theorem algebraic6 : Cert.algebraic_Kernel6Ideal_Reference6Ideal (hKernel6Ideal := Cert.Kernel6Ideal.Gen.facts)
    (hReference6Ideal := Cert.Reference6Ideal.Gen.facts) := fun m g m' g' _ hm =>
  ⟨fun c => Cert.Kernel6Ideal.Mod.Gm m c,
    (θ_run _ _ _).mono (fun r h c => ⟨(h c).1.trans (Cert.Kernel6Ideal.Mod.final m c), (h c).2⟩)
      (Cert.Kernel6Ideal.Value.run_blocks (F := Ideal) m g),
    (θ_run _ _ _).mono (fun r h c => ⟨(h c).1.trans (by
        obtain ⟨h0, h1, h2, h3⟩ := hm c
        rw [Cert.Reference6Ideal.Read.val_main_v14_eq, Cert.Reference6Ideal.Mod.val_eq, h0, h1, h2, h3]
        rfl), (h c).2⟩)
      (Cert.Reference6Ideal.Value.run (F := Ideal) m' g')⟩

theorem frame_r6 : Cert.quiescent_Reference6Ideal (hReference6Ideal := Cert.Reference6Ideal.Gen.facts) := fun m g _ =>
  (θ_run _ _ _).mono (fun r h => ⟨fun c => (h c).2, sem_eq_zero_of_no_sems (by decide) r.2⟩)
    (Cert.Reference6Ideal.Value.run (F := Ideal) m g)

/-- The context attention: over finite queries and keys both results are the same heads. -/
theorem algebraic7 : Cert.algebraic_Kernel7Ideal_Reference7Ideal_pre_queries_keys_finite (hKernel7Ideal := Cert.Kernel7Ideal.Gen.facts)
    (hReference7Ideal := Cert.Reference7Ideal.Gen.facts) (hPre_queries_keys_finite := Cert.Pre_queries_keys_finite.Gen.facts) :=
  fun m g m' g' hp hm =>
  ⟨fun c => Cert.Kernel7Ideal.Ctx.Gm m c,
    (θ_run _ _ _).mono (fun r h c => ⟨(h c).1.trans (Cert.Kernel7Ideal.Ctx.final m c), (h c).2⟩)
      (Cert.Kernel7Ideal.Value.run_blocks (F := Ideal) m g),
    (θ_run _ _ _).mono (fun r h c => ⟨(h c).1.trans (by
        obtain ⟨h0, h1, h2⟩ := hm c
        rw [Cert.Reference7Ideal.Read.val_main_v19_eq, h0, h1, h2]
        exact Cert.Reference7Ideal.Ctx.val_eq _ _ _ (hp c)), (h c).2⟩)
      (Cert.Reference7Ideal.Value.run (F := Ideal) m' g')⟩

theorem frame_r7 : Cert.quiescent_Reference7Ideal (hReference7Ideal := Cert.Reference7Ideal.Gen.facts) := fun m g _ =>
  (θ_run _ _ _).mono (fun r h => ⟨fun c => (h c).2, sem_eq_zero_of_no_sems (by decide) r.2⟩)
    (Cert.Reference7Ideal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_latent_finite.Gen.facts, Cert.Pre_queries_keys_finite.Gen.facts,
  fun m g _ => Cert.Kernel.Gen.frame m g, fun m g _ => Cert.KernelIdeal.Gen.frame m g, frame_r,
  fun m g _ => Cert.Kernel2.Gen.frame m g, fun m g _ => Cert.Kernel2Ideal.Gen.frame m g, frame_r2,
  fun m g _ => Cert.Kernel3.Gen.frame m g, fun m g _ => Cert.Kernel3Ideal.Gen.frame m g, frame_r3,
  fun m g _ => Cert.Kernel4.Gen.frame m g, fun m g _ => Cert.Kernel4Ideal.Gen.frame m g, frame_r4,
  fun m g _ => Cert.Kernel5.Gen.frame m g, fun m g _ => Cert.Kernel5Ideal.Gen.frame m g, fun m g _ => Cert.Kernel5Ideal.Gen.frame m g,
  frame_r5, fun m g _ => frame_r5 m g trivial,
  fun m g _ => Cert.Kernel6.Gen.frame m g, fun m g _ => Cert.Kernel6Ideal.Gen.frame m g, frame_r6,
  fun m g _ => Cert.Kernel7.Gen.frame m g, fun m g _ => Cert.Kernel7Ideal.Gen.frame m g, fun m g _ => Cert.Kernel7Ideal.Gen.frame m g,
  frame_r7, fun m g _ => frame_r7 m g trivial,
  trivial, algebraic, trivial, algebraic2, trivial, algebraic3, trivial, algebraic4, named, algebraic5,
  trivial, algebraic6, trivial, algebraic7⟩

end Cert.Proof

end
